-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)) (v3 : (c : Dev Cert.KernelIdeal.nD) → Buf (Elt Ideal) ((c.tc : Thread Cert.KernelIdeal.nD Cert.KernelIdeal.τ).loc Cert.KernelIdeal.main_v81_3)) (v4 : (c : Dev Cert.KernelIdeal.nD) → Buf (Elt Ideal) ((c.tc : Thread Cert.KernelIdeal.nD Cert.KernelIdeal.τ).loc Cert.KernelIdeal.main_v81_4)) (v5 : (c : Dev Cert.KernelIdeal.nD) → Buf (Elt Ideal) ((c.tc : Thread Cert.KernelIdeal.nD Cert.KernelIdeal.τ).loc Cert.KernelIdeal.main_v81_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_v81_3) = v3 c
          ∧ r.2.mem ((c.tc : Thread Cert.KernelIdeal.nD Cert.KernelIdeal.τ).loc Cert.KernelIdeal.main_v81_4) = v4 c
          ∧ r.2.mem ((c.tc : Thread Cert.KernelIdeal.nD Cert.KernelIdeal.τ).loc Cert.KernelIdeal.main_v81_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v127)) (v1 : (c : Dev Cert.Kernel2Ideal.nD) → Buf (Elt Ideal) ((c.tc : Thread Cert.Kernel2Ideal.nD Cert.Kernel2Ideal.τ).loc Cert.Kernel2Ideal.main_v131)) (v2 : (c : Dev Cert.Kernel2Ideal.nD) → Buf (Elt Ideal) ((c.tc : Thread Cert.Kernel2Ideal.nD Cert.Kernel2Ideal.τ).loc Cert.Kernel2Ideal.main_v135)) (v3 : (c : Dev Cert.Kernel2Ideal.nD) → Buf (Elt Ideal) ((c.tc : Thread Cert.Kernel2Ideal.nD Cert.Kernel2Ideal.τ).loc Cert.Kernel2Ideal.main_v146)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v127) = v0 c
          ∧ r.2.mem ((c.tc : Thread Cert.Kernel2Ideal.nD Cert.Kernel2Ideal.τ).loc Cert.Kernel2Ideal.main_v131) = v1 c
          ∧ r.2.mem ((c.tc : Thread Cert.Kernel2Ideal.nD Cert.Kernel2Ideal.τ).loc Cert.Kernel2Ideal.main_v135) = v2 c
          ∧ r.2.mem ((c.tc : Thread Cert.Kernel2Ideal.nD Cert.Kernel2Ideal.τ).loc Cert.Kernel2Ideal.main_v146) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S1024x4112 : Shape := ⟨2, ![1024, 4112]⟩
abbrev S16384x4112 : Shape := ⟨2, ![16384, 4112]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4112 : S_.BroadcastsInDim S1024x4112 (![] : Fin 0 → Fin S1024x4112.rank)
  reducesTo_S1024x4112_S_d0_1 : S1024x4112.ReducesTo [0, 1] S_
  bcast_S_S16384x4112 : S_.BroadcastsInDim S16384x4112 (![] : Fin 0 → Fin S16384x4112.rank)
  reducesTo_S16384x4112_S_d0_1 : S16384x4112.ReducesTo [0, 1] S_

variable [Facts]

def fn_part2 {F : FTy → Type} [FloatOps F] (main_arg8 : FVec F S16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x1024 .f32 := Host.absf main_arg8
  let main_cst_14 : FVec F S_ .f32 := constant S_ .f32 0x7F800000#32
  let main_v33 : FVec F S16384x1024 .f32 := broadcastInDim S16384x1024 ![] bcast_S_S16384x1024 main_cst_14
  let main_v34 : IVec S16384x1024 1 := cmpf .olt main_v32 main_v33
  let main_c_15 : IVec S_ 1 := constantI S_ 1 1#1
  let main_v35 : IVec S_ 1 := (fun x v => Host.reduce IntOp.andi x v reducesTo_S16384x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1024x1024 .f32) (main_arg5 : FVec F S1x1024 .f32) (main_arg6 : FVec F S1024x4112 .f32) (main_arg7 : FVec F S16384x4112 .f32) (main_arg8 : FVec F S16384x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x4112 .f32 := Host.absf main_arg6
  let main_cst_10 : FVec F S_ .f32 := constant S_ .f32 0x7F800000#32
  let main_v25 : FVec F S1024x4112 .f32 := broadcastInDim S1024x4112 ![] bcast_S_S1024x4112 main_cst_10
  let main_v26 : IVec S1024x4112 1 := cmpf .olt main_v24 main_v25
  let main_c_11 : IVec S_ 1 := constantI S_ 1 1#1
  let main_v27 : IVec S_ 1 := (fun x v => Host.reduce IntOp.andi x v reducesTo_S1024x4112_S_d0_1 h_S_) main_v26 main_c_11
  let main_v28 : FVec F S16384x4112 .f32 := Host.absf main_arg7
  let main_cst_12 : FVec F S_ .f32 := constant S_ .f32 0x7F800000#32
  let main_v29 : FVec F S16384x4112 .f32 := broadcastInDim S16384x4112 ![] bcast_S_S16384x4112 main_cst_12
  let main_v30 : IVec S16384x4112 1 := cmpf .olt main_v28 main_v29
  let main_c_13 : IVec S_ 1 := constantI S_ 1 1#1
  let main_v31 : IVec S_ 1 := (fun x v => Host.reduce IntOp.andi x v reducesTo_S16384x4112_S_d0_1 h_S_) main_v30 main_c_13
  fn_part2 (F := F) main_arg8 main_v3 main_v7 main_v11 main_v15 main_v19 main_v23 main_v27 main_v31

def fn {F : FTy → Type} [FloatOps F] (main_arg0 : FVec F S16384x1024 .f32) (main_arg1 : FVec F S1x1024 .f32) (main_arg2 : FVec F S1024x4096 .f32) (main_arg3 : FVec F S3x1024 .f32) (main_arg4 : FVec F S1024x1024 .f32) (main_arg5 : FVec F S1x1024 .f32) (main_arg6 : FVec F S1024x4112 .f32) (main_arg7 : FVec F S16384x4112 .f32) (main_arg8 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S3x1024 .f32 := Host.absf main_arg3
  let main_cst_4 : FVec F S_ .f32 := constant S_ .f32 0x7F800000#32
  let main_v13 : FVec F S3x1024 .f32 := broadcastInDim S3x1024 ![] bcast_S_S3x1024 main_cst_4
  let main_v14 : IVec S3x1024 1 := cmpf .olt main_v12 main_v13
  let main_c_5 : IVec S_ 1 := constantI S_ 1 1#1
  let main_v15 : IVec S_ 1 := (fun x v => Host.reduce IntOp.andi x v reducesTo_S3x1024_S_d0_1 h_S_) main_v14 main_c_5
  fn_part1 (F := F) main_arg4 main_arg5 main_arg6 main_arg7 main_arg8 main_v3 main_v7 main_v11 main_v15
-- ==== Pre_finite2.lean ====
abbrev S16x16384x64 : Shape := ⟨3, ![16, 16384, 64]⟩
abbrev S16x16384 : Shape := ⟨2, ![16, 16384]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x16384 : S_.BroadcastsInDim S16x16384 (![] : Fin 0 → Fin S16x16384.rank)
  reducesTo_S16x16384_S_d0_1 : S16x16384.ReducesTo [0, 1] S_

variable [Facts]

def fn_part1 {F : FTy → Type} [FloatOps F] (main_arg4 : FVec F S16x16384x64 .f32) (main_v3 : IVec S_ 1) (main_v7 : IVec S_ 1) (main_v11 : IVec S_ 1) (main_v15 : IVec S_ 1) : IVec S_ 1 :=
  let main_v16 : FVec F S16x16384x64 .f32 := Host.absf main_arg4
  let main_cst_6 : FVec F S_ .f32 := constant S_ .f32 0x7F800000#32
  let main_v17 : FVec F S16x16384x64 .f32 := broadcastInDim S16x16384x64 ![] bcast_S_S16x16384x64 main_cst_6
  let main_v18 : IVec S16x16384x64 1 := cmpf .olt main_v16 main_v17
  let main_c_7 : IVec S_ 1 := constantI S_ 1 1#1
  let main_v19 : IVec S_ 1 := (fun x v => Host.reduce IntOp.andi x v reducesTo_S16x16384x64_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16x16384x64 .f32) (main_arg1 : FVec F S16x16384x64 .f32) (main_arg2 : FVec F S16x16384x64 .f32) (main_arg3 : FVec F S16x16384 .f32) (main_arg4 : FVec F S16x16384x64 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S16x16384x64 .f32 := Host.absf main_arg1
  let main_cst_0 : FVec F S_ .f32 := constant S_ .f32 0x7F800000#32
  let main_v5 : FVec F S16x16384x64 .f32 := broadcastInDim S16x16384x64 ![] bcast_S_S16x16384x64 main_cst_0
  let main_v6 : IVec S16x16384x64 1 := cmpf .olt main_v4 main_v5
  let main_c_1 : IVec S_ 1 := constantI S_ 1 1#1
  let main_v7 : IVec S_ 1 := (fun x v => Host.reduce IntOp.andi x v reducesTo_S16x16384x64_S_d0_1_2 h_S_) main_v6 main_c_1
  let main_v8 : FVec F S16x16384x64 .f32 := Host.absf main_arg2
  let main_cst_2 : FVec F S_ .f32 := constant S_ .f32 0x7F800000#32
  let main_v9 : FVec F S16x16384x64 .f32 := broadcastInDim S16x16384x64 ![] bcast_S_S16x16384x64 main_cst_2
  let main_v10 : IVec S16x16384x64 1 := cmpf .olt main_v8 main_v9
  let main_c_3 : IVec S_ 1 := constantI S_ 1 1#1
  let main_v11 : IVec S_ 1 := (fun x v => Host.reduce IntOp.andi x v reducesTo_S16x16384x64_S_d0_1_2 h_S_) main_v10 main_c_3
  let main_v12 : FVec F S16x16384 .f32 := Host.absf main_arg3
  let main_cst_4 : FVec F S_ .f32 := constant S_ .f32 0x7F800000#32
  let main_v13 : FVec F S16x16384 .f32 := broadcastInDim S16x16384 ![] bcast_S_S16x16384 main_cst_4
  let main_v14 : IVec S16x16384 1 := cmpf .olt main_v12 main_v13
  let main_c_5 : IVec S_ 1 := constantI S_ 1 1#1
  let main_v15 : IVec S_ 1 := (fun x v => Host.reduce IntOp.andi x v reducesTo_S16x16384_S_d0_1 h_S_) main_v14 main_c_5
  fn_part1 (F := F) main_arg4 main_v3 main_v7 main_v11 main_v15
-- ==== Pre_finite3.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S1x1024 .f32) (main_arg2 : FVec F S1024x4096 .f32) (main_arg3 : FVec F S3x1024 .f32) (main_arg4 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S3x1024 .f32 := Host.absf main_arg3
  let main_cst_4 : FVec F S_ .f32 := constant S_ .f32 0x7F800000#32
  let main_v13 : FVec F S3x1024 .f32 := broadcastInDim S3x1024 ![] bcast_S_S3x1024 main_cst_4
  let main_v14 : IVec S3x1024 1 := cmpf .olt main_v12 main_v13
  let main_c_5 : IVec S_ 1 := constantI S_ 1 1#1
  let main_v15 : IVec S_ 1 := (fun x v => Host.reduce IntOp.andi x v reducesTo_S3x1024_S_d0_1 h_S_) main_v14 main_c_5
  fn_part1 (F := F) main_arg4 main_v3 main_v7 main_v11 main_v15
-- ==== Kernel.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S1024x4112 : Shape := ⟨2, ![1024, 4112]⟩
abbrev S16384x4112 : Shape := ⟨2, ![16384, 4112]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S2x1024 : Shape := ⟨2, ![2, 1024]⟩
abbrev S16386x1024 : Shape := ⟨2, ![16386, 1024]⟩
abbrev S1024 : Shape := ⟨1, ![1024]⟩
abbrev S1024x16 : Shape := ⟨2, ![1024, 16]⟩
abbrev S1024x128 : Shape := ⟨2, ![1024, 128]⟩
abbrev S16384x4224 : Shape := ⟨2, ![16384, 4224]⟩
abbrev S1024x4x1024 : Shape := ⟨3, ![1024, 4, 1024]⟩
abbrev S4x1024x1024 : Shape := ⟨3, ![4, 1024, 1024]⟩
abbrev S256x4224 : Shape := ⟨2, ![256, 4224]⟩
abbrev S256x1024 : Shape := ⟨2, ![256, 1024]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 113
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S3x1024, .f32⟩
  | .hbm, ⟨4, _⟩ => ⟨S1024x1024, .f32⟩
  | .hbm, ⟨5, _⟩ => ⟨S1x1024, .f32⟩
  | .hbm, ⟨6, _⟩ => ⟨S1024x4112, .f32⟩
  | .hbm, ⟨7, _⟩ => ⟨S16384x4112, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S2x1024, .f32⟩
  | .hbm, ⟨30, _⟩ => ⟨S16386x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S2x1024, .f32⟩
  | .hbm, ⟨58, _⟩ => ⟨S16386x1024, .f32⟩
  | .hbm, ⟨59, _⟩ => ⟨S1x1024, .f32⟩
  | .hbm, ⟨60, _⟩ => ⟨S1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S1024x4096, .f32⟩
  | .hbm, ⟨93, _⟩ => ⟨S1024x4096, .bf16⟩
  | .hbm, ⟨94, _⟩ => ⟨S1024x16, .f32⟩
  | .hbm, ⟨95, _⟩ => ⟨S_, .i32⟩
  | .hbm, ⟨96, _⟩ => ⟨S_, .f32⟩
  | .hbm, ⟨97, _⟩ => ⟨S1024x128, .f32⟩
  | .hbm, ⟨98, _⟩ => ⟨S1024x128, .bf16⟩
  | .hbm, ⟨99, _⟩ => ⟨S_, .i32⟩
  | .hbm, ⟨100, _⟩ => ⟨S_, .f32⟩
  | .hbm, ⟨101, _⟩ => ⟨S16384x4224, .f32⟩
  | .hbm, ⟨102, _⟩ => ⟨S16384x4224, .bf16⟩
  | .hbm, ⟨103, _⟩ => ⟨S1024x4x1024, .f32⟩
  | .hbm, ⟨104, _⟩ => ⟨S4x1024x1024, .f32⟩
  | .hbm, ⟨105, _⟩ => ⟨S4x1024x1024, .bf16⟩
  | .hbm, ⟨106, _⟩ => ⟨S1024x1024, .bf16⟩
  | .hbm, ⟨107, _⟩ => ⟨S16384x4096, .bf16⟩
  | .hbm, ⟨108, _⟩ => ⟨S16384x1024, .f32⟩
  | .hbm, ⟨109, _⟩ => ⟨S16384x1024, .bf16⟩
  | .hbm, ⟨110, _⟩ => ⟨S1x1024, .f32⟩
  | .hbm, ⟨111, _⟩ => ⟨S3x1024, .f32⟩
  | .hbm, ⟨112, _⟩ => ⟨S1x1024, .f32⟩
  | .local _ .vmem, ⟨0, _⟩ => ⟨S256x4224, .bf16⟩
  | .local _ .vmem, ⟨1, _⟩ => ⟨S256x4224, .bf16⟩
  | .local _ .vmem, ⟨2, _⟩ => ⟨S1024x4096, .bf16⟩
  | .local _ .vmem, ⟨3, _⟩ => ⟨S1024x128, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S4x1024x1024, .bf16⟩
  | .local _ .vmem, ⟨13, _⟩ => ⟨S1024x1024, .bf16⟩
  | .local _ .vmem, ⟨14, _⟩ => ⟨S3x1024, .f32⟩
  | .local _ .vmem, ⟨15, _⟩ => ⟨S256x4096, .f32⟩
  | .local _ .vmem, ⟨16, _⟩ => ⟨S256x4096, .f32⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S3x1024, .f32⟩
  | .local _ .vmem, ⟨27, _⟩ => ⟨S1x1024, .f32⟩
  | .local _ .vmem, ⟨28, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_c_4 : Ref sig .tc := ⟨.hbm, 99, rfl⟩
abbrev main_call2_v0 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81_0 : Ref sig .tc := ⟨.hbm, 107, rfl⟩
abbrev main_v81_1 : Ref sig .tc := ⟨.hbm, 108, rfl⟩
abbrev main_v81_2 : Ref sig .tc := ⟨.hbm, 109, rfl⟩
abbrev main_v81_3 : Ref sig .tc := ⟨.hbm, 110, rfl⟩
abbrev main_v81_4 : Ref sig .tc := ⟨.hbm, 111, rfl⟩
abbrev main_v81_5 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S1024x4112 : Shape := ⟨2, ![1024, 4112]⟩
abbrev S16384x4112 : Shape := ⟨2, ![16384, 4112]⟩
abbrev S_ : Shape := ⟨0, ![]⟩
abbrev S16384x4096 : Shape := ⟨2, ![16384, 4096]⟩
abbrev S16384 : Shape := ⟨1, ![16384]⟩
abbrev S16384x1 : Shape := ⟨2, ![16384, 1]⟩
abbrev S2x1024 : Shape := ⟨2, ![2, 1024]⟩
abbrev S16386x1024 : Shape := ⟨2, ![16386, 1024]⟩
abbrev S1024 : Shape := ⟨1, ![1024]⟩

abbrev nBuf : Space → Nat
  | .hbm => 213
  | .vmem => 0
  | .smem => 0
  | _ => 0

abbrev hbmTy0_0 (i : Nat) : BufTy := match i % 128 with
  | 0 => ⟨S16384x1024, .f32⟩
  | 1 => ⟨S1x1024, .f32⟩
  | 2 => ⟨S1024x4096, .f32⟩
  | 3 => ⟨S3x1024, .f32⟩
  | 4 => ⟨S1024x1024, .f32⟩
  | 5 => ⟨S1x1024, .f32⟩
  | 6 => ⟨S1024x4112, .f32⟩
  | 7 => ⟨S16384x4112, .f32⟩
  | 8 => ⟨S16384x1024, .f32⟩
  | 9 => ⟨S_, .f32⟩
  | 10 => ⟨S16384x4096, .f32⟩
  | 11 => ⟨S_, .f32⟩
  | 12 => ⟨S16384x1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S16384x1024, .f32⟩
  | 31 => ⟨S16384x1024, .f32⟩
  | 32 => ⟨S16384x4096, .f32⟩
  | 33 => ⟨S16384x4096, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S2x1024, .f32⟩
  | 41 => ⟨S16386x1024, .f32⟩
  | 42 => ⟨S_, .f32⟩
  | 43 => ⟨S2x1024, .f32⟩
  | 44 => ⟨S1x1024, .f32⟩
  | 45 => ⟨S1024, .f32⟩
  | 46 => ⟨S16384x1024, .f32⟩
  | 47 => ⟨S1x1024, .f32⟩
  | 48 => ⟨S16384x1024, .f32⟩
  | 49 => ⟨S16384x1024, .f32⟩
  | 50 => ⟨S1x1024, .f32⟩
  | 51 => ⟨S1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S1x1024, .f32⟩
  | 58 => ⟨S1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S16384x1024, .f32⟩
  | 98 => ⟨S16384x1024, .f32⟩
  | 99 => ⟨S16384x1024, .f32⟩
  | 100 => ⟨S16384x1024, .f32⟩
  | 101 => ⟨S16384x4112, .f32⟩
  | 102 => ⟨S16384x1024, .f32⟩
  | 103 => ⟨S16384x1024, .f32⟩
  | 104 => ⟨S_, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S_, .f32⟩
  | 111 => ⟨S16384, .f32⟩
  | 112 => ⟨S16384x1, .f32⟩
  | 113 => ⟨S16384x1024, .f32⟩
  | 114 => ⟨S16384x1024, .f32⟩
  | 115 => ⟨S16384x1024, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S_, .f32⟩
  | 19 => ⟨S16386x1024, .f32⟩
  | 20 => ⟨S1x1024, .f32⟩
  | 21 => ⟨S_, .f32⟩
  | 22 => ⟨S3x1024, .f32⟩
  | 23 => ⟨S16384x1024, .f32⟩
  | 24 => ⟨S16384x1024, .f32⟩
  | 25 => ⟨S16384x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S_, .f32⟩
  | 32 => ⟨S16386x1024, .f32⟩
  | 33 => ⟨S16386x1024, .f32⟩
  | 34 => ⟨S1x1024, .f32⟩
  | 35 => ⟨S_, .f32⟩
  | 36 => ⟨S3x1024, .f32⟩
  | 37 => ⟨S3x1024, .f32⟩
  | 38 => ⟨S16384x1024, .f32⟩
  | 39 => ⟨S16384x1024, .f32⟩
  | 40 => ⟨S16384x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S_, .f32⟩
  | 47 => ⟨S16386x1024, .f32⟩
  | 48 => ⟨S16386x1024, .f32⟩
  | 49 => ⟨S1x1024, .f32⟩
  | 50 => ⟨S_, .f32⟩
  | 51 => ⟨S3x1024, .f32⟩
  | 52 => ⟨S3x1024, .f32⟩
  | 53 => ⟨S2x1024, .f32⟩
  | 54 => ⟨S16384x1024, .f32⟩
  | 55 => ⟨S16384x1024, .f32⟩
  | 56 => ⟨S16384x1024, .f32⟩
  | 57 => ⟨S16384x4096, .f32⟩
  | 58 => ⟨S16384x1024, .f32⟩
  | 59 => ⟨S16384x1024, .f32⟩
  | 60 => ⟨S_, .f32⟩
  | 61 => ⟨S1024, .f32⟩
  | 62 => ⟨S1x1024, .f32⟩
  | 63 => ⟨S16384x1024, .f32⟩
  | 64 => ⟨S16384x1024, .f32⟩
  | 65 => ⟨S16384x1024, .f32⟩
  | 66 => ⟨S_, .f32⟩
  | 67 => ⟨S16384, .f32⟩
  | 68 => ⟨S16384x1, .f32⟩
  | 69 => ⟨S16384x1024, .f32⟩
  | 70 => ⟨S16384x1024, .f32⟩
  | 71 => ⟨S16384x1024, .f32⟩
  | 72 => ⟨S16384x1, .f32⟩
  | 73 => ⟨S_, .f32⟩
  | 74 => ⟨S16384x1, .f32⟩
  | 75 => ⟨S16384x1, .f32⟩
  | 76 => ⟨S_, .f32⟩
  | 77 => ⟨S16384, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x4096, .bf16⟩
  | 84 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_v48_2 : Ref sig .tc := ⟨.hbm, 72, rfl⟩
abbrev main_call0_cst_1 : Ref sig .tc := ⟨.hbm, 73, rfl⟩
abbrev main_call0_v6 : Ref sig .tc := ⟨.hbm, 74, rfl⟩
abbrev main_call0_v7 : Ref sig .tc := ⟨.hbm, 75, rfl⟩
abbrev main_v48_1 : Ref sig .tc := ⟨.hbm, 76, rfl⟩
abbrev main_v48_0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_15 : Ref sig .tc := ⟨.hbm, 141, rfl⟩
abbrev main_v101 : Ref sig .tc := ⟨.hbm, 142, rfl⟩
abbrev main_v102 : Ref sig .tc := ⟨.hbm, 143, rfl⟩
abbrev main_cst_16 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_19 : Ref sig .tc := ⟨.hbm, 154, rfl⟩
abbrev main_v110 : Ref sig .tc := ⟨.hbm, 155, rfl⟩
abbrev main_v111 : Ref sig .tc := ⟨.hbm, 156, rfl⟩
abbrev main_cst_20 : Ref sig .tc := ⟨.hbm, 157, rfl⟩
abbrev main_v112 : Ref sig .tc := ⟨.hbm, 158, rfl⟩
abbrev main_cst_21 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_22 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_23 : Ref sig .tc := ⟨.hbm, 169, rfl⟩
abbrev main_v121 : Ref sig .tc := ⟨.hbm, 170, rfl⟩
abbrev main_v122 : Ref sig .tc := ⟨.hbm, 171, rfl⟩
abbrev main_cst_24 : Ref sig .tc := ⟨.hbm, 172, rfl⟩
abbrev main_v123 : Ref sig .tc := ⟨.hbm, 173, rfl⟩
abbrev main_cst_25 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_26 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_27 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_28 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_29 : Ref sig .tc := ⟨.hbm, 201, rfl⟩
abbrev main_v147 : Ref sig .tc := ⟨.hbm, 202, rfl⟩
abbrev main_v148 : Ref sig .tc := ⟨.hbm, 203, rfl⟩
abbrev main_cst_30 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩

abbrev nD : Nat := 1
abbrev τ : Topo := Topo.v7x

variable {F : FTy → Type} [FloatOps F]
-- ==== Kernel2.lean ====
abbrev S16x16384x64 : Shape := ⟨3, ![16, 16384, 64]⟩
abbrev S16x16384 : Shape := ⟨2, ![16, 16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x1x1 : Shape := ⟨3, ![16, 1, 1]⟩
abbrev S16x16384x58 : Shape := ⟨3, ![16, 16384, 58]⟩
abbrev S16x16384x128 : Shape := ⟨3, ![16, 16384, 128]⟩
abbrev S16384x16x128 : Shape := ⟨3, ![16384, 16, 128]⟩
abbrev S16384x2048 : Shape := ⟨2, ![16384, 2048]⟩
abbrev S16x16384x61 : Shape := ⟨3, ![16, 16384, 61]⟩
abbrev S16x32 : Shape := ⟨2, ![16, 32]⟩
abbrev S16384x128 : Shape := ⟨2, ![16384, 128]⟩
abbrev S1024x128 : Shape := ⟨2, ![1024, 128]⟩
abbrev S1x16384x128 : Shape := ⟨3, ![1, 16384, 128]⟩
abbrev S1x1024x128 : Shape := ⟨3, ![1, 1024, 128]⟩
abbrev S128x1024 : Shape := ⟨2, ![128, 1024]⟩
abbrev S512x128 : Shape := ⟨2, ![512, 128]⟩
abbrev S512x512 : Shape := ⟨2, ![512, 512]⟩
abbrev S128x512 : Shape := ⟨2, ![128, 512]⟩
abbrev S1x512x128 : Shape := ⟨3, ![1, 512, 128]⟩
abbrev S512x1024 : Shape := ⟨2, ![512, 1024]⟩
abbrev S1x1 : Shape := ⟨2, ![1, 1]⟩

abbrev nBuf : Space → Nat
  | .hbm => 171
  | .vmem => 16
  | .smem => 1
  | _ => 0

abbrev hbmTy0_0 (i : Nat) : BufTy := match i % 128 with
  | 0 => ⟨S16x16384x64, .f32⟩
  | 1 => ⟨S16x16384x64, .f32⟩
  | 2 => ⟨S16x16384x64, .f32⟩
  | 3 => ⟨S16x16384, .f32⟩
  | 4 => ⟨S16x16384x64, .f32⟩
  | 5 => ⟨S16x16384x16384, .f32⟩
  | 6 => ⟨S_, .f32⟩
  | 7 => ⟨S16x16384x16384, .f32⟩
  | 8 => ⟨S16x16384x16384, .f32⟩
  | 9 => ⟨S16x16384x1, .f32⟩
  | 10 => ⟨S16x16384x16384, .f32⟩
  | 11 => ⟨S16x16384x16384, .f32⟩
  | 12 => ⟨S16x1x16384, .f32⟩
  | 13 => ⟨S16x16384x16384, .f32⟩
  | 14 => ⟨S16x16384x16384, .f32⟩
  | 15 => ⟨S16384, .i32⟩
  | 16 => ⟨S1x16384, .i32⟩
  | 17 => ⟨S16384x1, .i32⟩
  | 18 => ⟨S16384x16384, .i32⟩
  | 19 => ⟨S16384x16384, .i32⟩
  | 20 => ⟨S16384x16384, .i1⟩
  | 21 => ⟨S_, .f32⟩
  | 22 => ⟨S_, .f32⟩
  | 23 => ⟨S16x16384x16384, .i1⟩
  | 24 => ⟨S16x16384x16384, .f32⟩
  | 25 => ⟨S16x16384x16384, .f32⟩
  | 26 => ⟨S_, .f32⟩
  | 27 => ⟨S16x16384, .f32⟩
  | 28 => ⟨S16x16384x1, .f32⟩
  | 29 => ⟨S16x16384x16384, .f32⟩
  | 30 => ⟨S16x16384x16384, .f32⟩
  | 31 => ⟨S16x16384x16384, .f32⟩
  | 32 => ⟨S_, .f32⟩
  | 33 => ⟨S16x16384, .f32⟩
  | 34 => ⟨S16x16384x1, .f32⟩
  | 35 => ⟨S16x16384x16384, .f32⟩
  | 36 => ⟨S16x16384x16384, .f32⟩
  | 37 => ⟨S16x16384x64, .f32⟩
  | 38 => ⟨S16x16384x1, .f32⟩
  | 39 => ⟨S16x16384x1, .f32⟩
  | 40 => ⟨S16x16384, .f32⟩
  | 41 => ⟨S16x16384x64, .f32⟩
  | 42 => ⟨S_, .f32⟩
  | 43 => ⟨S16x16384, .f32⟩
  | 44 => ⟨S16x1x1, .i32⟩
  | 45 => ⟨S_, .i32⟩
  | 46 => ⟨S16x1x1, .i32⟩
  | 47 => ⟨S16x1x1, .i32⟩
  | 48 => ⟨S_, .i32⟩
  | 49 => ⟨S16x1x1, .i32⟩
  | 50 => ⟨S16x1x1, .i1⟩
  | 51 => ⟨S_, .f32⟩
  | 52 => ⟨S16x16384, .f32⟩
  | 53 => ⟨S_, .f32⟩
  | 54 => ⟨S16x16384x64, .f32⟩
  | 55 => ⟨S16x16384x64, .f32⟩
  | 56 => ⟨S16x16384, .f32⟩
  | 57 => ⟨S16x16384, .bf16⟩
  | 58 => ⟨S16x16384, .f32⟩
  | 59 => ⟨S16x16384, .f32⟩
  | 60 => ⟨S16x16384, .bf16⟩
  | 61 => ⟨S16x16384, .f32⟩
  | 62 => ⟨S16x16384, .f32⟩
  | 63 => ⟨S16x16384, .bf16⟩
  | 64 => ⟨S16x16384, .f32⟩
  | 65 => ⟨S16x16384x1, .f32⟩
  | 66 => ⟨S16x16384x1, .f32⟩
  | 67 => ⟨S16x16384x1, .f32⟩
  | 68 => ⟨S16x16384x1, .f32⟩
  | 69 => ⟨S16x16384x1, .f32⟩
  | 70 => ⟨S16x16384x1, .f32⟩
  | 71 => ⟨S_, .f32⟩
  | 72 => ⟨S16x16384x58, .f32⟩
  | 73 => ⟨S16x16384x64, .f32⟩
  | 74 => ⟨S16x16384x128, .f32⟩
  | 75 => ⟨S16x16384x128, .f32⟩
  | 76 => ⟨S16x16384x128, .i1⟩
  | 77 => ⟨S16x16384x128, .f32⟩
  | 78 => ⟨S16384x16x128, .f32⟩
  | 79 => ⟨S16384x2048, .f32⟩
  | 80 => ⟨S16384x2048, .bf16⟩
  | 81 => ⟨S16x16384, .f32⟩
  | 82 => ⟨S16x16384, .bf16⟩
  | 83 => ⟨S16x16384, .f32⟩
  | 84 => ⟨S16x16384, .f32⟩
  | 85 => ⟨S16x16384, .bf16⟩
  | 86 => ⟨S16x16384, .f32⟩
  | 87 => ⟨S16x16384, .f32⟩
  | 88 => ⟨S16x16384, .bf16⟩
  | 89 => ⟨S16x16384, .f32⟩
  | 90 => ⟨S16x16384x1, .f32⟩
  | 91 => ⟨S16x16384x1, .f32⟩
  | 92 => ⟨S16x16384x1, .f32⟩
  | 93 => ⟨S16x16384x1, .f32⟩
  | 94 => ⟨S16x16384x1, .f32⟩
  | 95 => ⟨S16x16384x1, .f32⟩
  | 96 => ⟨S_, .f32⟩
  | 97 => ⟨S16x16384x58, .f32⟩
  | 98 => ⟨S16x16384x64, .f32⟩
  | 99 => ⟨S16x16384x128, .f32⟩
  | 100 => ⟨S16x16384x128, .f32⟩
  | 101 => ⟨S16x16384x128, .i1⟩
  | 102 => ⟨S16x16384x128, .f32⟩
  | 103 => ⟨S16384x16x128, .f32⟩
  | 104 => ⟨S16384x2048, .f32⟩
  | 105 => ⟨S16384x2048, .bf16⟩
  | 106 => ⟨S16x16384x1, .f32⟩
  | 107 => ⟨S16x16384x1, .f32⟩
  | 108 => ⟨S16x16384x1, .f32⟩
  | 109 => ⟨S_, .f32⟩
  | 110 => ⟨S16x16384x61, .f32⟩
  | 111 => ⟨S16x16384x64, .f32⟩
  | 112 => ⟨S16x16384x128, .f32⟩
  | 113 => ⟨S16x16384x128, .f32⟩
  | 114 => ⟨S16x16384x128, .i1⟩
  | 115 => ⟨S16x16384x128, .f32⟩
  | 116 => ⟨S16384x16x128, .f32⟩
  | 117 => ⟨S16384x2048, .f32⟩
  | 118 => ⟨S16384x2048, .bf16⟩
  | 119 => ⟨S16x16384, .f32⟩
  | 120 => ⟨S16x16384, .bf16⟩
  | 121 => ⟨S16x16384, .f32⟩
  | 122 => ⟨S16x16384, .f32⟩
  | 123 => ⟨S16x16384, .bf16⟩
  | 124 => ⟨S16x16384, .f32⟩
  | 125 => ⟨S16x16384, .f32⟩
  | 126 => ⟨S16x16384, .bf16⟩
  | 127 => ⟨S16x16384, .f32⟩
  | _ => ⟨S16x16384x64, .f32⟩

abbrev hbmTy0_1 (i : Nat) : BufTy := match i % 128 with
  | 0 => ⟨S16x16384x1, .f32⟩
  | 1 => ⟨S16x16384x1, .f32⟩
  | 2 => ⟨S16x16384x1, .f32⟩
  | 3 => ⟨S_, .f32⟩
  | 4 => ⟨S16x16384x61, .f32⟩
  | 5 => ⟨S16x16384x64, .f32⟩
  | 6 => ⟨S16x16384x128, .f32⟩
  | 7 => ⟨S16x16384x128, .f32⟩
  | 8 => ⟨S16x16384x128, .i1⟩
  | 9 => ⟨S16x16384x128, .f32⟩
  | 10 => ⟨S16384x16x128, .f32⟩
  | 11 => ⟨S16384x2048, .f32⟩
  | 12 => ⟨S16384x2048, .bf16⟩
  | 13 => ⟨S_, .i32⟩
  | 14 => ⟨S16x16384x128, .f32⟩
  | 15 => ⟨S16x16384x128, .f32⟩
  | 16 => ⟨S16x16384x128, .bf16⟩
  | 17 => ⟨S16x16384x64, .f32⟩
  | 18 => ⟨S16x16384x64, .f32⟩
  | 19 => ⟨S16x16384x64, .i1⟩
  | 20 => ⟨S16x16384x64, .f32⟩
  | 21 => ⟨S_, .f32⟩
  | 22 => ⟨S16x16384x64, .f32⟩
  | 23 => ⟨S16x16384x64, .f32⟩
  | 24 => ⟨S16x16384x64, .f32⟩
  | 25 => ⟨S16x16384x64, .f32⟩
  | 26 => ⟨S16x16384x64, .i1⟩
  | 27 => ⟨S16x16384x64, .f32⟩
  | 28 => ⟨S16x16384x64, .bf16⟩
  | 29 => ⟨S16x16384x64, .bf16⟩
  | 30 => ⟨S16x16384x64, .i1⟩
  | 31 => ⟨S16x16384x64, .bf16⟩
  | 32 => ⟨S16x16384x1, .f32⟩
  | 33 => ⟨S16x16384x1, .f32⟩
  | 34 => ⟨S16x16384x1, .i1⟩
  | 35 => ⟨S16x16384x1, .f32⟩
  | 36 => ⟨S16x16384, .f32⟩
  | 37 => ⟨S16x16384x1, .f32⟩
  | 38 => ⟨S16x16384x1, .f32⟩
  | 39 => ⟨S16x16384x1, .i1⟩
  | 40 => ⟨S16x16384x1, .f32⟩
  | 41 => ⟨S16x16384, .f32⟩
  | 42 => ⟨S16x16384, .f32⟩
  | _ => ⟨S16x16384x64, .f32⟩

abbrev hbmTy (i : Nat) : BufTy := match i / 128 with
  | 0 => hbmTy0_0 i
  | 1 => hbmTy0_1 i
  | _ => ⟨S16x16384x64, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x16384x128, .f32⟩
  | .local _ .vmem, ⟨9, _⟩ => ⟨S1x16384x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .bf16⟩
  | .local _ .vmem, ⟨13, _⟩ => ⟨S1x1024x128, .bf16⟩
  | .local _ .vmem, ⟨14, _⟩ => ⟨S128x1024, .f32⟩
  | .local _ .vmem, ⟨15, _⟩ => ⟨S128x1024, .f32⟩
  | .local _ .smem, ⟨0, _⟩ => ⟨S16x32, .i32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_9 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_10 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_c_11 : Ref sig .tc := ⟨.hbm, 141, rfl⟩
abbrev main_v121_0 : Ref sig .tc := ⟨.hbm, 142, rfl⟩
abbrev main_v121_1 : Ref sig .tc := ⟨.hbm, 143, rfl⟩
abbrev main_v121_2 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_12 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v120 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_v120.idx], fun | 0 => main_v120.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c4_i32 : BitVec 32 := 4#32
  let v15 : BitVec 32 := Scalar.muli arg1 c4_i32
  let c0_i32_9 : BitVec 32 := 0#32
  let v16 : BitVec 32 := Scalar.addi v15 c0_i32_9
  let c256_i32 : BitVec 32 := 256#32
  let v17 : BitVec 32 := Scalar.muli v16 c256_i32
  v17
def k0_off1 (i : grid0.Coords) (c0_i32_9 : BitVec 32) : Fin 2 → Nat :=
  let arg1 : BitVec 32 := BitVec.ofNat 32 (i 1).val
  let c4_i32 : BitVec 32 := 4#32
  let v15 : BitVec 32 := Scalar.muli arg1 c4_i32
  let v16 : BitVec 32 := Scalar.addi v15 c0_i32_9
  let c256_i32 : BitVec 32 := 256#32
  let v17 : BitVec 32 := Scalar.muli v16 c256_i32
  let v18 : BitVec 32 := v17
  let v19 : Index := Scalar.indexCast v18
  let c0_10 : Index := 0#32
  ![v19.toNat, 0]
def k0_off2 (i : grid0.Coords) (c0_i32_9 : BitVec 32) : Fin 3 → Nat :=
  let c0_26 : Index := 0#32
  let arg1 : BitVec 32 := BitVec.ofNat 32 (i 1).val
  let c4_i32 : BitVec 32 := 4#32
  let v15 : BitVec 32 := Scalar.muli arg1 c4_i32
  let v16 : BitVec 32 := Scalar.addi v15 c0_i32_9
  let c256_i32 : BitVec 32 := 256#32
  let v17 : BitVec 32 := Scalar.muli v16 c256_i32
  let v18 : BitVec 32 := v17
  let v58 : Index := Scalar.indexCast v18
  let c0_27 : Index := 0#32
  ![0, v58.toNat, 0]
def k0_mult2 (i : grid0.Coords) : BitVec 32 :=
  let arg1 : BitVec 32 := BitVec.ofNat 32 (i 1).val
  let c4_i32_31 : BitVec 32 := 4#32
  let v68 : BitVec 32 := Scalar.muli arg1 c4_i32_31
  let c2_i32 : BitVec 32 := 2#32
  let v69 : BitVec 32 := Scalar.addi v68 c2_i32
  let c256_i32_32 : BitVec 32 := 256#32
  let v70 : BitVec 32 := Scalar.muli v69 c256_i32_32
  v70
def k0_off3 (i : grid0.Coords) : Fin 2 → Nat :=
  let arg0 : BitVec 32 := BitVec.ofNat 32 (i 0).val
  let v121 : Index := Scalar.indexCast arg0
  let c2_i32_55 : BitVec 32 := 2#32
  let arg1 : BitVec 32 := BitVec.ofNat 32 (i 1).val
  let v120 : BitVec 32 := Scalar.muli c2_i32_55 arg1
  let v122 : Index := Scalar.indexCast v120
  ![v121.toNat, v122.toNat]
@[reducible] def k0_t1_loop (i : grid0.Coords) (v123 : BitVec 32) : Scf.Loop 32 :=
  let c0_i32_66 : BitVec 32 := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v146 : BitVec 32 := Scalar.subi v143 c0_i32_66
  let c1_i32_67 : BitVec 32 := 1#32
  let v148 : BitVec 32 := Scalar.divsi v146 c1_i32_67
  let v149 : BitVec 32 := Scalar.muli v148 c1_i32_67
  let v150 : BitVec 32 := Scalar.addi c0_i32_66 v149
  let c1_i32_68 : BitVec 32 := 1#32
  ⟨c0_i32_66, v150, c1_i32_68⟩

def k0_mult3 (i : grid0.Coords) (v123 : BitVec 32) (k0_t1 : Fin (k0_t1_loop i v123).trips) : BitVec 32 :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v191 : BitVec 32 := Scalar.muli c2_i32_95 arg12
  let v192 : BitVec 32 := Scalar.addi v119 v191
  let c256_i32_96 : BitVec 32 := 256#32
  let v193 : BitVec 32 := Scalar.muli v192 c256_i32_96
  v193
def k0_off4 (i : grid0.Coords) (v123 : BitVec 32) (k0_t1 : Fin (k0_t1_loop i v123).trips) : Fin 2 → Nat :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v191 : BitVec 32 := Scalar.muli c2_i32_95 arg12
  let v192 : BitVec 32 := Scalar.addi v119 v191
  let c256_i32_96 : BitVec 32 := 256#32
  let v193 : BitVec 32 := Scalar.muli v192 c256_i32_96
  let v194 : BitVec 32 := v193
  let v195 : Index := Scalar.indexCast v194
  let c0_97 : Index := 0#32
  ![v195.toNat, 0]
def k0_off5 (i : grid0.Coords) (v123 : BitVec 32) (k0_t1 : Fin (k0_t1_loop i v123).trips) : Fin 3 → Nat :=
  let c0_111 : Index := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v191 : BitVec 32 := Scalar.muli c2_i32_95 arg12
  let v192 : BitVec 32 := Scalar.addi v119 v191
  let c256_i32_96 : BitVec 32 := 256#32
  let v193 : BitVec 32 := Scalar.muli v192 c256_i32_96
  let v194 : BitVec 32 := v193
  let v225 : Index := Scalar.indexCast v194
  let c0_112 : Index := 0#32
  ![0, v225.toNat, 0]
@[reducible] def k0_t2_loop (i : grid0.Coords) (v123 : BitVec 32) : Scf.Loop 32 :=
  let c0_i32_66 : BitVec 32 := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v146 : BitVec 32 := Scalar.subi v143 c0_i32_66
  let c1_i32_67 : BitVec 32 := 1#32
  let v148 : BitVec 32 := Scalar.divsi v146 c1_i32_67
  let v149 : BitVec 32 := Scalar.muli v148 c1_i32_67
  let v150 : BitVec 32 := Scalar.addi c0_i32_66 v149
  let v147 : BitVec 32 := Scalar.addi c0_i32_66 v146
  let c1_i32_69 : BitVec 32 := 1#32
  ⟨v150, v147, c1_i32_69⟩
def k0_mult4 (i : grid0.Coords) (v123 : BitVec 32) (k0_t2 : Fin (k0_t2_loop i v123).trips) : BitVec 32 :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v146 : BitVec 32 := Scalar.subi v143 c0_i32_66
  let c1_i32_67 : BitVec 32 := 1#32
  let v148 : BitVec 32 := Scalar.divsi v146 c1_i32_67
  let v149 : BitVec 32 := Scalar.muli v148 c1_i32_67
  let v150 : BitVec 32 := Scalar.addi c0_i32_66 v149
  let c1_i32_69 : BitVec 32 := 1#32
  let arg12 : BitVec 32 := Scf.iv v150 c1_i32_69 k0_t2
  let v191 : BitVec 32 := Scalar.muli c2_i32_95 arg12
  let v192 : BitVec 32 := Scalar.addi v119 v191
  let c256_i32_96 : BitVec 32 := 256#32
  let v193 : BitVec 32 := Scalar.muli v192 c256_i32_96
  v193
def k0_off6 (i : grid0.Coords) (v123 : BitVec 32) (k0_t2 : Fin (k0_t2_loop i v123).trips) : Fin 2 → Nat :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v146 : BitVec 32 := Scalar.subi v143 c0_i32_66
  let c1_i32_67 : BitVec 32 := 1#32
  let v148 : BitVec 32 := Scalar.divsi v146 c1_i32_67
  let v149 : BitVec 32 := Scalar.muli v148 c1_i32_67
  let v150 : BitVec 32 := Scalar.addi c0_i32_66 v149
  let c1_i32_69 : BitVec 32 := 1#32
  let arg12 : BitVec 32 := Scf.iv v150 c1_i32_69 k0_t2
  let v191 : BitVec 32 := Scalar.muli c2_i32_95 arg12
  let v192 : BitVec 32 := Scalar.addi v119 v191
  let c256_i32_96 : BitVec 32 := 256#32
  let v193 : BitVec 32 := Scalar.muli v192 c256_i32_96
  let v194 : BitVec 32 := v193
  let v195 : Index := Scalar.indexCast v194
  let c0_97 : Index := 0#32
  ![v195.toNat, 0]
def k0_off7 (i : grid0.Coords) (v123 : BitVec 32) (k0_t2 : Fin (k0_t2_loop i v123).trips) : Fin 3 → Nat :=
  let c0_111 : Index := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_95 : BitVec 32 := 2#32
  let c0_i32_66 : BitVec 32 := 0#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v146 : BitVec 32 := Scalar.subi v143 c0_i32_66
  let c1_i32_67 : BitVec 32 := 1#32
  let v148 : BitVec 32 := Scalar.divsi v146 c1_i32_67
  let v149 : BitVec 32 := Scalar.muli v148 c1_i32_67
  let v150 : BitVec 32 := Scalar.addi c0_i32_66 v149
  let c1_i32_69 : BitVec 32 := 1#32
  let arg12 : BitVec 32 := Scf.iv v150 c1_i32_69 k0_t2
  let v191 : BitVec 32 := Scalar.muli c2_i32_95 arg12
  let v192 : BitVec 32 := Scalar.addi v119 v191
  let c256_i32_96 : BitVec 32 := 256#32
  let v193 : BitVec 32 := Scalar.muli v192 c256_i32_96
  let v194 : BitVec 32 := v193
  let v225 : Index := Scalar.indexCast v194
  let c0_112 : Index := 0#32
  ![0, v225.toNat, 0]

def k0_chk1 (i : grid0.Coords) (v123 : BitVec 32) : Prop :=
  ((k0_t1_loop i v123).OK) ∧
  (∀ k0_t1 : Fin (k0_t1_loop i v123).trips, 256 ∣ (k0_mult3 i v123 k0_t1).toNat) ∧
  (∀ k0_t1 : Fin (k0_t1_loop i v123).trips, ∀ a, (k0_off4 i v123 k0_t1) a + S512x128.size a ≤ S16384x128.size a) ∧
  (∀ k0_t1 : Fin (k0_t1_loop i v123).trips, ∀ a, (k0_off5 i v123 k0_t1) a + S1x512x128.size a ≤ S1x16384x128.size a) ∧
  ((k0_t2_loop i v123).OK) ∧
  (∀ k0_t2 : Fin (k0_t2_loop i v123).trips, 256 ∣ (k0_mult4 i v123 k0_t2).toNat) ∧
  (∀ k0_t2 : Fin (k0_t2_loop i v123).trips, ∀ a, (k0_off6 i v123 k0_t2) a + S512x128.size a ≤ S16384x128.size a) ∧
  (∀ k0_t2 : Fin (k0_t2_loop i v123).trips, ∀ a, (k0_off7 i v123 k0_t2) a + S1x512x128.size a ≤ S1x16384x128.size a)
theorem k0_t1_ok : ∀ (i : grid0.Coords) (v123 : BitVec 32) (k0_hw1 : k0_chk1 i v123), (k0_t1_loop i v123).OK := fun i v123 k0_hw1 => k0_hw1.1
theorem k0_mult3_dvd : ∀ (i : grid0.Coords) (v123 : BitVec 32) (k0_hw1 : k0_chk1 i v123) (k0_t1 : Fin (k0_t1_loop i v123).trips), 256 ∣ (k0_mult3 i v123 k0_t1).toNat := fun i v123 k0_hw1 k0_t1 => k0_hw1.2.1 k0_t1
theorem k0_off4_inb : ∀ (i : grid0.Coords) (v123 : BitVec 32) (k0_hw1 : k0_chk1 i v123) (k0_t1 : Fin (k0_t1_loop i v123).trips), ∀ a, (k0_off4 i v123 k0_t1) a + S512x128.size a ≤ S16384x128.size a := fun i v123 k0_hw1 k0_t1 => k0_hw1.2.2.1 k0_t1
theorem k0_off5_inb : ∀ (i : grid0.Coords) (v123 : BitVec 32) (k0_hw1 : k0_chk1 i v123) (k0_t1 : Fin (k0_t1_loop i v123).trips), ∀ a, (k0_off5 i v123 k0_t1) a + S1x512x128.size a ≤ S1x16384x128.size a := fun i v123 k0_hw1 k0_t1 => k0_hw1.2.2.2.1 k0_t1
theorem k0_t2_ok : ∀ (i : grid0.Coords) (v123 : BitVec 32) (k0_hw1 : k0_chk1 i v123), (k0_t2_loop i v123).OK := fun i v123 k0_hw1 => k0_hw1.2.2.2.2.1
theorem k0_mult4_dvd : ∀ (i : grid0.Coords) (v123 : BitVec 32) (k0_hw1 : k0_chk1 i v123) (k0_t2 : Fin (k0_t2_loop i v123).trips), 256 ∣ (k0_mult4 i v123 k0_t2).toNat := fun i v123 k0_hw1 k0_t2 => k0_hw1.2.2.2.2.2.1 k0_t2
theorem k0_off6_inb : ∀ (i : grid0.Coords) (v123 : BitVec 32) (k0_hw1 : k0_chk1 i v123) (k0_t2 : Fin (k0_t2_loop i v123).trips), ∀ a, (k0_off6 i v123 k0_t2) a + S512x128.size a ≤ S16384x128.size a := fun i v123 k0_hw1 k0_t2 => k0_hw1.2.2.2.2.2.2.1 k0_t2
theorem k0_off7_inb : ∀ (i : grid0.Coords) (v123 : BitVec 32) (k0_hw1 : k0_chk1 i v123) (k0_t2 : Fin (k0_t2_loop i v123).trips), ∀ a, (k0_off7 i v123 k0_t2) a + S1x512x128.size a ≤ S1x16384x128.size a := fun i v123 k0_hw1 k0_t2 => k0_hw1.2.2.2.2.2.2.2 k0_t2

def k0_off8 (i : grid0.Coords) : Fin 2 → Nat :=
  let arg0 : BitVec 32 := BitVec.ofNat 32 (i 0).val
  let v153 : Index := Scalar.indexCast arg0
  let c2_i32_70 : BitVec 32 := 2#32
  let arg1 : BitVec 32 := BitVec.ofNat 32 (i 1).val
  let v151 : BitVec 32 := Scalar.muli c2_i32_70 arg1
  let c1_i32_71 : BitVec 32 := 1#32
  let v152 : BitVec 32 := Scalar.addi v151 c1_i32_71
  let v154 : Index := Scalar.indexCast v152
  ![v153.toNat, v154.toNat]
@[reducible] def k0_t3_loop (i : grid0.Coords) (v123 : BitVec 32) (v155 : BitVec 32) : Scf.Loop 32 :=
  let c0_i32_81 : BitVec 32 := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let v156 : BitVec 32 := Scalar.subi v155 v145
  let c2_i32_72 : BitVec 32 := 2#32
  let v157 : BitVec 32 := Scalar.addi v156 c2_i32_72
  let c0_i32_74 : BitVec 32 := 0#32
  let v159 : BitVec 1 := Scalar.cmpi .sgt v157 c0_i32_74
  let v160 : BitVec 32 := Scalar.extui v159
  let c0_i32_75 : BitVec 32 := 0#32
  let v161 : BitVec 1 := Scalar.cmpi .slt v157 c0_i32_75
  let v162 : BitVec 32 := Scalar.extui v161
  let v163 : BitVec 32 := Scalar.subi v160 v162
  let c2_i32_73 : BitVec 32 := 2#32
  let c0_i32_76 : BitVec 32 := 0#32
  let v164 : BitVec 1 := Scalar.cmpi .sgt c2_i32_73 c0_i32_76
  let v165 : BitVec 32 := Scalar.extui v164
  let c0_i32_77 : BitVec 32 := 0#32
  let v166 : BitVec 1 := Scalar.cmpi .slt c2_i32_73 c0_i32_77
  let v167 : BitVec 32 := Scalar.extui v166
  let v168 : BitVec 32 := Scalar.subi v165 v167
  let v169 : BitVec 1 := Scalar.cmpi .ne v163 v168
  let v170 : BitVec 32 := Scalar.remsi v157 c2_i32_73
  let c0_i32_78 : BitVec 32 := 0#32
  let v171 : BitVec 1 := Scalar.cmpi .ne v170 c0_i32_78
  let v172 : BitVec 1 := Scalar.andi v169 v171
  let v158 : BitVec 32 := Scalar.divsi v157 c2_i32_73
  let c1_i32_79 : BitVec 32 := 1#32
  let v173 : BitVec 32 := Scalar.subi v158 c1_i32_79
  let v174 : BitVec 32 := Scalar.select v172 v173 v158
  let v175 : BitVec 32 := Scalar.subi v174 c0_i32_81
  let c1_i32_82 : BitVec 32 := 1#32
  let v177 : BitVec 32 := Scalar.divsi v175 c1_i32_82
  let v178 : BitVec 32 := Scalar.muli v177 c1_i32_82
  let v179 : BitVec 32 := Scalar.addi c0_i32_81 v178
  let c1_i32_83 : BitVec 32 := 1#32
  ⟨c0_i32_81, v179, c1_i32_83⟩

def k0_mult5 (i : grid0.Coords) (v123 : BitVec 32) (v155 : BitVec 32) (k0_t3 : Fin (k0_t3_loop i v123 v155).trips) : BitVec 32 :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let c1_i32_83 : BitVec 32 := 1#32
  let arg12 : BitVec 32 := Scf.iv c0_i32_81 c1_i32_83 k0_t3
  let v191 : BitVec 32 := Scalar.muli c2_i32_95 arg12
  let v192 : BitVec 32 := Scalar.addi v145 v191
  let c256_i32_96 : BitVec 32 := 256#32
  let v193 : BitVec 32 := Scalar.muli v192 c256_i32_96
  v193
def k0_off9 (i : grid0.Coords) (v123 : BitVec 32) (v155 : BitVec 32) (k0_t3 : Fin (k0_t3_loop i v123 v155).trips) : Fin 2 → Nat :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let c1_i32_83 : BitVec 32 := 1#32
  let arg12 : BitVec 32 := Scf.iv c0_i32_81 c1_i32_83 k0_t3
  let v191 : BitVec 32 := Scalar.muli c2_i32_95 arg12
  let v192 : BitVec 32 := Scalar.addi v145 v191
  let c256_i32_96 : BitVec 32 := 256#32
  let v193 : BitVec 32 := Scalar.muli v192 c256_i32_96
  let v194 : BitVec 32 := v193
  let v195 : Index := Scalar.indexCast v194
  let c0_97 : Index := 0#32
  ![v195.toNat, 0]
def k0_off10 (i : grid0.Coords) (v123 : BitVec 32) (v155 : BitVec 32) (k0_t3 : Fin (k0_t3_loop i v123 v155).trips) : Fin 3 → Nat :=
  let c0_110 : Index := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let c1_i32_83 : BitVec 32 := 1#32
  let arg12 : BitVec 32 := Scf.iv c0_i32_81 c1_i32_83 k0_t3
  let v191 : BitVec 32 := Scalar.muli c2_i32_95 arg12
  let v192 : BitVec 32 := Scalar.addi v145 v191
  let c256_i32_96 : BitVec 32 := 256#32
  let v193 : BitVec 32 := Scalar.muli v192 c256_i32_96
  let v194 : BitVec 32 := v193
  let v227 : Index := Scalar.indexCast v194
  let c0_111 : Index := 0#32
  ![0, v227.toNat, 0]
@[reducible] def k0_t4_loop (i : grid0.Coords) (v123 : BitVec 32) (v155 : BitVec 32) : Scf.Loop 32 :=
  let c0_i32_81 : BitVec 32 := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let v156 : BitVec 32 := Scalar.subi v155 v145
  let c2_i32_72 : BitVec 32 := 2#32
  let v157 : BitVec 32 := Scalar.addi v156 c2_i32_72
  let c0_i32_74 : BitVec 32 := 0#32
  let v159 : BitVec 1 := Scalar.cmpi .sgt v157 c0_i32_74
  let v160 : BitVec 32 := Scalar.extui v159
  let c0_i32_75 : BitVec 32 := 0#32
  let v161 : BitVec 1 := Scalar.cmpi .slt v157 c0_i32_75
  let v162 : BitVec 32 := Scalar.extui v161
  let v163 : BitVec 32 := Scalar.subi v160 v162
  let c2_i32_73 : BitVec 32 := 2#32
  let c0_i32_76 : BitVec 32 := 0#32
  let v164 : BitVec 1 := Scalar.cmpi .sgt c2_i32_73 c0_i32_76
  let v165 : BitVec 32 := Scalar.extui v164
  let c0_i32_77 : BitVec 32 := 0#32
  let v166 : BitVec 1 := Scalar.cmpi .slt c2_i32_73 c0_i32_77
  let v167 : BitVec 32 := Scalar.extui v166
  let v168 : BitVec 32 := Scalar.subi v165 v167
  let v169 : BitVec 1 := Scalar.cmpi .ne v163 v168
  let v170 : BitVec 32 := Scalar.remsi v157 c2_i32_73
  let c0_i32_78 : BitVec 32 := 0#32
  let v171 : BitVec 1 := Scalar.cmpi .ne v170 c0_i32_78
  let v172 : BitVec 1 := Scalar.andi v169 v171
  let v158 : BitVec 32 := Scalar.divsi v157 c2_i32_73
  let c1_i32_79 : BitVec 32 := 1#32
  let v173 : BitVec 32 := Scalar.subi v158 c1_i32_79
  let v174 : BitVec 32 := Scalar.select v172 v173 v158
  let v175 : BitVec 32 := Scalar.subi v174 c0_i32_81
  let c1_i32_82 : BitVec 32 := 1#32
  let v177 : BitVec 32 := Scalar.divsi v175 c1_i32_82
  let v178 : BitVec 32 := Scalar.muli v177 c1_i32_82
  let v179 : BitVec 32 := Scalar.addi c0_i32_81 v178
  let v176 : BitVec 32 := Scalar.addi c0_i32_81 v175
  let c1_i32_84 : BitVec 32 := 1#32
  ⟨v179, v176, c1_i32_84⟩
def k0_mult6 (i : grid0.Coords) (v123 : BitVec 32) (v155 : BitVec 32) (k0_t4 : Fin (k0_t4_loop i v123 v155).trips) : BitVec 32 :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let v156 : BitVec 32 := Scalar.subi v155 v145
  let c2_i32_72 : BitVec 32 := 2#32
  let v157 : BitVec 32 := Scalar.addi v156 c2_i32_72
  let c0_i32_74 : BitVec 32 := 0#32
  let v159 : BitVec 1 := Scalar.cmpi .sgt v157 c0_i32_74
  let v160 : BitVec 32 := Scalar.extui v159
  let c0_i32_75 : BitVec 32 := 0#32
  let v161 : BitVec 1 := Scalar.cmpi .slt v157 c0_i32_75
  let v162 : BitVec 32 := Scalar.extui v161
  let v163 : BitVec 32 := Scalar.subi v160 v162
  let c2_i32_73 : BitVec 32 := 2#32
  let c0_i32_76 : BitVec 32 := 0#32
  let v164 : BitVec 1 := Scalar.cmpi .sgt c2_i32_73 c0_i32_76
  let v165 : BitVec 32 := Scalar.extui v164
  let c0_i32_77 : BitVec 32 := 0#32
  let v166 : BitVec 1 := Scalar.cmpi .slt c2_i32_73 c0_i32_77
  let v167 : BitVec 32 := Scalar.extui v166
  let v168 : BitVec 32 := Scalar.subi v165 v167
  let v169 : BitVec 1 := Scalar.cmpi .ne v163 v168
  let v170 : BitVec 32 := Scalar.remsi v157 c2_i32_73
  let c0_i32_78 : BitVec 32 := 0#32
  let v171 : BitVec 1 := Scalar.cmpi .ne v170 c0_i32_78
  let v172 : BitVec 1 := Scalar.andi v169 v171
  let v158 : BitVec 32 := Scalar.divsi v157 c2_i32_73
  let c1_i32_79 : BitVec 32 := 1#32
  let v173 : BitVec 32 := Scalar.subi v158 c1_i32_79
  let v174 : BitVec 32 := Scalar.select v172 v173 v158
  let v175 : BitVec 32 := Scalar.subi v174 c0_i32_81
  let c1_i32_82 : BitVec 32 := 1#32
  let v177 : BitVec 32 := Scalar.divsi v175 c1_i32_82
  let v178 : BitVec 32 := Scalar.muli v177 c1_i32_82
  let v179 : BitVec 32 := Scalar.addi c0_i32_81 v178
  let c1_i32_84 : BitVec 32 := 1#32
  let arg12 : BitVec 32 := Scf.iv v179 c1_i32_84 k0_t4
  let v191 : BitVec 32 := Scalar.muli c2_i32_95 arg12
  let v192 : BitVec 32 := Scalar.addi v145 v191
  let c256_i32_96 : BitVec 32 := 256#32
  let v193 : BitVec 32 := Scalar.muli v192 c256_i32_96
  v193
def k0_off11 (i : grid0.Coords) (v123 : BitVec 32) (v155 : BitVec 32) (k0_t4 : Fin (k0_t4_loop i v123 v155).trips) : Fin 2 → Nat :=
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let v156 : BitVec 32 := Scalar.subi v155 v145
  let c2_i32_72 : BitVec 32 := 2#32
  let v157 : BitVec 32 := Scalar.addi v156 c2_i32_72
  let c0_i32_74 : BitVec 32 := 0#32
  let v159 : BitVec 1 := Scalar.cmpi .sgt v157 c0_i32_74
  let v160 : BitVec 32 := Scalar.extui v159
  let c0_i32_75 : BitVec 32 := 0#32
  let v161 : BitVec 1 := Scalar.cmpi .slt v157 c0_i32_75
  let v162 : BitVec 32 := Scalar.extui v161
  let v163 : BitVec 32 := Scalar.subi v160 v162
  let c2_i32_73 : BitVec 32 := 2#32
  let c0_i32_76 : BitVec 32 := 0#32
  let v164 : BitVec 1 := Scalar.cmpi .sgt c2_i32_73 c0_i32_76
  let v165 : BitVec 32 := Scalar.extui v164
  let c0_i32_77 : BitVec 32 := 0#32
  let v166 : BitVec 1 := Scalar.cmpi .slt c2_i32_73 c0_i32_77
  let v167 : BitVec 32 := Scalar.extui v166
  let v168 : BitVec 32 := Scalar.subi v165 v167
  let v169 : BitVec 1 := Scalar.cmpi .ne v163 v168
  let v170 : BitVec 32 := Scalar.remsi v157 c2_i32_73
  let c0_i32_78 : BitVec 32 := 0#32
  let v171 : BitVec 1 := Scalar.cmpi .ne v170 c0_i32_78
  let v172 : BitVec 1 := Scalar.andi v169 v171
  let v158 : BitVec 32 := Scalar.divsi v157 c2_i32_73
  let c1_i32_79 : BitVec 32 := 1#32
  let v173 : BitVec 32 := Scalar.subi v158 c1_i32_79
  let v174 : BitVec 32 := Scalar.select v172 v173 v158
  let v175 : BitVec 32 := Scalar.subi v174 c0_i32_81
  let c1_i32_82 : BitVec 32 := 1#32
  let v177 : BitVec 32 := Scalar.divsi v175 c1_i32_82
  let v178 : BitVec 32 := Scalar.muli v177 c1_i32_82
  let v179 : BitVec 32 := Scalar.addi c0_i32_81 v178
  let c1_i32_84 : BitVec 32 := 1#32
  let arg12 : BitVec 32 := Scf.iv v179 c1_i32_84 k0_t4
  let v191 : BitVec 32 := Scalar.muli c2_i32_95 arg12
  let v192 : BitVec 32 := Scalar.addi v145 v191
  let c256_i32_96 : BitVec 32 := 256#32
  let v193 : BitVec 32 := Scalar.muli v192 c256_i32_96
  let v194 : BitVec 32 := v193
  let v195 : Index := Scalar.indexCast v194
  let c0_97 : Index := 0#32
  ![v195.toNat, 0]
def k0_off12 (i : grid0.Coords) (v123 : BitVec 32) (v155 : BitVec 32) (k0_t4 : Fin (k0_t4_loop i v123 v155).trips) : Fin 3 → Nat :=
  let c0_110 : Index := 0#32
  let arg1 : BitVec 32 := BitVec.ofNat 32 (i 1).val
  let c4_i32_53 : BitVec 32 := 4#32
  let v118 : BitVec 32 := Scalar.muli arg1 c4_i32_53
  let c4_i32_54 : BitVec 32 := 4#32
  let v119 : BitVec 32 := Scalar.addi v118 c4_i32_54
  let c2_i32_64 : BitVec 32 := 2#32
  let v124 : BitVec 32 := Scalar.subi v123 v119
  let c2_i32_56 : BitVec 32 := 2#32
  let v125 : BitVec 32 := Scalar.addi v124 c2_i32_56
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c2_i32_57 : BitVec 32 := 2#32
  let c0_i32_60 : BitVec 32 := 0#32
  let v132 : BitVec 1 := Scalar.cmpi .sgt c2_i32_57 c0_i32_60
  let v133 : BitVec 32 := Scalar.extui v132
  let c0_i32_61 : BitVec 32 := 0#32
  let v134 : BitVec 1 := Scalar.cmpi .slt c2_i32_57 c0_i32_61
  let v135 : BitVec 32 := Scalar.extui v134
  let v136 : BitVec 32 := Scalar.subi v133 v135
  let v137 : BitVec 1 := Scalar.cmpi .ne v131 v136
  let v138 : BitVec 32 := Scalar.remsi v125 c2_i32_57
  let c0_i32_62 : BitVec 32 := 0#32
  let v139 : BitVec 1 := Scalar.cmpi .ne v138 c0_i32_62
  let v140 : BitVec 1 := Scalar.andi v137 v139
  let v126 : BitVec 32 := Scalar.divsi v125 c2_i32_57
  let c1_i32 : BitVec 32 := 1#32
  let v141 : BitVec 32 := Scalar.subi v126 c1_i32
  let v142 : BitVec 32 := Scalar.select v140 v141 v126
  let c0_i32_63 : BitVec 32 := 0#32
  let v143 : BitVec 32 := Scalar.maxsi v142 c0_i32_63
  let v144 : BitVec 32 := Scalar.muli c2_i32_64 v143
  let v145 : BitVec 32 := Scalar.addi v119 v144
  let c2_i32_95 : BitVec 32 := 2#32
  let c0_i32_81 : BitVec 32 := 0#32
  let v156 : BitVec 32 := Scalar.subi v155 v145
  let c2_i32_72 : BitVec 32 := 2#32
  let v157 : BitVec 32 := Scalar.addi v156 c2_i32_72
  let c0_i32_74 : BitVec 32 := 0#32
  let v159 : BitVec 1 := Scalar.cmpi .sgt v157 c0_i32_74
  let v160 : BitVec 32 := Scalar.extui v159
  let c0_i32_75 : BitVec 32 := 0#32
  let v161 : BitVec 1 := Scalar.cmpi .slt v157 c0_i32_75
  let v162 : BitVec 32 := Scalar.extui v161
  let v163 : BitVec 32 := Scalar.subi v160 v162
  let c2_i32_73 : BitVec 32 := 2#32
  let c0_i32_76 : BitVec 32 := 0#32
  let v164 : BitVec 1 := Scalar.cmpi .sgt c2_i32_73 c0_i32_76
  let v165 : BitVec 32 := Scalar.extui v164
  let c0_i32_77 : BitVec 32 := 0#32
  let v166 : BitVec 1 := Scalar.cmpi .slt c2_i32_73 c0_i32_77
  let v167 : BitVec 32 := Scalar.extui v166
  let v168 : BitVec 32 := Scalar.subi v165 v167
  let v169 : BitVec 1 := Scalar.cmpi .ne v163 v168
  let v170 : BitVec 32 := Scalar.remsi v157 c2_i32_73
  let c0_i32_78 : BitVec 32 := 0#32
  let v171 : BitVec 1 := Scalar.cmpi .ne v170 c0_i32_78
  let v172 : BitVec 1 := Scalar.andi v169 v171
  let v158 : BitVec 32 := Scalar.divsi v157 c2_i32_73
  let c1_i32_79 : BitVec 32 := 1#32
  let v173 : BitVec 32 := Scalar.subi v158 c1_i32_79
  let v174 : BitVec 32 := Scalar.select v172 v173 v158
  let v175 : BitVec 32 := Scalar.subi v174 c0_i32_81
  let c1_i32_82 : BitVec 32 := 1#32
  let v177 : BitVec 32 := Scalar.divsi v175 c1_i32_82
  let v178 : BitVec 32 := Scalar.muli v177 c1_i32_82
  let v179 : BitVec 32 := Scalar.addi c0_i32_81 v178
  let c1_i32_84 : BitVec 32 := 1#32
  let arg12 : BitVec 32 := Scf.iv v179 c1_i32_84 k0_t4
  let v191 : BitVec 32 := Scalar.muli c2_i32_95 arg12
  let v192 : BitVec 32 := Scalar.addi v145 v191
  let c256_i32_96 : BitVec 32 := 256#32
  let v193 : BitVec 32 := Scalar.muli v192 c256_i32_96
  let v194 : BitVec 32 := v193
  let v227 : Index := Scalar.indexCast v194
  let c0_111 : Index := 0#32
  ![0, v227.toNat, 0]

def k0_chk2 (i : grid0.Coords) (v123 : BitVec 32) (v155 : BitVec 32) : Prop :=
  ((k0_t3_loop i v123 v155).OK) ∧
  (∀ k0_t3 : Fin (k0_t3_loop i v123 v155).trips, 256 ∣ (k0_mult5 i v123 v155 k0_t3).toNat) ∧
  (∀ k0_t3 : Fin (k0_t3_loop i v123 v155).trips, ∀ a, (k0_off9 i v123 v155 k0_t3) a + S512x128.size a ≤ S16384x128.size a) ∧
  (∀ k0_t3 : Fin (k0_t3_loop i v123 v155).trips, ∀ a, (k0_off10 i v123 v155 k0_t3) a + S1x512x128.size a ≤ S1x16384x128.size a) ∧
  ((k0_t4_loop i v123 v155).OK) ∧
  (∀ k0_t4 : Fin (k0_t4_loop i v123 v155).trips, 256 ∣ (k0_mult6 i v123 v155 k0_t4).toNat) ∧
  (∀ k0_t4 : Fin (k0_t4_loop i v123 v155).trips, ∀ a, (k0_off11 i v123 v155 k0_t4) a + S512x128.size a ≤ S16384x128.size a) ∧
  (∀ k0_t4 : Fin (k0_t4_loop i v123 v155).trips, ∀ a, (k0_off12 i v123 v155 k0_t4) a + S1x512x128.size a ≤ S1x16384x128.size a)
theorem k0_t3_ok : ∀ (i : grid0.Coords) (v123 : BitVec 32) (v155 : BitVec 32) (k0_hw2 : k0_chk2 i v123 v155), (k0_t3_loop i v123 v155).OK := fun i v123 v155 k0_hw2 => k0_hw2.1
theorem k0_mult5_dvd : ∀ (i : grid0.Coords) (v123 : BitVec 32) (v155 : BitVec 32) (k0_hw2 : k0_chk2 i v123 v155) (k0_t3 : Fin (k0_t3_loop i v123 v155).trips), 256 ∣ (k0_mult5 i v123 v155 k0_t3).toNat := fun i v123 v155 k0_hw2 k0_t3 => k0_hw2.2.1 k0_t3
theorem k0_off9_inb : ∀ (i : grid0.Coords) (v123 : BitVec 32) (v155 : BitVec 32) (k0_hw2 : k0_chk2 i v123 v155) (k0_t3 : Fin (k0_t3_loop i v123 v155).trips), ∀ a, (k0_off9 i v123 v155 k0_t3) a + S512x128.size a ≤ S16384x128.size a := fun i v123 v155 k0_hw2 k0_t3 => k0_hw2.2.2.1 k0_t3
theorem k0_off10_inb : ∀ (i : grid0.Coords) (v123 : BitVec 32) (v155 : BitVec 32) (k0_hw2 : k0_chk2 i v123 v155) (k0_t3 : Fin (k0_t3_loop i v123 v155).trips), ∀ a, (k0_off10 i v123 v155 k0_t3) a + S1x512x128.size a ≤ S1x16384x128.size a := fun i v123 v155 k0_hw2 k0_t3 => k0_hw2.2.2.2.1 k0_t3
theorem k0_t4_ok : ∀ (i : grid0.Coords) (v123 : BitVec 32) (v155 : BitVec 32) (k0_hw2 : k0_chk2 i v123 v155), (k0_t4_loop i v123 v155).OK := fun i v123 v155 k0_hw2 => k0_hw2.2.2.2.2.1
theorem k0_mult6_dvd : ∀ (i : grid0.Coords) (v123 : BitVec 32) (v155 : BitVec 32) (k0_hw2 : k0_chk2 i v123 v155) (k0_t4 : Fin (k0_t4_loop i v123 v155).trips), 256 ∣ (k0_mult6 i v123 v155 k0_t4).toNat := fun i v123 v155 k0_hw2 k0_t4 => k0_hw2.2.2.2.2.2.1 k0_t4
theorem k0_off11_inb : ∀ (i : grid0.Coords) (v123 : BitVec 32) (v155 : BitVec 32) (k0_hw2 : k0_chk2 i v123 v155) (k0_t4 : Fin (k0_t4_loop i v123 v155).trips), ∀ a, (k0_off11 i v123 v155 k0_t4) a + S512x128.size a ≤ S16384x128.size a := fun i v123 v155 k0_hw2 k0_t4 => k0_hw2.2.2.2.2.2.2.1 k0_t4
theorem k0_off12_inb : ∀ (i : grid0.Coords) (v123 : BitVec 32) (v155 : BitVec 32) (k0_hw2 : k0_chk2 i v123 v155) (k0_t4 : Fin (k0_t4_loop i v123 v155).trips), ∀ a, (k0_off12 i v123 v155 k0_t4) a + S1x512x128.size a ≤ S1x16384x128.size a := fun i v123 v155 k0_hw2 k0_t4 => k0_hw2.2.2.2.2.2.2.2 k0_t4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S16x16384x64 : Shape := ⟨3, ![16, 16384, 64]⟩
abbrev S16x16384 : Shape := ⟨2, ![16, 16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩

abbrev nBuf : Space → Nat
  | .hbm => 105
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S16x16384x64, .f32⟩
  | .hbm, ⟨5, _⟩ => ⟨S16x16384x16384, .f32⟩
  | .hbm, ⟨6, _⟩ => ⟨S_, .f32⟩
  | .hbm, ⟨7, _⟩ => ⟨S16x16384x16384, .f32⟩
  | .hbm, ⟨8, _⟩ => ⟨S16x16384x16384, .f32⟩
  | .hbm, ⟨9, _⟩ => ⟨S16x16384x1, .f32⟩
  | .hbm, ⟨10, _⟩ => ⟨S16x16384x16384, .f32⟩
  | .hbm, ⟨11, _⟩ => ⟨S16x16384x16384, .f32⟩
  | .hbm, ⟨12, _⟩ => ⟨S16x1x16384, .f32⟩
  | .hbm, ⟨13, _⟩ => ⟨S16x16384x16384, .f32⟩
  | .hbm, ⟨14, _⟩ => ⟨S16x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S16x16384x16384, .i1⟩
  | .hbm, ⟨24, _⟩ => ⟨S16x16384x16384, .f32⟩
  | .hbm, ⟨25, _⟩ => ⟨S16x16384x16384, .f32⟩
  | .hbm, ⟨26, _⟩ => ⟨S_, .f32⟩
  | .hbm, ⟨27, _⟩ => ⟨S16x16384x16384, .f32⟩
  | .hbm, ⟨28, _⟩ => ⟨S_, .f32⟩
  | .hbm, ⟨29, _⟩ => ⟨S16x16384, .f32⟩
  | .hbm, ⟨30, _⟩ => ⟨S16x16384x1, .f32⟩
  | .hbm, ⟨31, _⟩ => ⟨S16x16384x16384, .f32⟩
  | .hbm, ⟨32, _⟩ => ⟨S16x16384x16384, .i1⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S_, .f32⟩
  | .hbm, ⟨37, _⟩ => ⟨S16x16384, .f32⟩
  | .hbm, ⟨38, _⟩ => ⟨S16x16384, .f32⟩
  | .hbm, ⟨39, _⟩ => ⟨S_, .f32⟩
  | .hbm, ⟨40, _⟩ => ⟨S16x16384, .f32⟩
  | .hbm, ⟨41, _⟩ => ⟨S16x16384, .i1⟩
  | .hbm, ⟨42, _⟩ => ⟨S_, .f32⟩
  | .hbm, ⟨43, _⟩ => ⟨S16x16384, .f32⟩
  | .hbm, ⟨44, _⟩ => ⟨S16x16384, .i1⟩
  | .hbm, ⟨45, _⟩ => ⟨S_, .f32⟩
  | .hbm, ⟨46, _⟩ => ⟨S16x16384, .f32⟩
  | .hbm, ⟨47, _⟩ => ⟨S_, .f32⟩
  | .hbm, ⟨48, _⟩ => ⟨S16x16384, .f32⟩
  | .hbm, ⟨49, _⟩ => ⟨S_, .f32⟩
  | .hbm, ⟨50, _⟩ => ⟨S16x16384, .f32⟩
  | .hbm, ⟨51, _⟩ => ⟨S16x16384, .f32⟩
  | .hbm, ⟨52, _⟩ => ⟨S16x16384, .f32⟩
  | .hbm, ⟨53, _⟩ => ⟨S16x16384x1, .f32⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S_, .f32⟩
  | .hbm, ⟨58, _⟩ => ⟨S16x16384, .f32⟩
  | .hbm, ⟨59, _⟩ => ⟨S16x16384x1, .f32⟩
  | .hbm, ⟨60, _⟩ => ⟨S16x16384x16384, .f32⟩
  | .hbm, ⟨61, _⟩ => ⟨S16x16384x16384, .f32⟩
  | .hbm, ⟨62, _⟩ => ⟨S16x16384x1, .f32⟩
  | .hbm, ⟨63, _⟩ => ⟨S_, .f32⟩
  | .hbm, ⟨64, _⟩ => ⟨S16x16384x1, .f32⟩
  | .hbm, ⟨65, _⟩ => ⟨S16x16384x1, .f32⟩
  | .hbm, ⟨66, _⟩ => ⟨S16x16384x64, .f32⟩
  | .hbm, ⟨67, _⟩ => ⟨S16x64x16384, .f32⟩
  | .hbm, ⟨68, _⟩ => ⟨S16x16384x64, .f32⟩
  | .hbm, ⟨69, _⟩ => ⟨S16x16384x16384, .f32⟩
  | .hbm, ⟨70, _⟩ => ⟨S16x16384x16384, .f32⟩
  | .hbm, ⟨71, _⟩ => ⟨S16x16384x16384, .f32⟩
  | .hbm, ⟨72, _⟩ => ⟨S16x16384x16384, .f32⟩
  | .hbm, ⟨73, _⟩ => ⟨S_, .f32⟩
  | .hbm, ⟨74, _⟩ => ⟨S16x16384, .f32⟩
  | .hbm, ⟨75, _⟩ => ⟨S16x16384x1, .f32⟩
  | .hbm, ⟨76, _⟩ => ⟨S16x16384x1, .f32⟩
  | .hbm, ⟨77, _⟩ => ⟨S16x16384x16384, .f32⟩
  | .hbm, ⟨78, _⟩ => ⟨S16x16384x16384, .f32⟩
  | .hbm, ⟨79, _⟩ => ⟨S_, .f32⟩
  | .hbm, ⟨80, _⟩ => ⟨S16x16384, .f32⟩
  | .hbm, ⟨81, _⟩ => ⟨S16x16384x16384, .f32⟩
  | .hbm, ⟨82, _⟩ => ⟨S16x16384x16384, .f32⟩
  | .hbm, ⟨83, _⟩ => ⟨S16x16384x16384, .f32⟩
  | .hbm, ⟨84, _⟩ => ⟨S_, .f32⟩
  | .hbm, ⟨85, _⟩ => ⟨S16x16384x16384, .f32⟩
  | .hbm, ⟨86, _⟩ => ⟨S16x16384x16384, .f32⟩
  | .hbm, ⟨87, _⟩ => ⟨S16x16384x16384, .f32⟩
  | .hbm, ⟨88, _⟩ => ⟨S_, .f32⟩
  | .hbm, ⟨89, _⟩ => ⟨S16x16384, .f32⟩
  | .hbm, ⟨90, _⟩ => ⟨S16x1x16384, .f32⟩
  | .hbm, ⟨91, _⟩ => ⟨S_, .f32⟩
  | .hbm, ⟨92, _⟩ => ⟨S16x16384, .f32⟩
  | .hbm, ⟨93, _⟩ => ⟨S_, .f32⟩
  | .hbm, ⟨94, _⟩ => ⟨S16x16384, .f32⟩
  | .hbm, ⟨95, _⟩ => ⟨S16x16384x1, .f32⟩
  | .hbm, ⟨96, _⟩ => ⟨S_, .f32⟩
  | .hbm, ⟨97, _⟩ => ⟨S16x16384, .f32⟩
  | .hbm, ⟨98, _⟩ => ⟨S16x16384, .f32⟩
  | .hbm, ⟨99, _⟩ => ⟨S_, .f32⟩
  | .hbm, ⟨100, _⟩ => ⟨S16x16384x16384, .f32⟩
  | .hbm, ⟨101, _⟩ => ⟨S16x16384x16384, .f32⟩
  | .hbm, ⟨102, _⟩ => ⟨S16x16384x64, .f32⟩
  | .hbm, ⟨103, _⟩ => ⟨S16x16384x64, .f32⟩
  | .hbm, ⟨104, _⟩ => ⟨S16x16384x64, .bf16⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S1024x4x1024 : Shape := ⟨3, ![1024, 4, 1024]⟩
abbrev S4x1024x1024 : Shape := ⟨3, ![4, 1024, 1024]⟩
abbrev S16384x4096 : Shape := ⟨2, ![16384, 4096]⟩
abbrev S512x1024 : Shape := ⟨2, ![512, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S3x1024, .f32⟩
  | .hbm, ⟨4, _⟩ => ⟨S1024x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1024x1024, .bf16⟩
  | .hbm, ⟨9, _⟩ => ⟨S16384x4096, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S3x1024, .f32⟩
  | .local _ .vmem, ⟨5, _⟩ => ⟨S1024x1024, .bf16⟩
  | .local _ .vmem, ⟨6, _⟩ => ⟨S512x4096, .f32⟩
  | .local _ .vmem, ⟨7, _⟩ => ⟨S512x4096, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S2x1024 : Shape := ⟨2, ![2, 1024]⟩
abbrev S16386x1024 : Shape := ⟨2, ![16386, 1024]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S3x1024, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x4096, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S2x1024, .f32⟩
  | .hbm, ⟨43, _⟩ => ⟨S16386x1024, .f32⟩
  | .hbm, ⟨44, _⟩ => ⟨S1x1024, .f32⟩
  | .hbm, ⟨45, _⟩ => ⟨S1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .bf16⟩
  | .hbm, ⟨76, _⟩ => ⟨S16384x1024, .bf16⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Finite.lean ====
/-
  What a precondition of finite arguments says of an entry.
-/
module

public import Idealize.ShloMosaic.Lib.IdealHost

@[expose] public section

noncomputable section

namespace Cert.Finite

open Idealize.ShloMosaic

/-- An entry below the infinite word in size is a real number. -/
theorem toReal_of_abs_lt (x : EReal) (h : Ideal.cmp CmpFPredicate.olt (max x (-x)) (Ideal.ofBits FTy.f32 0x7F800000#32) = 1#1) : x = (x.toReal : EReal) := by
  have ht : Ideal.ofBits FTy.f32 0x7F800000#32 = (⊤ : EReal) := by simp [Ideal.ofBits, Ideal.ieee]
  rw [ht] at h
  induction x with
  | bot => simp [Ideal.cmp] at h
  | top => simp [Ideal.cmp] at h
  | coe r => rfl

end Cert.Finite

end
-- ==== Proof.AttnBwd.State.lean ====
/-
  What the attention backward kernel holds while it works on one grid point (head `i 0`, key group `i 1`), by values:
  the gradient of the queries of the head, and the gradients of the keys and of the values of the group, transposed.
  `first` and `second` are the two tiles of queries on the diagonal, `later` a tile below it.
-/
module

public import proofs.«01_k».proof.Proof.Gen.Kernel2Ideal.Skeleton
public import Idealize.ShloMosaic.Lib.VecWindow

@[expose] public section

set_option maxRecDepth 16384

noncomputable section

namespace Cert.AttnBwd

open Idealize.ShloMosaic Cert.Kernel2Ideal Cert.Kernel2Ideal.Gen
open Idealize.ShloMosaic.VecWindow (window put)

variable {F : FTy → Type} [FloatOps F] [Named F]

/-- The three arrays that the body adds to. -/
@[ext] structure St (F : FTy → Type) [FloatOps F] where
  dq : Vec F S1x16384x128 .f32
  dkt : Vec F S128x1024 .f32
  dvt : Vec F S128x1024 .f32

/-- The point's inputs: the queries and the output cotangents of the head, the keys and the values of the group. -/
@[ext] structure Ins (F : FTy → Type) [FloatOps F] where
  q : Vec F S16384x128 .bf16
  d : Vec F S16384x128 .bf16
  k : Vec F S1024x128 .bf16
  v : Vec F S1024x128 .bf16

variable (i : grid0.Coords) (X : Ins F)

/-- The state at the start of a point that finds `dq` in the query gradient. -/
def start (dq : Vec F S1x16384x128 .f32) : St F := ⟨dq, k0_pay35, k0_pay36⟩

/-- The first tile on the diagonal, against the first 512 keys of the group. -/
def first (s : St F) : St F :=
  have q := window X.q (k0_off1 i 0#32) S512x128.size (k0_off1_inb i 0)
  have d := k0_pay38 (window X.d (k0_off1 i 0#32) S512x128.size (k0_off1_inb i 0))
  have p := k0_pay39 X.k q
  { dq := put s.dq (k0_off2 i 0#32) S1x512x128.size
      (k0_pay43 (k0_pay33 X.k) (k0_pay34 X.v) d p (window s.dq (k0_off2 i 0#32) S1x512x128.size (k0_off2_inb i 0)))
    dkt := put s.dkt ![0, 0] S128x512.size
      (k0_pay42 (k0_pay34 X.v) (k0_pay37 q) d p (window s.dkt ![0, 0] S128x512.size inb_S128x1024_S128x512_0_0))
    dvt := put s.dvt ![0, 0] S128x512.size (k0_pay41 d p (window s.dvt ![0, 0] S128x512.size inb_S128x1024_S128x512_0_0)) }

/-- The second tile on the diagonal, against all the keys of the group. -/
def second (s : St F) : St F :=
  have q := window X.q (k0_off1 i 2#32) S512x128.size (k0_off1_inb i 1)
  have d := window X.d (k0_off1 i 2#32) S512x128.size (k0_off1_inb i 1)
  { dq := put s.dq (k0_off2 i 2#32) S1x512x128.size
      (k0_pay51 (k0_pay33 X.k) (k0_pay47 (k0_pay33 X.k) (k0_pay34 X.v) q d)
        (k0_pay50 (window s.dq (k0_off2 i 2#32) S1x512x128.size (k0_off2_inb i 1))) (constant S512x128 .f32 0x00000000#32))
    dkt := k0_pay49 (k0_pay33 X.k) (k0_pay34 X.v) q d s.dkt
    dvt := k0_pay48 (k0_pay33 X.k) q d s.dvt }

variable (w : BitVec 32) (hw : k0_chk1 i w)

/-- Tile `k` of those below the diagonal, `w` being the last tile's number as the table gives it. -/
def later (k : Fin (k0_t1_loop i w).trips) (s : St F) : St F :=
  have q := window X.q (k0_off4 i w k) S512x128.size (k0_off4_inb i w hw k)
  have d := window X.d (k0_off4 i w k) S512x128.size (k0_off4_inb i w hw k)
  { dq := put s.dq (k0_off5 i w k) S1x512x128.size
      (k0_pay52 (k0_pay8 (window s.dq (k0_off5 i w k) S1x512x128.size (k0_off5_inb i w hw k)))
        (k0_pay9 (k0_pay33 X.k) (k0_pay34 X.v) q d))
    dkt := k0_pay7 (k0_pay33 X.k) (k0_pay34 X.v) q d s.dkt
    dvt := k0_pay6 (k0_pay33 X.k) q d s.dvt }

/-- The state after the first `n` tiles below the diagonal. -/
def laters (s : St F) : ℕ → St F
  | 0 => s
  | n + 1 => if h : n < (k0_t1_loop i w).trips then later i X w hw ⟨n, h⟩ (laters s n) else laters s n

theorem laters_succ (s : St F) (k : Fin (k0_t1_loop i w).trips) :
    laters i X w hw s (k.val + 1) = later i X w hw k (laters i X w hw s k.val) := by
  rw [laters, dif_pos k.isLt]

/-- The state at the end of the point. -/
def final (dq : Vec F S1x16384x128 .f32) : St F :=
  laters i X w hw (second i X (first i X (start dq))) (k0_t1_loop i w).trips

end Cert.AttnBwd

end
-- ==== Proof.Windows.lean ====
/-
  Reads and stores of a rectangle of a buffer, as values: the window of what the buffer reads, and the store put over it.
-/
module

public import Idealize.ShloMosaic.Lib.VecWindow

@[expose] public section

noncomputable section

namespace Cert.Windows

open Idealize.ShloMosaic
open Idealize.ShloMosaic.VecWindow (window put)

variable {F : FTy → Type} [FloatOps F] {sig : RefSig} {κ : Kind} {sp : Space} {s : Shape} {e : EltTy}

theorem put_whole {α : Type} (x : s.Idx → α) {off : Fin s.rank → ℕ} (inb : ∀ a, off a + s.size a ≤ s.size a) (y : s.Idx → α) : put x off s.size y = y := by
  funext z
  have h : ∀ a, off a ≤ (z a).val ∧ (z a).val < off a + s.size a := fun a => by
    have := inb a; have := (z a).isLt; omega
  unfold VecWindow.put
  rw [dif_pos h]
  exact congrArg y (funext fun a => Fin.ext (by
    show (z a).val - off a = (z a).val
    have := inb a; omega))

theorem window_whole {α : Type} (x : s.Idx → α) {off : Fin s.rank → ℕ} (inb : ∀ a, off a + s.size a ≤ s.size a) : window x off s.size inb = x :=
  funext fun z => congrArg x (Rect.emb_unit_full inb z)

theorem read_put (v : View sig κ sp s e) (f : v.ty.Contents (Elt F)) {off size : Fin s.rank → ℕ}
    (inb : ∀ a, off a + size a ≤ s.size a) (y : (Rect.unit off size inb).shape.Idx → Elt F e) (L : List (View.Piece (Elt F) s e)) :
    v.read (Elt F) (v.writes (Elt F) f (⟨Rect.unit off size inb, y⟩ :: L)) = put (v.read (Elt F) (v.writes (Elt F) f L)) off size y :=
  View.read_writes_cons_put v f inb y L rfl

theorem read_window (v : View sig κ sp s e) (f : v.ty.Contents (Elt F)) {off size : Fin s.rank → ℕ} (inb : ∀ a, off a + size a ≤ s.size a) :
    v.readAt (Elt F) (Rect.unit off size inb).toLoadRect f = window (v.read (Elt F) f) off size inb :=
  View.readAt_unit v f inb rfl inb

/-! ## One entry -/

section Entry

variable {α : Type} {x : s.Idx → α} {off size : Fin s.rank → ℕ} {z : s.Idx}

theorem window_at (inb : ∀ a, off a + size a ≤ s.size a) (y : (Rect.unit off size inb).shape.Idx) (h : ∀ a, (z a).val = off a + (y a).val) :
    window x off size inb y = x z :=
  congrArg x (funext fun a => Fin.ext (by
    show off a + 1 * (y a).val = (z a).val
    have := h a
    omega))

theorem put_in {w : ((a : Fin s.rank) → Fin (size a)) → α} (y : (a : Fin s.rank) → Fin (size a)) (h : ∀ a, (z a).val = off a + (y a).val) :
    put x off size w z = w y := by
  unfold VecWindow.put
  rw [dif_pos fun a => by have := h a; have := (y a).isLt; omega]
  exact congrArg w (funext fun a => Fin.ext (by
    show (z a).val - off a = (y a).val
    have := h a
    omega))

theorem put_out {w : ((a : Fin s.rank) → Fin (size a)) → α} (a : Fin s.rank) (h : ¬ (off a ≤ (z a).val ∧ (z a).val < off a + size a)) :
    put x off size w z = x z := by
  unfold VecWindow.put
  rw [dif_neg fun hall => h (hall a)]

end Entry

end Cert.Windows

end
-- ==== Proof.AttnBwd.Body.lean ====
/-
  One grid point of the attention backward kernel, run: from any contents of its three accumulated arrays to the
  state `final` of them.
-/
module

public import proofs.«01_k».proof.Proof.AttnBwd.State
public import proofs.«01_k».proof.Proof.Windows
public import proofs.«01_k».proof.Proof.Gen.Kernel2Ideal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AttnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.Windows (put_whole window_whole read_put read_window)

variable {F : FTy → Type} [FloatOps F] [Named F]

local notation "𝕄" => MT nD τ sig Unit (Elt F) ℕ (UR sig nD τ) ℕ

/-- A memref's own elements, held whole at contents `f`. -/
abbrev Pt (c : Dev nD) {sp : Space} {s : Shape} {e : EltTy} (M : Memref sig .tc sp s e) (f : BufTy.Contents (Elt F) M.view.ty) : sProp 𝕄 :=
  M.view.loc (c : Thread nD τ) ↦[M.view.set]{fullShare} f

section Loop

variable (𝒱 : Variants) (c : Dev nD) (bd : Option 𝒱.V) (E : Set ℕ) (i : grid0.Coords)
  (arg2 : Memref sig .tc .smem S16x32 .i32) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1x16384x128 .f32) (harg7 : arg7.IsWhole)
  (arg8 : Memref sig .tc .vmem S1x1024x128 .f32) (harg8 : arg8.IsWhole)
  (arg9 : Memref sig .tc .vmem S1x1024x128 .bf16) (harg9 : arg9.IsWhole)
  (arg10 : Memref sig .tc .vmem S128x1024 .f32) (harg10 : arg10.IsWhole)
  (arg11 : Memref sig .tc .vmem S128x1024 .f32) (harg11 : arg11.IsWhole)
  (arg0 arg1 : BitVec 32) (k v : FVec F S1024x128 .bf16) (v119 : BitVec 32) (w : Elt F .i32) (hw : k0_chk1 i w)
  (v145 c0 v150 c1 : BitVec 32)
  (x3 : BufTy.Contents (Elt F) arg3.view.ty) (x4 : BufTy.Contents (Elt F) arg4.view.ty)
  (s7 : Vec F S1x16384x128 .f32) (s10 s11 : Vec F S128x1024 .f32)

/-- Before trip `n`: the inputs at their contents, and the three arrays at the state after `n` tiles. -/
abbrev lateInv (n : ℕ) (_ : Unit) : sProp 𝕄 :=
  iprop(Pt c arg3 x3 ∗ Pt c arg4 x4
    ∗ (∃ f, Pt c arg7 f ∗ ⌜arg7.view.read (Elt F) f = (laters i ⟨arg3.view.read (Elt F) x3, arg4.view.read (Elt F) x4, k, v⟩ w hw ⟨s7, s10, s11⟩ n).dq⌝)
    ∗ (∃ f, Pt c arg10 f ∗ ⌜arg10.view.read (Elt F) f = (laters i ⟨arg3.view.read (Elt F) x3, arg4.view.read (Elt F) x4, k, v⟩ w hw ⟨s7, s10, s11⟩ n).dkt⌝)
    ∗ (∃ f, Pt c arg11 f ∗ ⌜arg11.view.read (Elt F) f = (laters i ⟨arg3.view.read (Elt F) x3, arg4.view.read (Elt F) x4, k, v⟩ w hw ⟨s7, s10, s11⟩ n).dvt⌝))

set_option warn.classDefReducibility false in
set_option maxHeartbeats 1600000 in
/-- The loop over the tiles below the diagonal keeps `lateInv`. -/
@[sl_loop] def lateLoop :
    Idealize.ShloMosaic.LoopInv (M := 𝕄) Idealize.ShloMosaic.frame (wpE defs₀ 𝒱 (c : Thread nD τ) bd) E
      (k0_t1_loop i w).lb (k0_t1_loop i w).ub (k0_t1_loop i w).st (k0_t1_ok i w hw) ()
      (k0_t1_body (F := F) i arg2 harg2 arg3 harg3 arg4 harg4 arg5 harg5 arg6 harg6 arg7 harg7 arg8 harg8 arg9 harg9 arg10 harg10 arg11 harg11 arg0 arg1 (k0_pay33 k) (k0_pay34 v) v119 w hw v145 c0 v150 c1) where
  inv := lateInv c i arg3 arg4 arg7 arg10 arg11 k v w hw x3 x4 s7 s10 s11
  step n acc := by
    unfold k0_t1_body
    simp only [k0_part1_eq_skeleton]; unfold k0_part1_skel
    iintro ⟨H3, H4, ⟨%f7, H7, %h7⟩, ⟨%f10, H10, %h10⟩, ⟨%f11, H11, %h11⟩⟩
    sl_exec
    sl_step
    isplitl [H3]; · iexact H3
    isplitl [H4]; · iexact H4
    rw [laters_succ]
    isplitl [H7]
    · iexists _; isplitl [H7]; · iexact H7
      ipureintro
      rw [View.read_writes_cons_put _ _ _ _ _ rfl, View.readAt_unit _ _ _ rfl, View.readAt_unit _ _ _ rfl, View.readAt_unit _ _ _ rfl, View.writes_nil, h7]
      rfl
    isplitl [H10]
    · iexists _; isplitl [H10]; · iexact H10
      ipureintro
      rw [View.read_writes_full, View.readAt_full, View.readAt_unit _ _ _ rfl, View.readAt_unit _ _ _ rfl, h10]
      rfl
    iexists _; isplitl [H11]; · iexact H11
    ipureintro
    rw [View.read_writes_full, View.readAt_full, View.readAt_unit _ _ _ rfl, View.readAt_unit _ _ _ rfl, h11]
    rfl

end Loop

/-- The first key group of a head. -/
abbrev atStart (i : grid0.Coords) : Prop := (Scalar.cmpi .ne (Scalar.extui (Scalar.cmpi .eq (BitVec.ofNat 32 (i 1).val) 0#32)) 0#32) = 1#1

/-- What a point starts from in the query gradient: zero in the first key group of a head, what is there in the others. -/
def dqIn (i : grid0.Coords) (x : Vec F S1x16384x128 .f32) : Vec F S1x16384x128 .f32 := if atStart i then k0_pay32 else x

theorem chk1 : ∀ i : grid0.Coords, k0_chk1 i 63#32 := by decide +kernel
theorem chk2 : ∀ i : grid0.Coords, k0_chk2 i 63#32 63#32 := by decide +kernel
theorem none2 : ∀ i : grid0.Coords, (k0_t2_loop i 63#32).trips = 0 := by decide +kernel
theorem none3 : ∀ i : grid0.Coords, (k0_t3_loop i 63#32 63#32).trips = 0 := by decide +kernel
theorem none4 : ∀ i : grid0.Coords, (k0_t4_loop i 63#32 63#32).trips = 0 := by decide +kernel

theorem off2_lt : ∀ i : grid0.Coords, k0_off2 i 0#32 1 + 512 ≤ k0_off2 i 2#32 1 := by decide +kernel

/-- A word of the table. -/
abbrev word {c : Dev nD} (M : Memref sig .tc .smem S16x32 .i32) (x : BufTy.Contents (Elt F) M.view.ty) (off : Fin 2 → ℕ) (inb : ∀ a, off a + S1x1.size a ≤ S16x32.size a) : Elt F .i32 :=
  M.view.readAt (Elt F) (Rect.unit (s := S16x32) off S1x1.size inb).toLoadRect x (Shape.Idx.first (numel1_S1x1.symm ▸ Nat.one_pos))

theorem laters_congr {i : grid0.Coords} {X X' : Ins F} {w : BitVec 32} {hw : k0_chk1 i w} {s s' : St F} {n : ℕ} (hX : X = X') (hs : s = s') :
    laters i X w hw s n = laters i X' w hw s' n := by
  rw [hX, hs]

set_option maxHeartbeats 4000000 in
/-- The body at a point whose table words are 63: the outputs end at `final`. -/
theorem body_run (c : Dev nD) (i : grid0.Coords)
  (arg2 : Memref sig .tc .smem S16x32 .i32) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1x16384x128 .f32) (harg7 : arg7.IsWhole)
  (arg8 : Memref sig .tc .vmem S1x1024x128 .f32) (harg8 : arg8.IsWhole)
  (arg9 : Memref sig .tc .vmem S1x1024x128 .bf16) (harg9 : arg9.IsWhole)
  (arg10 : Memref sig .tc .vmem S128x1024 .f32) (harg10 : arg10.IsWhole)
  (arg11 : Memref sig .tc .vmem S128x1024 .f32) (harg11 : arg11.IsWhole)
    (X : Ins F) (s7 : Vec F S1x16384x128 .f32) (xt : BufTy.Contents (Elt F) arg2.view.ty)
    (h3 : word (c := c) arg2 xt (k0_off3 i) (k0_off3_inb i) = 63#32) (h8 : word (c := c) arg2 xt (k0_off8 i) (k0_off8_inb i) = 63#32)
    (E : Set ℕ) (K : PUnit → sProp 𝕄) :
    iprop(owns (c : Thread nD τ) arg3 fullShare X.q ∗ owns (c : Thread nD τ) arg4 fullShare X.d ∗ owns (c : Thread nD τ) arg5 fullShare X.k
        ∗ owns (c : Thread nD τ) arg6 fullShare X.v ∗ owns (c : Thread nD τ) arg7 fullShare s7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (arg2.view.loc (c : Thread nD τ) ↦{fullShare.right} xt)
        ∗ (iprop(owns (c : Thread nD τ) arg3 fullShare X.q ∗ owns (c : Thread nD τ) arg4 fullShare X.d ∗ owns (c : Thread nD τ) arg5 fullShare X.k
            ∗ owns (c : Thread nD τ) arg6 fullShare X.v ∗ owns (c : Thread nD τ) arg7 fullShare (final i X 63#32 (chk1 i) (dqIn i s7)).dq
            ∗ owns (c : Thread nD τ) arg8 fullShare (k0_pay56 (final i X 63#32 (chk1 i) (dqIn i s7)).dkt)
            ∗ owns (c : Thread nD τ) arg9 fullShare (k0_pay1 (final i X 63#32 (chk1 i) (dqIn i s7)).dvt)
            ∗ (∃ d, owns (c : Thread nD τ) arg10 fullShare d) ∗ (∃ d, owns (c : Thread nD τ) arg11 fullShare d)
            ∗ (arg2.view.loc (c : Thread nD τ) ↦{fullShare.right} xt)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K := by
  have k0_hw1 : k0_chk1 i (word (c := c) arg2 xt (k0_off3 i) (k0_off3_inb i)) := h3.symm ▸ chk1 i
  have k0_hw2 : k0_chk2 i (word (c := c) arg2 xt (k0_off3 i) (k0_off3_inb i)) (word (c := c) arg2 xt (k0_off8 i) (k0_off8_inb i)) := by
    rw [h3, h8]; exact chk2 i
  have htr2 : (k0_t2_loop i (word (c := c) arg2 xt (k0_off3 i) (k0_off3_inb i))).trips = 0 := h3.symm ▸ none2 i
  have htr3 : (k0_t3_loop i (word (c := c) arg2 xt (k0_off3 i) (k0_off3_inb i)) (word (c := c) arg2 xt (k0_off8 i) (k0_off8_inb i))).trips = 0 := by
    rw [h3, h8]; exact none3 i
  have htr4 : (k0_t4_loop i (word (c := c) arg2 xt (k0_off3 i) (k0_off3_inb i)) (word (c := c) arg2 xt (k0_off8 i) (k0_off8_inb i))).trips = 0 := by
    rw [h3, h8]; exact none4 i
  have hfin : ∀ (w : BitVec 32) (hw : k0_chk1 i w), w = 63#32 → ∀ y : Vec F S1x16384x128 .f32, final i X 63#32 (chk1 i) y = final i X w hw y := by
    rintro w hw rfl y; rfl
  rw [hfin _ k0_hw1 h3]
  simp only [cc0_attn_bwd_eq_skeleton]; unfold cc0_attn_bwd_skel
  simp only [k0_part5_eq_skeleton, k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, HT, Hk⟩
  by_cases hc : atStart i
  sl_exec (disch := first | sl_exact hc | sl_exact k0_hw1 | sl_exact k0_hw2)
  have htr2' : (k0_t2_loop i (body_run.sl.r_7 i arg2 xt)).trips = 0 := htr2
  sl_exec (disch := first | sl_exact hc | sl_exact k0_hw1 | sl_exact k0_hw2)
  have htr3' : (k0_t3_loop i (body_run.sl.r_7 i arg2 xt) (body_run.sl.r_8 i arg2 xt)).trips = 0 := htr3
  have htr4' : (k0_t4_loop i (body_run.sl.r_7 i arg2 xt) (body_run.sl.r_8 i arg2 xt)).trips = 0 := htr4
  sl_exec (disch := first | sl_exact hc | sl_exact k0_hw1 | sl_exact k0_hw2)
  sl_step
  swap
  sl_exec (disch := first | sl_exact hc | sl_exact k0_hw1 | sl_exact k0_hw2)
  have htr2' : (k0_t2_loop i (body_run.sl.r_17 i arg2 xt)).trips = 0 := htr2
  sl_exec (disch := first | sl_exact hc | sl_exact k0_hw1 | sl_exact k0_hw2)
  have htr3' : (k0_t3_loop i (body_run.sl.r_17 i arg2 xt) (body_run.sl.r_18 i arg2 xt)).trips = 0 := htr3
  have htr4' : (k0_t4_loop i (body_run.sl.r_17 i arg2 xt) (body_run.sl.r_18 i arg2 xt)).trips = 0 := htr4
  sl_exec (disch := first | sl_exact hc | sl_exact k0_hw1 | sl_exact k0_hw2)
  sl_step
  all_goals
    obtain ⟨σ, e7, e10, e11, rfl⟩ : ∃ σ : St F, arg7.view.read (Elt F) fL0 = σ.dq ∧ arg10.view.read (Elt F) fL1 = σ.dkt
        ∧ arg11.view.read (Elt F) fL2 = σ.dvt ∧ σ = final i X (word (c := c) arg2 xt (k0_off3 i) (k0_off3_inb i)) k0_hw1 (dqIn i s7) := by
      refine ⟨_, hL3, hL5, hL7, laters_congr ?_ ?_⟩
      · exact Ins.ext hf3 hf4 ((View.readAt_full _ _ _).trans hf5) ((View.readAt_full _ _ _).trans hf6)
      · clear htr2 htr3 htr4 htr2' htr3' htr4' hfin hL3 hL5 hL7 k0_hw1 k0_hw2 h3 h8
        first | rw [dqIn, if_pos hc] | rw [dqIn, if_neg hc]
        have w5 : window (arg5.view.read (Elt F) f5) ![0, 0] ![1024, 128] inb_S1024x128_S1024x128_0_0 = X.k := (window_whole _ _).trans hf5
        have w6 : window (arg6.view.read (Elt F) f6) ![0, 0] ![1024, 128] inb_S1024x128_S1024x128_0_0 = X.v := (window_whole _ _).trans hf6
        have p7 : ∀ x y : Vec F S1x16384x128 .f32, put x ![0, 0, 0] ![1, 16384, 128] y = y := fun x y => put_whole x inb_S1x16384x128_S1x16384x128_0_0_0 y
        have p10 : ∀ x y : Vec F S128x1024 .f32, put x ![0, 0] ![128, 1024] y = y := fun x y => put_whole x inb_S128x1024_S128x1024_0_0 y
        have w10 : ∀ x : Vec F S128x1024 .f32, window x ![0, 0] ![128, 1024] inb_S128x1024_S128x1024_0_0 = x := fun x => window_whole x _
        have d7 : ∀ (x : Vec F S1x16384x128 .f32) (y : Vec F S1x512x128 .f32), window (put x (k0_off2 i 0#32) ![1, 512, 128] y) (k0_off2 i 2#32) ![1, 512, 128] (k0_off2_inb i 1)
            = window x (k0_off2 i 2#32) ![1, 512, 128] (k0_off2_inb i 1) :=
          fun x y => VecWindow.window_put_of_disjoint x _ ![1, 512, 128] _ ![1, 512, 128] _ y 1 (.inr (off2_lt i))
        refine St.ext ?_ ?_ ?_
        · change View.read (Elt F) arg7.view _ = _
          sl_unfold_run_names
          simp only [read_put, read_window, w5, w6, p7, hf3, hf4, hf7, View.writes_nil, View.readCov, second, first, start, d7]
        · change View.read (Elt F) arg10.view _ = _
          sl_unfold_run_names
          simp only [read_put, read_window, w5, w6, p10, w10, hf3, hf4, View.readCov]
          rfl
        · change View.read (Elt F) arg11.view _ = _
          sl_unfold_run_names
          simp only [read_put, read_window, w5, w6, p10, w10, hf3, hf4, View.readCov]
          rfl
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; swap; · iexact H7
      ipureintro; exact e7
    isplitl [H8]
    · iexists _; isplitr; swap; · iexact H8
      ipureintro
      rw [View.read_writes_full, ← e10]
      exact congrArg k0_pay56 (View.readAt_full _ _ _)
    isplitl [H9]
    · iexists _; isplitr; swap; · iexact H9
      ipureintro
      rw [View.read_writes_full, ← e11]
      exact congrArg k0_pay1 (View.readAt_full _ _ _)
    isplitl [H10]
    · iexists _, _; isplitr; swap; · iexact H10
      ipureintro; rfl
    isplitl [H11]
    · iexists _, _; isplitr; swap; · iexact H11
      ipureintro; rfl
    iexact HT

end Cert.AttnBwd

end
-- ==== Proof.AttnBwd.Run.lean ====
/-
  The attention backward program, run: the host lines, the 256 grid points of the kernel and the host lines after it.
  The state carried from point to point is `Body`'s `final`; the run ends with every buffer outside the kernel's own
  memory at the contents which the last host lines compute from the arrays that the points wrote.
-/
module

public import proofs.«01_k».proof.Proof.AttnBwd.Body
public import Idealize.ShloMosaic.Lib.Pipeline.FrameSuffix
public import Idealize.ShloMosaic.Lib.StableHlo.RunRead
public import Idealize.ShloMosaic.Lib.Claim

@[expose] public section

set_option maxRecDepth 16384

noncomputable section

namespace Cert.AttnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines -/

/-- A device's buffers when the kernel starts. -/
def entryVal (c : Dev nD) : Valuation τ sig (Elt F) :=
  StableHlo.after (List.flatten [hostOps0, hostOps0_1, hostOps0_2]) (fun b => m (c, b))
/-- The same, read at a reference. -/
abbrev entry (c : Dev nD) (b : Ref sig .tc) : Buf (Elt F) ((c : Thread nD τ).loc b) := entryVal m c (Proc.devRef .tc b)

set_option maxHeartbeats 1600000 in
/-- The main program is the lines before the kernel, the kernel and the lines after it. -/
theorem mainSplit (𝒱₀ : Variants) : Pipeline.HMainPK (Ix := Unit) (Name := ℕ) (U := UR sig nD τ) (Lvl := ℕ) pcfgs 0 defs₀ 𝒱₀ m (main (F := F)) (entry m)
      (fun _ => Pipeline.chain ([hostOps1].map StableHlo.seq)) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; and_intros <;> exact rfl) main_chain

/-- The buffers that the last lines write, in order. -/
def tailWrites : List (Ref sig .tc) :=
  [main_v122, main_v123, main_v124, main_v125, main_cst_12, main_v126, main_v127, main_v128, main_v129, main_v130, main_v131, main_v132,
    main_v133, main_v134, main_v135, main_v136, main_v137, main_v138, main_v139, main_v140, main_v141, main_v142, main_v143, main_v144,
    main_v145, main_v146]

theorem tail_writes : (hostOps1 : List (HloOp τ sig (Elt F))).map HloOp.writes = tailWrites.map fun w => {Proc.devRef (τ := τ) .tc w} := rfl

set_option maxHeartbeats 1600000 in
/-- They touch neither the kernel's table nor its own memory, -/
theorem tail_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  revert op
  rw [← List.forall_iff_forall_mem]
  and_intros
  all_goals
    intro j
    fin_cases j
    simp only [StableHlo.nullary_bufs, StableHlo.unary_bufs, StableHlo.binary_bufs, StableHlo.ternary_bufs, StableHlo.reshape_bufs,
      Finset.mem_insert, Finset.mem_singleton, not_or]
    and_intros <;> exact StableHlo.devRef_ne_of_ne (by decide)

/-- allocate nothing, -/
theorem tail_fresh : ∀ ops ∈ ([hostOps1] : List (List (HloOp τ sig (Elt F)))), ∀ op ∈ ops, op.fresh = ∅ := by
  intro ops hops
  obtain rfl := List.mem_singleton.mp hops
  rw [← List.forall_iff_forall_mem]
  and_intros <;> exact rfl

/-- and write no array of the kernel. -/
theorem tail_keeps : ∀ ops ∈ ([hostOps1] : List (List (HloOp τ sig (Elt F)))), ∀ op ∈ ops,
    ∀ w, Proc.devRef .tc (Pipeline.arrRef spec0 w) ∉ op.writes := by
  intro ops hops op hop w hw
  obtain rfl := List.mem_singleton.mp hops
  have h := List.mem_map_of_mem (f := HloOp.writes) hop
  rw [tail_writes, List.mem_map] at h
  obtain ⟨r, hr, e⟩ := h
  rw [← e, Finset.mem_singleton] at hw
  have := Proc.devRef_injective _ hw
  exact (by decide : ∀ w, Pipeline.arrRef spec0 w ∉ tailWrites) w (this ▸ hr)

/-! ## The table -/

/-- The table's contents when the kernel starts. -/
def table : pre0.Contents (Elt F) := fun j => entry m (0 : Dev nD) (pre0.ref j)
theorem entry_table (c : Dev nD) (j : Fin 1) : entry m c (pre0.ref j) = table m j := by
  obtain rfl : c = 0 := Subsingleton.elim _ _; rfl
/-- The kernel at that table: no block depends on it. -/
abbrev adm : (pcfg0 (F := F)).Adm := ⟨table m, trivial⟩
abbrev cfg : Pipeline.Cfg sig Λ₀ := cfg0 (adm m)

abbrev tbM : Memref sig .tc .smem S16x32 .i32 := Memref.whole main_v120
abbrev tbPt (c : Dev nD) (f : Buf (Elt F) (tbM.view.loc (c : Thread nD τ))) : sProp 𝕄 := tbM.view.loc (c : Thread nD τ) ↦{fullShare.right} f

theorem PhiT_eq (c : Dev nD) : (Pipeline.ΦT pre0 (table m) c : sProp 𝕄) = iprop(tbPt c (table m 0)) := by
  unfold Pipeline.ΦT Pipeline.prefHeld
  rw [show (Finset.univ : Finset (Fin 1)) = {(0 : Fin 1)} from by decide, bigSep_singleton]
  rfl

abbrev scA : Memref sig .tc .vmem S128x1024 .f32 := Memref.whole cc0_scratch0
abbrev scB : Memref sig .tc .vmem S128x1024 .f32 := Memref.whole cc0_scratch1
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- Every word of the table is 63: the early exit is off. -/
theorem table_eq : table m 0 = fun _ => (63#32 : BitVec 32) := by
  have h : entry m (0 : Dev nD) main_v120 = broadcastInDim S16x32 ![] bcast_S_S16x32 (constantI S_ 32 63#32) := by
    unfold entry entryVal
    after_reads_simp
  exact h.trans rfl

theorem word_eq (c : Dev nD) (off : Fin 2 → ℕ) (inb : ∀ a, off a + S1x1.size a ≤ S16x32.size a) :
    word (F := F) (c := c) tbM (table m 0) off inb = 63#32 := by
  rw [table_eq]; rfl

/-! ## The points -/

theorem coords_head (t : Fin grid0.N) : (grid0.coords t 0).val = t.val / 16 := by
  have ht : t.val < 256 := Nat.lt_of_lt_of_eq t.isLt N_0
  have e : (grid0.coords t 0).val = t.val / 16 % 16 := Pipeline.Grid.coords_val t 0 (by decide) rfl
  omega
theorem coords_group (t : Fin grid0.N) : (grid0.coords t 1).val = t.val % 16 := by
  have e : (grid0.coords t 1).val = t.val / 1 % 16 := Pipeline.Grid.coords_val t 1 (by decide) rfl
  omega

/-- The running sum of a head starts at its first group of keys. -/
theorem atStart_iff (t : Fin grid0.N) : atStart (grid0.coords t) ↔ t.val % 16 = 0 := by
  have ht : t.val < 256 := Nat.lt_of_lt_of_eq t.isLt N_0
  have e := coords_group t
  simp only [atStart, e]
  word_cmp

/-- The result of the queries goes out after a head's last group of keys. -/
theorem flush_dq (t : Fin (cfg m).N) : ((cfg m).win 4).flush t = true ↔ t.val % 16 = 15 :=
  Pipeline.Window.flushOf_reads cc0_transform_4 reads0_4 hreads0_4 0 (by decide) (by decide)
    (Pipeline.Window.sep_of_coord cc0_transform_4 0 0 (fun _ => rfl) (by decide)) (P := 16) (m := 15) (by decide) rfl t

/-- A window's block at a point, as the kernel finds it. -/
def blkAt (c : Dev nD) (w : Fin (cfg m).W) (t : Fin (cfg m).N) : (((cfg m).win w).xblock ((cfg m).grid.coords t)).Idx → Elt F ((cfg m).win w).elt :=
  (((cfg m).win w).blk t).view.read (Elt F) (entry m c (Pipeline.arrRef spec0 w))

/-- The four inputs of a point. -/
def insAt (c : Dev nD) (t : Fin (cfg m).N) : Ins F := ⟨blkAt m c 0 t, blkAt m c 1 t, blkAt m c 2 t, blkAt m c 3 t⟩

/-- The running sum of the queries' gradient before point `n`. -/
def dqBefore (c : Dev nD) : ℕ → Vec F S1x16384x128 .f32
  | 0 => k0_pay32
  | n + 1 => if h : n < (cfg m).N then
      (final (grid0.coords ⟨n, h⟩) (insAt m c ⟨n, h⟩) 63#32 (chk1 _) (dqIn (grid0.coords ⟨n, h⟩) (dqBefore c n))).dq
    else k0_pay32

/-- The state after point `t`. -/
def finalAt (c : Dev nD) (t : Fin (cfg m).N) : St F :=
  final (grid0.coords t) (insAt m c t) 63#32 (chk1 _) (dqIn (grid0.coords t) (dqBefore m c t.val))

theorem dqBefore_succ (c : Dev nD) (n : ℕ) (h : n < (cfg m).N) : dqBefore m c (n + 1) = (finalAt m c ⟨n, h⟩).dq := by
  rw [dqBefore, dif_pos h]; rfl

/-- What every window's buffer holds after each point. -/
def dats (_ : Fin 1) (c : Dev nD) : Dat τ (Elt F) Unit ℕ (UR sig nD τ) ℕ (cfg m) c where
  A w := entry m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => (finalAt m c t).dq
    | ⟨5, _⟩ => k0_pay56 (finalAt m c t).dkt
    | ⟨6, _⟩ => k0_pay1 (finalAt m c t).dvt
  Φ _ := iprop(Pipeline.ΦA spec0 c ∗ Pipeline.ΦT pre0 (table m) c)
  q _ := fullShare
  owed _ := 0

theorem dats_A (c : Dev nD) (w : Fin (cfg m).W) : (dats m 0 c).A w = entry m c (Pipeline.arrRef spec0 w) := by
  dsimp only [dats]

theorem after_0 (c : Dev nD) (t : Fin (cfg m).N) : (dats m 0 c).after 0 t = blkAt m c 0 t := by dsimp only [dats]; try rfl
theorem after_1 (c : Dev nD) (t : Fin (cfg m).N) : (dats m 0 c).after 1 t = blkAt m c 1 t := by dsimp only [dats]; try rfl
theorem after_2 (c : Dev nD) (t : Fin (cfg m).N) : (dats m 0 c).after 2 t = blkAt m c 2 t := by dsimp only [dats]; try rfl
theorem after_3 (c : Dev nD) (t : Fin (cfg m).N) : (dats m 0 c).after 3 t = blkAt m c 3 t := by dsimp only [dats]; try rfl
theorem after_4 (c : Dev nD) (t : Fin (cfg m).N) : (dats m 0 c).after 4 t = (finalAt m c t).dq := by dsimp only [dats]; try rfl
theorem after_5 (c : Dev nD) (t : Fin (cfg m).N) : (dats m 0 c).after 5 t = k0_pay56 (finalAt m c t).dkt := by dsimp only [dats]; try rfl
theorem after_6 (c : Dev nD) (t : Fin (cfg m).N) : (dats m 0 c).after 6 t = k0_pay1 (finalAt m c t).dvt := by dsimp only [dats]; try rfl

/-- An input's buffer holds what was copied into it, at this point or before, where the body leaves it alone. -/
theorem before_in (c : Dev nD) (w : Fin (cfg m).W) (hw : ((cfg m).win w).isOut = false) (hlive : ∀ i, (cfg m).idle w i = false)
    (hclip : ∀ t t' : Fin (cfg m).N, ((cfg m).win w).index t = ((cfg m).win w).index t' →
      ((cfg m).win w).clip ((cfg m).grid.coords t) = ((cfg m).win w).clip ((cfg m).grid.coords t'))
    (hafter : ∀ t, (dats m 0 c).after w t = blkAt m c w t) (t : Fin (cfg m).N) (d) : (dats m 0 c).before w t d = (dats m 0 c).fetched w t d :=
  (dats m 0 c).before_in_eq_fetched w hw hlive hclip (fun t => by rw [hafter]; unfold Dat.blockOf blkAt; rw [dats_A]; try rfl) t d
theorem before_0 (c : Dev nD) (t : Fin (cfg m).N) (d) : (dats m 0 c).before 0 t d = blkAt m c 0 t :=
  (before_in m c 0 rfl (fun _ => rfl) (fun _ _ _ => rfl) (after_0 m c) t d).trans (by unfold Dat.fetched Dat.blockOf blkAt; rw [dats_A]; try rfl)
theorem before_1 (c : Dev nD) (t : Fin (cfg m).N) (d) : (dats m 0 c).before 1 t d = blkAt m c 1 t :=
  (before_in m c 1 rfl (fun _ => rfl) (fun _ _ _ => rfl) (after_1 m c) t d).trans (by unfold Dat.fetched Dat.blockOf blkAt; rw [dats_A]; try rfl)
theorem before_2 (c : Dev nD) (t : Fin (cfg m).N) (d) : (dats m 0 c).before 2 t d = blkAt m c 2 t :=
  (before_in m c 2 rfl (fun _ => rfl) (fun _ _ _ => rfl) (after_2 m c) t d).trans (by unfold Dat.fetched Dat.blockOf blkAt; rw [dats_A]; try rfl)
theorem before_3 (c : Dev nD) (t : Fin (cfg m).N) (d) : (dats m 0 c).before 3 t d = blkAt m c 3 t :=
  (before_in m c 3 rfl (fun _ => rfl) (fun _ _ _ => rfl) (after_3 m c) t d).trans (by unfold Dat.fetched Dat.blockOf blkAt; rw [dats_A]; try rfl)

theorem dqIn_congr {i : grid0.Coords} {x y : Vec F S1x16384x128 .f32} (h : ¬ atStart i → x = y) : dqIn i x = dqIn i y := by
  unfold dqIn
  by_cases hs : atStart i
  · rw [if_pos hs, if_pos hs]
  · rw [if_neg hs, if_neg hs, h hs]

/-- The running sum is read where the head has begun, and there it holds what the point before left. -/
theorem dqIn_before (c : Dev nD) (t : Fin (cfg m).N) (d) :
    dqIn (grid0.coords t) ((dats m 0 c).before 4 t d) = dqIn (grid0.coords t) (dqBefore m c t.val) := by
  refine dqIn_congr fun h => ?_
  have h16 : ¬ t.val % 16 = 0 := fun e => h ((atStart_iff t).mpr e)
  have h0 : t.val ≠ 0 := fun e => h16 (by rw [e])
  have hp : t.val - 1 < (cfg m).N := lt_of_le_of_lt (Nat.sub_le _ _) t.isLt
  have hk := (dats m 0 c).before_out_kept 4 rfl t h0 (by
      rw [← Bool.not_eq_true, flush_dq]; show ¬ (t.val - 1) % 16 = 15; omega) (fun _ => rfl) (fun _ _ => rfl) d
  refine hk.trans ((after_4 m c _).trans ((dqBefore_succ m c (t.val - 1) hp).symm.trans ?_))
  rw [Nat.sub_add_cancel (Nat.one_le_iff_ne_zero.mpr h0)]

/-! ## One point's triple, as the pipeline states it -/

abbrev stg (w : Fin (cfg m).W) (t : Fin (cfg m).N) := ((cfg m).win w).stage ((cfg m).slots t w)

/-- The body at a point, on the buffers that the pipeline hands it. -/
abbrev bodyAt (t : Fin (cfg m).N) : Prog (TpuEff nD τ sig (Elt F) Λ₀ .tc) PUnit :=
  cc0_attn_bwd (grid0.coords t) tbM (Memref.isWhole_whole _)
    (spec0_0.stage ((cfg m).slots t 0)) (hstage0_0 (((cfg m).slots t 0).cast nbuf0_0))
    (spec0_1.stage ((cfg m).slots t 1)) (hstage0_1 (((cfg m).slots t 1).cast nbuf0_1))
    (spec0_2.stage ((cfg m).slots t 2)) (hstage0_2 (((cfg m).slots t 2).cast nbuf0_2))
    (spec0_3.stage ((cfg m).slots t 3)) (hstage0_3 (((cfg m).slots t 3).cast nbuf0_3))
    (spec0_4.stage ((cfg m).slots t 4)) (hstage0_4 (((cfg m).slots t 4).cast nbuf0_4))
    (spec0_5.stage ((cfg m).slots t 5)) (hstage0_5 (((cfg m).slots t 5).cast nbuf0_5))
    (spec0_6.stage ((cfg m).slots t 6)) (hstage0_6 (((cfg m).slots t 6).cast nbuf0_6))
    scA (Memref.isWhole_whole _) scB (Memref.isWhole_whole _)

def bodyPre (c : Dev nD) (t : Fin (cfg m).N) : sProp 𝕄 :=
  iprop((dats m 0 c).Φ t.castSucc ∗ (dats m 0 c).owesAt () t.castSucc
    ∗ (∃ d, owns (c : Thread nD τ) (spec0_0.stage ((cfg m).slots t 0)) fullShare ((dats m 0 c).before 0 t d))
    ∗ (∃ d, owns (c : Thread nD τ) (spec0_1.stage ((cfg m).slots t 1)) fullShare ((dats m 0 c).before 1 t d))
    ∗ (∃ d, owns (c : Thread nD τ) (spec0_2.stage ((cfg m).slots t 2)) fullShare ((dats m 0 c).before 2 t d))
    ∗ (∃ d, owns (c : Thread nD τ) (spec0_3.stage ((cfg m).slots t 3)) fullShare ((dats m 0 c).before 3 t d))
    ∗ (∃ d, owns (c : Thread nD τ) (spec0_4.stage ((cfg m).slots t 4)) fullShare ((dats m 0 c).before 4 t d))
    ∗ (∃ d, owns (c : Thread nD τ) (spec0_5.stage ((cfg m).slots t 5)) fullShare ((dats m 0 c).before 5 t d))
    ∗ (∃ d, owns (c : Thread nD τ) (spec0_6.stage ((cfg m).slots t 6)) fullShare ((dats m 0 c).before 6 t d)))

def bodyPost (c : Dev nD) (t : Fin (cfg m).N) : sProp 𝕄 :=
  iprop((dats m 0 c).Φ t.succ ∗ (dats m 0 c).owesAt () t.succ
    ∗ owns (c : Thread nD τ) (spec0_0.stage ((cfg m).slots t 0)) fullShare ((dats m 0 c).after 0 t)
    ∗ owns (c : Thread nD τ) (spec0_1.stage ((cfg m).slots t 1)) fullShare ((dats m 0 c).after 1 t)
    ∗ owns (c : Thread nD τ) (spec0_2.stage ((cfg m).slots t 2)) fullShare ((dats m 0 c).after 2 t)
    ∗ owns (c : Thread nD τ) (spec0_3.stage ((cfg m).slots t 3)) fullShare ((dats m 0 c).after 3 t)
    ∗ owns (c : Thread nD τ) (spec0_4.stage ((cfg m).slots t 4)) fullShare ((dats m 0 c).after 4 t)
    ∗ owns (c : Thread nD τ) (spec0_5.stage ((cfg m).slots t 5)) fullShare ((dats m 0 c).after 5 t)
    ∗ owns (c : Thread nD τ) (spec0_6.stage ((cfg m).slots t 6)) fullShare ((dats m 0 c).after 6 t))

set_option maxHeartbeats 1600000 in
theorem sound_body (c : Dev nD) (t : Fin (cfg m).N) :
    bodyPre m c t ⊢ wp frame (wpE (defs₀ (F := F)) Variants.none c none) Set.univ (bodyAt m t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = iprop(Pipeline.ΦA spec0 c ∗ Pipeline.ΦT pre0 (table m) c) from rfl, PhiT_eq, PhiA_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
  have hf : finalAt m c t = final (grid0.coords t) (insAt m c t) 63#32 (chk1 _) (dqIn (grid0.coords t) ((dats m 0 c).before 4 t d4)) := by
    rw [dqIn_before]; rfl
  rw [hf]
  iapply (body_run c (grid0.coords t) _ _ _ _ _ _ _ _ _ _ _ _ _ _ _ _ _ _ _ _ (insAt m c t) _ (table m 0) (word_eq m c _ _) (word_eq m c _ _) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HT0]; · iexact HT0
  iintro ⟨H0, H1, H2, H3, H4, H5, H6, HS0, HS1, HT0⟩
  isplitl [HS0 HS1 Hg HT0]
  · isplitl [HS0 HS1 Hg]
    · isplitl [HS0 HS1]
      · isplitl [HS0]
        · iexact HS0
        · iexact HS1
      · iexact Hg
    · iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg m).N) :
    defs₀ (F := F) .tc (cfg m).body ((cfg m).bodyArgs t ((cfg m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run -/

/-- A buffer at the end: the last lines, from the arrays that the points wrote. -/
abbrev endVal (c : Dev nD) : Valuation τ sig (Elt F) :=
  Pipeline.withArrays spec0 c (entryVal m c) fun w => (dats m 0 c).arrAt w (cfg m).N

set_option backward.isDefEq.respectTransparency.types false in
set_option maxHeartbeats 1600000 in
/-- Every run ends, with every buffer outside the kernel's memory at the last lines' contents and every counter at zero. -/
theorem run_main : θ_run defs (onTc (τ := τ) (main (F := F))) (s₀ m ρ) (fun r =>
    (∀ c : Dev nD, ∀ b ∈ Pipeline.restRefs sig spec0,
      r.2.mem ((c.tc : Thread nD τ).loc b) = StableHlo.after [hostOps1].flatten (endVal m c) (Proc.devRef .tc b)) ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := mainSplit m Variants.none) (hA := dats_A m) (hpf := entry_table m) (hin := fun c => .rfl)
    (hout := fun c => by
      show iprop(Pipeline.ΦA spec0 c ∗ Pipeline.ΦT pre0 (table m) c) ⊢ _
      iintro ⟨HA, -⟩
      iexact HA)
    (hQ' := fun r h => ⟨fun c b hb => (h.1 c).2 b hb, h.2⟩)

end Cert.AttnBwd

end
-- ==== Proof.AttnBwd.Host.lean ====
/-
  The host lines around the kernel: what they compute from the arguments, and how they pack the kernel's four arrays and
  take its three arrays apart.
-/
module

public import proofs.«01_k».proof.Proof.AttnBwd.Run
public import Idealize.ShloMosaic.Lib.Pointwise

@[expose] public section

set_option maxRecDepth 16384

noncomputable section

namespace Cert.AttnBwd

open Idealize.ShloMosaic Idealize.ShloMosaic.TcCoe Idealize.SL.Sem
open Cert.Kernel2Ideal Cert.Kernel2Ideal.Gen

variable {F : FTy → Type} [FloatOps F] [Named F]

/-! ## The lines in four parts: the scores, their row sums, the saved values, the packing -/

def scoresVal (V : Valuation τ sig (Elt F)) : Valuation τ sig (Elt F) := StableHlo.after (List.flatten [hostOps0, hostOps0_1]) V
def sumsVal (V : Valuation τ sig (Elt F)) : Valuation τ sig (Elt F) := StableHlo.after (hostOps0_2.take 9) V
def savedVal (V : Valuation τ sig (Elt F)) : Valuation τ sig (Elt F) := StableHlo.after ((hostOps0_2.drop 9).take 9) V
def packVal (V : Valuation τ sig (Elt F)) : Valuation τ sig (Elt F) := StableHlo.after (hostOps0_2.drop 18) V

theorem entryVal_parts (m : (ℓ : Loc nD τ sig) → Buf (Elt F) ℓ) (c : Dev nD) :
    entryVal m c = packVal (savedVal (sumsVal (scoresVal fun b => m (c, b)))) := by
  unfold entryVal packVal savedVal sumsVal scoresVal
  rw [← StableHlo.after_append, ← StableHlo.after_append, ← StableHlo.after_append]
  rfl

variable (V : Valuation τ sig (Elt F))

/-- The scores, minus infinity where the key stands behind the query. -/
def masked (q k : FVec F S16x16384x64 .f32) (c : FVec F S16x16384 .f32) : FVec F S16x16384x16384 .f32 :=
  select
    (broadcastInDim S16x16384x16384 ![1, 2] bcast_S16384x16384_S16x16384x16384_1_2
      (cmpi CmpIPredicate.sle
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (subf
      (addf
        (mulf (Host.dotGeneral dot_S16x16384x64_S16x16384x64_S16x16384x16384_2_2_1_1_0_0 none q k)
          (broadcastInDim S16x16384x16384 ![] bcast_S_S16x16384x16384 (constant S_ FTy.f32 0x3E000000#32)))
        (broadcastInDim S16x16384x16384 ![0, 1, 2] bcast_S16x16384x1_S16x16384x16384_0_1_2 (broadcastInDim S16x16384x1 ![0, 1] bcast_S16x16384_S16x16384x1_0_1 c)))
      (broadcastInDim S16x16384x16384 ![0, 1, 2] bcast_S16x1x16384_S16x16384x16384_0_1_2 (broadcastInDim S16x1x16384 ![0, 2] bcast_S16x16384_S16x1x16384_0_2 c)))
    (broadcastInDim S16x16384x16384 ![] bcast_S_S16x16384x16384 (constant S_ FTy.f32 0xFF800000#32))

theorem scores_read : scoresVal V (Proc.devRef .tc main_v15) =
    masked (V (Proc.devRef .tc main_arg0)) (V (Proc.devRef .tc main_arg1)) (V (Proc.devRef .tc main_arg3)) := by
  unfold scoresVal masked
  after_reads_simp
  rfl

/-- The largest score of each row. -/
def tops (s : FVec F S16x16384x16384 .f32) : FVec F S16x16384 .f32 :=
  Host.reduce FloatOps.maximumf s (constant S_ FTy.f32 0xFF800000#32) reducesTo_S16x16384x16384_S16x16384_d2 h_S_

/-- The exponentials of the scores, each less its row's largest. -/
def exps (s : FVec F S16x16384x16384 .f32) : FVec F S16x16384x16384 .f32 :=
  Host.exp (subf s (broadcastInDim S16x16384x16384 ![0, 1, 2] bcast_S16x16384x1_S16x16384x16384_0_1_2
    (broadcastInDim S16x16384x1 ![0, 1] bcast_S16x16384_S16x16384x1_0_1 (tops s))))

def sums (e : FVec F S16x16384x16384 .f32) : FVec F S16x16384x1 .f32 :=
  broadcastInDim S16x16384x1 ![0, 1] bcast_S16x16384_S16x16384x1_0_1
    (Host.reduceAdd e (constant S_ FTy.f32 0x00000000#32) reducesTo_S16x16384x16384_S16x16384_d2 h_S_)

theorem tops_read : sumsVal V (Proc.devRef .tc main_v17) =
    broadcastInDim S16x16384x1 ![0, 1] bcast_S16x16384_S16x16384x1_0_1 (tops (V (Proc.devRef .tc main_v15))) := by
  unfold sumsVal tops
  after_reads_simp

theorem exps_read : sumsVal V (Proc.devRef .tc main_v20) = exps (V (Proc.devRef .tc main_v15)) := by
  unfold sumsVal exps tops
  after_reads_simp

theorem sums_read : sumsVal V (Proc.devRef .tc main_v22) = sums (exps (V (Proc.devRef .tc main_v15))) := by
  unfold sumsVal sums exps tops
  after_reads_simp

/-- The logarithm of each row's sum of exponentials. -/
def logSums (t l : FVec F S16x16384x1 .f32) : FVec F S16x16384 .f32 := shapeCast S16x16384 (addf t (Host.log l)) shapeCasts_S16x16384x1_S16x16384

/-- The products of the output with its cotangent, summed over the features. -/
def deltas (e : FVec F S16x16384x16384 .f32) (l : FVec F S16x16384x1 .f32) (v d : FVec F S16x16384x64 .f32) : FVec F S16x16384 .f32 :=
  Host.reduceAdd (mulf d (Host.dotGeneral dot_S16x16384x16384_S16x16384x64_S16x16384x64_2_1_1_2_0_0 none
    (Host.divf e (broadcastInDim S16x16384x16384 ![0, 1, 2] bcast_S16x16384x1_S16x16384x16384_0_1_2 l)) v))
    (constant S_ FTy.f32 0x00000000#32) reducesTo_S16x16384x64_S16x16384_d2 h_S_

theorem logSums_read : savedVal V (Proc.devRef .tc main_v28) = logSums (V (Proc.devRef .tc main_v17)) (V (Proc.devRef .tc main_v22)) := by
  unfold savedVal logSums
  after_reads_simp
  rfl

theorem deltas_read : savedVal V (Proc.devRef .tc main_v30) =
    deltas (V (Proc.devRef .tc main_v20)) (V (Proc.devRef .tc main_v22)) (V (Proc.devRef .tc main_arg2)) (V (Proc.devRef .tc main_arg4)) := by
  unfold savedVal deltas
  after_reads_simp

/-! ## The packing -/

/-- Whether a head is even. -/
def evenHead : IVec S16x1x1 1 :=
  cmpi CmpIPredicate.eq (andi (iotaInDim S16x1x1 32 0) (broadcastInDim S16x1x1 ![] bcast_S_S16x1x1 (constantI S_ 32 1#32)))
    (broadcastInDim S16x1x1 ![] bcast_S_S16x1x1 (constantI S_ 32 0#32))

/-- One tile of 128 columns for each head, the head's own features first where it is even. -/
def packed (own ext ext' own' : FVec F S16x16384x64 .f32) : FVec F S16384x2048 .bf16 :=
  truncf .bf16 (shapeCast S16384x2048 (transpose S16384x16x128 [1, 0, 2]
    (select (broadcastInDim S16x16384x128 ![0, 1, 2] bcast_S16x1x1_S16x16384x128_0_1_2 evenHead)
      (concatenate S16x16384x128 2 [⟨S16x16384x64, own⟩, ⟨S16x16384x64, ext⟩] concatenates_S16x16384x64_S16x16384x64_S16x16384x128_d2)
      (concatenate S16x16384x128 2 [⟨S16x16384x64, ext'⟩, ⟨S16x16384x64, own'⟩] concatenates_S16x16384x64_S16x16384x64_S16x16384x128_d2))
    transposes_S16x16384x128_S16384x16x128_1_0_2) shapeCasts_S16384x16x128_S16384x2048) bitsLt_bf16_f32

/-- Six columns, and zeros. -/
def six (a b c d e f : FVec F S16x16384x1 .f32) (z : FVec F S16x16384x58 .f32) : FVec F S16x16384x64 .f32 :=
  concatenate S16x16384x64 2 [⟨S16x16384x1, a⟩, ⟨S16x16384x1, b⟩, ⟨S16x16384x1, c⟩, ⟨S16x16384x1, d⟩, ⟨S16x16384x1, e⟩, ⟨S16x16384x1, f⟩, ⟨S16x16384x58, z⟩]
    concatenates_S16x16384x1_S16x16384x1_S16x16384x1_S16x16384x1_S16x16384x1_S16x16384x1_S16x16384x58_S16x16384x64_d2

/-- Three columns, and zeros. -/
def three (a b c : FVec F S16x16384x1 .f32) (z : FVec F S16x16384x61 .f32) : FVec F S16x16384x64 .f32 :=
  concatenate S16x16384x64 2 [⟨S16x16384x1, a⟩, ⟨S16x16384x1, b⟩, ⟨S16x16384x1, c⟩, ⟨S16x16384x61, z⟩]
    concatenates_S16x16384x1_S16x16384x1_S16x16384x1_S16x16384x61_S16x16384x64_d2

def column (x : FVec F S16x16384 .f32) : FVec F S16x16384x1 .f32 := broadcastInDim S16x16384x1 ![0, 1] bcast_S16x16384_S16x16384x1_0_1 x
def ones : FVec F S16x16384 .f32 := broadcastInDim S16x16384 ![] bcast_S_S16x16384 (constant S_ FTy.f32 0x3F800000#32)
def zeros58 : FVec F S16x16384x58 .f32 := broadcastInDim S16x16384x58 ![] bcast_S_S16x16384x58 (constant S_ FTy.f32 0x00000000#32)
def zeros61 : FVec F S16x16384x61 .f32 := broadcastInDim S16x16384x61 ![] bcast_S_S16x16384x61 (constant S_ FTy.f32 0x00000000#32)

/-- A value at half precision, and what that leaves of it. -/
def half (x : FVec F S16x16384 .f32) : FVec F S16x16384 .f32 := extf .f32 (truncf .bf16 x bitsLt_bf16_f32) bitsLt_bf16_f32
def rest (x : FVec F S16x16384 .f32) : FVec F S16x16384 .f32 := subf x (half x)

def scaled (x : FVec F S16x16384x64 .f32) : FVec F S16x16384x64 .f32 :=
  mulf x (broadcastInDim S16x16384x64 ![] bcast_S_S16x16384x64 (constant S_ FTy.f32 0x3E000000#32))

def packedQ (q : FVec F S16x16384x64 .f32) (x : FVec F S16x16384 .f32) : FVec F S16384x2048 .bf16 :=
  have t := six (column (half x)) (column (half (rest x))) (column (half (rest (rest x)))) (column ones) (column ones) (column ones) zeros58
  packed (scaled q) t t (scaled q)

def packedK (k : FVec F S16x16384x64 .f32) (x : FVec F S16x16384 .f32) : FVec F S16384x2048 .bf16 :=
  have t := six (column ones) (column ones) (column ones) (column (half x)) (column (half (rest x))) (column (half (rest (rest x)))) zeros58
  packed k t t k

def packedV (v : FVec F S16x16384x64 .f32) : FVec F S16384x2048 .bf16 :=
  have t := three (column ones) (column ones) (column ones) zeros61
  packed v t t v

def packedD (d : FVec F S16x16384x64 .f32) (x : FVec F S16x16384 .f32) : FVec F S16384x2048 .bf16 :=
  have t := three (column (half x)) (column (half (rest x))) (column (half (rest (rest x)))) zeros61
  packed d t t d

theorem packedQ_read : packVal V (Proc.devRef .tc main_v62) =
    packedQ (V (Proc.devRef .tc main_arg0)) (subf (V (Proc.devRef .tc main_arg3)) (V (Proc.devRef .tc main_v28))) := by
  unfold packVal
  after_reads_simp
  change packed _ _ _ _ = _
  after_reads_simp
  change packed _ (six _ _ _ _ _ _ _) (six _ _ _ _ _ _ _) _ = _
  after_reads_simp
  rfl

theorem packedK_read : packVal V (Proc.devRef .tc main_v86) =
    packedK (V (Proc.devRef .tc main_arg1)) (Host.negf (V (Proc.devRef .tc main_arg3))) := by
  unfold packVal
  after_reads_simp
  change packed _ _ _ _ = _
  after_reads_simp
  change packed _ (six _ _ _ _ _ _ _) (six _ _ _ _ _ _ _) _ = _
  after_reads_simp
  rfl

theorem packedV_read : packVal V (Proc.devRef .tc main_v98) = packedV (V (Proc.devRef .tc main_arg2)) := by
  unfold packVal
  after_reads_simp
  change packed _ _ _ _ = _
  after_reads_simp
  change packed _ (three _ _ _ _) (three _ _ _ _) _ = _
  after_reads_simp
  rfl

theorem packedD_read : packVal V (Proc.devRef .tc main_v119) =
    packedD (V (Proc.devRef .tc main_arg4)) (Host.negf (V (Proc.devRef .tc main_v30))) := by
  unfold packVal
  after_reads_simp
  change packed _ _ _ _ = _
  after_reads_simp
  change packed _ (three _ _ _ _) (three _ _ _ _) _ = _
  after_reads_simp
  rfl

theorem even_read : packVal V (Proc.devRef .tc main_v35) = evenHead := by
  unfold packVal evenHead
  after_reads_simp

/-! ## The lines after the kernel -/

def tailVal (V : Valuation τ sig (Elt F)) : Valuation τ sig (Elt F) := StableHlo.after [hostOps1].flatten V

/-- A head's own 64 features out of its tile. -/
def features {φ : FTy} (even : IVec S16x1x1 1) (t : FVec F S16x16384x128 φ) : FVec F S16x16384x64 φ :=
  select (broadcastInDim S16x16384x64 ![0, 1, 2] bcast_S16x1x1_S16x16384x64_0_1_2 even)
    (extractStridedSlice S16x16384x64 ![0, 0, 0] t slices_S16x16384x128_S16x16384x64_0_0_0)
    (extractStridedSlice S16x16384x64 ![0, 0, 64] t slices_S16x16384x128_S16x16384x64_0_0_64)

def term0 (even : IVec S16x1x1 1) (t : FVec F S16x16384x128 .f32) : FVec F S16x16384 .f32 :=
  shapeCast S16x16384 (select (broadcastInDim S16x16384x1 ![0, 1, 2] bcast_S16x1x1_S16x16384x1_0_1_2 even)
    (extractStridedSlice S16x16384x1 ![0, 0, 64] t slices_S16x16384x128_S16x16384x1_0_0_64)
    (extractStridedSlice S16x16384x1 ![0, 0, 0] t slices_S16x16384x128_S16x16384x1_0_0_0)) shapeCasts_S16x16384x1_S16x16384

def term3 (even : IVec S16x1x1 1) (t : FVec F S16x16384x128 .f32) : FVec F S16x16384 .f32 :=
  shapeCast S16x16384 (select (broadcastInDim S16x16384x1 ![0, 1, 2] bcast_S16x1x1_S16x16384x1_0_1_2 even)
    (extractStridedSlice S16x16384x1 ![0, 0, 67] t slices_S16x16384x128_S16x16384x1_0_0_67)
    (extractStridedSlice S16x16384x1 ![0, 0, 3] t slices_S16x16384x128_S16x16384x1_0_0_3)) shapeCasts_S16x16384x1_S16x16384

theorem tail_dq : tailVal V (Proc.devRef .tc main_v127) =
    scaled (features (V (Proc.devRef .tc main_v35)) (V (Proc.devRef .tc main_v121_0))) := by
  unfold tailVal scaled features
  after_reads_simp

theorem tail_dk : tailVal V (Proc.devRef .tc main_v131) = features (V (Proc.devRef .tc main_v35)) (V (Proc.devRef .tc main_v121_1)) := by
  unfold tailVal features
  after_reads_simp

theorem tail_dv : tailVal V (Proc.devRef .tc main_v135) = features (V (Proc.devRef .tc main_v35)) (V (Proc.devRef .tc main_v121_2)) := by
  unfold tailVal features
  after_reads_simp

theorem tail_dc : tailVal V (Proc.devRef .tc main_v146) =
    subf (term0 (V (Proc.devRef .tc main_v35)) (V (Proc.devRef .tc main_v121_0))) (term3 (V (Proc.devRef .tc main_v35)) (V (Proc.devRef .tc main_v121_1))) := by
  unfold tailVal term0 term3
  after_reads_simp
  rfl

/-- The lines before and after the kernel leave the arguments alone. -/
theorem args_entry (m : (ℓ : Loc nD τ sig) → Buf (Elt F) ℓ) (c : Dev nD) (b : Ref sig .tc)
    (hb : b ∈ [main_arg0, main_arg1, main_arg2, main_arg3, main_arg4]) : entryVal m c (Proc.devRef .tc b) = m (c, Proc.devRef .tc b) := by
  simp only [List.mem_cons, List.mem_singleton, List.not_mem_nil, or_false] at hb
  unfold entryVal
  rcases hb with rfl | rfl | rfl | rfl | rfl <;> after_reads_simp

theorem args_tail (b : Ref sig .tc) (hb : b ∈ [main_arg0, main_arg1, main_arg2, main_arg3, main_arg4]) :
    tailVal V (Proc.devRef .tc b) = V (Proc.devRef .tc b) := by
  simp only [List.mem_cons, List.mem_singleton, List.not_mem_nil, or_false] at hb
  unfold tailVal
  rcases hb with rfl | rfl | rfl | rfl | rfl <;> after_reads_simp

theorem args_saved (b : Ref sig .tc) (hb : b ∈ [main_arg0, main_arg1, main_arg2, main_arg3, main_arg4]) :
    savedVal (sumsVal (scoresVal V)) (Proc.devRef .tc b) = V (Proc.devRef .tc b) := by
  simp only [List.mem_cons, List.mem_singleton, List.not_mem_nil, or_false] at hb
  unfold savedVal sumsVal scoresVal
  rcases hb with rfl | rfl | rfl | rfl | rfl <;> after_reads_simp

theorem args_sums (b : Ref sig .tc) (hb : b ∈ [main_arg0, main_arg1, main_arg2, main_arg3, main_arg4]) :
    sumsVal (scoresVal V) (Proc.devRef .tc b) = V (Proc.devRef .tc b) := by
  simp only [List.mem_cons, List.mem_singleton, List.not_mem_nil, or_false] at hb
  unfold sumsVal scoresVal
  rcases hb with rfl | rfl | rfl | rfl | rfl <;> after_reads_simp

/-! ## What the kernel reads, of the arguments -/

variable (m : (ℓ : Loc nD τ sig) → Buf (Elt F) ℓ) (c : Dev nD)

abbrev argQ : FVec F S16x16384x64 .f32 := m (c, Proc.devRef .tc main_arg0)
abbrev argK : FVec F S16x16384x64 .f32 := m (c, Proc.devRef .tc main_arg1)
abbrev argV : FVec F S16x16384x64 .f32 := m (c, Proc.devRef .tc main_arg2)
abbrev argC : FVec F S16x16384 .f32 := m (c, Proc.devRef .tc main_arg3)
abbrev argD : FVec F S16x16384x64 .f32 := m (c, Proc.devRef .tc main_arg4)

/-- The saved sums of the forward lines. -/
def lse (q k : FVec F S16x16384x64 .f32) (g : FVec F S16x16384 .f32) : FVec F S16x16384 .f32 :=
  logSums (column (tops (masked q k g))) (sums (exps (masked q k g)))
def delta (q k : FVec F S16x16384x64 .f32) (g : FVec F S16x16384 .f32) (v d : FVec F S16x16384x64 .f32) : FVec F S16x16384 .f32 :=
  deltas (exps (masked q k g)) (sums (exps (masked q k g))) v d

theorem entry_q : entry m c main_v62 = packedQ (argQ m c) (subf (argC m c) (lse (argQ m c) (argK m c) (argC m c))) := by
  show entryVal m c _ = _
  rw [entryVal_parts, packedQ_read, args_saved _ main_arg0 (by decide), args_saved _ main_arg3 (by decide), logSums_read, tops_read, sums_read,
    scores_read]
  rfl

theorem entry_k : entry m c main_v86 = packedK (argK m c) (Host.negf (argC m c)) := by
  show entryVal m c _ = _
  rw [entryVal_parts, packedK_read, args_saved _ main_arg1 (by decide), args_saved _ main_arg3 (by decide)]

theorem entry_v : entry m c main_v98 = packedV (argV m c) := by
  show entryVal m c _ = _
  rw [entryVal_parts, packedV_read, args_saved _ main_arg2 (by decide)]

theorem entry_d : entry m c main_v119 =
    packedD (argD m c) (Host.negf (delta (argQ m c) (argK m c) (argC m c) (argV m c) (argD m c))) := by
  show entryVal m c _ = _
  rw [entryVal_parts, packedD_read, args_saved _ main_arg4 (by decide), deltas_read, exps_read, sums_read, scores_read,
    args_sums _ main_arg2 (by decide), args_sums _ main_arg4 (by decide)]
  rfl

theorem entry_even : entry m c main_v35 = evenHead := by
  show entryVal m c _ = _
  rw [entryVal_parts, even_read]

end Cert.AttnBwd

end
-- ==== Proof.AttnBwd.Tile.lean ====
/-
  The values that the kernel adds for one tile of 512 queries against a group of 1024 keys, read at one entry over the
  extended reals.
-/
module

public import proofs.«01_k».proof.Proof.AttnBwd.State
public import Idealize.ShloMosaic.Lib.Pointwise
public import Idealize.ShloMosaic.Lib.WordCmp

@[expose] public section

set_option maxRecDepth 16384

noncomputable section

namespace Cert.AttnBwd

open Idealize.ShloMosaic Idealize.ShloMosaic.TcCoe Idealize.SL.Sem
open Cert.Kernel2Ideal Cert.Kernel2Ideal.Gen

variable (q d : Vec Ideal S512x128 .bf16) (k v : Vec Ideal S1024x128 .bf16)

/-- The weight of key `c` for query `r`, where key `c` stands at most `e` places behind query `r`; 0 behind that. -/
def weight (e : ℕ) (r : Fin 512) (c : Fin 1024) : EReal :=
  if c.val ≤ r.val + e then Ideal.exp (∑ l : Fin 128, q (ix2 r l) * k (ix2 c l)) else 0

/-- The gradient of the score. -/
def grad (e : ℕ) (r : Fin 512) (c : Fin 1024) : EReal := weight q k e r c * ∑ l : Fin 128, d (ix2 r l) * v (ix2 c l)

/-- The exponential of a score under the mask. -/
theorem exp_select (b : BitVec 1) (P : Prop) [Decidable P] (h : b = if P then 1#1 else 0#1) (x : EReal) :
    Ideal.exp (Scalar.select b x (Named.named (F := Ideal) (φ := .f32) κ "mask" 0xF149F2CA#32)) = if P then Ideal.exp x else 0 := by
  have hm : Named.named (F := Ideal) (φ := .f32) κ "mask" 0xF149F2CA#32 = (⊥ : EReal) := rfl
  rw [hm, h]
  by_cases hP : P
  · rw [if_pos hP, if_pos hP]; rfl
  · rw [if_neg hP, if_neg hP]; rfl

theorem mask_word (e : ℕ) (he : e ≤ 512) (r c : ℕ) (hr : r < 512) (hc : c < 1024) :
    IntOp.cmpi CmpIPredicate.sle (BitVec.ofNat 32 c) (IntOp.addi (BitVec.ofNat 32 r) (BitVec.ofNat 32 e)) =
      if c ≤ r + e then 1#1 else 0#1 := by
  have h : IntOp.addi (BitVec.ofNat 32 r) (BitVec.ofNat 32 e) = BitVec.ofNat 32 (r + e) := by
    simp [IntOp.addi, BitVec.ofNat_add]
  rw [h]
  by_cases hrc : c ≤ r + e
  · rw [if_pos hrc]
    word_cmp
  · rw [if_neg hrc]
    word_cmp

theorem first_weight (r c : Fin 512) : k0_pay39 (F := Ideal) k q (ix2 r c) = weight q k 0 r ⟨c.val, by omega⟩ := by
  unfold weight
  pointwise [k0_pay39, k0_pay33, k0_pay37]
  exact exp_select _ _ (mask_word 0 (by omega) r.val c.val r.isLt (by omega)) _

theorem later_weight (e : ℕ) (he : 1024 ≤ e) (r : Fin 512) (c : Fin 1024) : k0_pay4 (F := Ideal) k q (ix2 r c) = weight q k e r c := by
  unfold weight
  rw [if_pos (by omega)]
  pointwise! [k0_pay4, k0_pay2]

theorem second_weight (r : Fin 512) (c : Fin 1024) : k0_pay46 (F := Ideal) k q (ix2 r c) = weight q k 512 r c := by
  unfold weight
  pointwise [k0_pay46, k0_pay44]
  exact exp_select _ _ (mask_word 512 (by omega) r.val c.val r.isLt (by omega)) _

theorem first_grad (r c : Fin 512) :
    k0_pay40 (F := Ideal) v d (k0_pay39 k q) (ix2 r c) = grad q d k v 0 r ⟨c.val, by omega⟩ := by
  unfold grad
  rw [← first_weight]
  generalize k0_pay39 (F := Ideal) k q = p
  pointwise! [k0_pay40]

theorem later_grad (e : ℕ) (he : 1024 ≤ e) (r : Fin 512) (c : Fin 1024) :
    k0_pay5 (F := Ideal) k v q d (ix2 r c) = grad q d k v e r c := by
  unfold grad
  rw [← later_weight q k e he]
  unfold k0_pay5
  generalize k0_pay4 (F := Ideal) k q = p
  pointwise! [k0_pay3]

theorem second_grad (r : Fin 512) (c : Fin 1024) :
    k0_pay47 (F := Ideal) k v q d (ix2 r c) = grad q d k v 512 r c := by
  unfold grad
  rw [← second_weight q k]
  unfold k0_pay47
  generalize k0_pay46 (F := Ideal) k q = p
  pointwise! [k0_pay45]

/-! ## What the first tile adds: the last 512 keys of the group stand behind all its queries -/

theorem sum_first (f : Fin 1024 → EReal) (h : ∀ c : Fin 1024, 512 ≤ c.val → f c = 0) :
    ∑ c, f c = ∑ c : Fin 512, f ⟨c.val, by omega⟩ := by
  rw [Fin.sum_univ_two_halves 512 512 rfl, Finset.sum_eq_zero (s := Finset.univ) (f := fun k : Fin 512 => f ⟨512 + k.val, by omega⟩)
    fun x _ => h _ (by simp), add_zero]

theorem weight_behind (r : Fin 512) (c : Fin 1024) (hc : 512 ≤ c.val) : weight q k 0 r c = 0 := if_neg (by omega)

theorem grad_behind (r : Fin 512) (c : Fin 1024) (hc : 512 ≤ c.val) : grad q d k v 0 r c = 0 := by
  unfold grad
  rw [weight_behind q k r c hc, zero_mul]

theorem first_dq (acc : Vec Ideal S1x512x128 .f32) (r : Fin 512) (l : Fin 128) :
    k0_pay43 (F := Ideal) k v d (k0_pay39 k q) acc (ix3 (0 : Fin 1) r l) =
      acc (ix3 (0 : Fin 1) r l) + ∑ c : Fin 1024, grad q d k v 0 r c * k (ix2 c l) := by
  rw [sum_first _ fun c hc => by rw [grad_behind q d k v r c hc, zero_mul]]
  simp only [← first_grad]
  unfold k0_pay43
  generalize k0_pay40 (F := Ideal) v d (k0_pay39 k q) = p
  pointwise! []

theorem first_dkt (acc : Vec Ideal S128x512 .f32) (l : Fin 128) (c : Fin 512) :
    k0_pay42 (F := Ideal) v (k0_pay37 q) d (k0_pay39 k q) acc (ix2 l c) =
      acc (ix2 l c) + ∑ r : Fin 512, q (ix2 r l) * grad q d k v 0 r ⟨c.val, by omega⟩ := by
  simp only [← first_grad]
  unfold k0_pay42
  generalize k0_pay40 (F := Ideal) v d (k0_pay39 k q) = p
  pointwise! [k0_pay37]

theorem first_dvt (acc : Vec Ideal S128x512 .f32) (l : Fin 128) (c : Fin 512) :
    k0_pay41 (F := Ideal) d (k0_pay39 k q) acc (ix2 l c) =
      acc (ix2 l c) + ∑ r : Fin 512, d (ix2 r l) * weight q k 0 r ⟨c.val, by omega⟩ := by
  simp only [← first_weight]
  generalize k0_pay39 (F := Ideal) k q = p
  pointwise! [k0_pay41]

/-! ## What the second tile adds -/

theorem second_dq (acc : Vec Ideal S1x512x128 .f32) (r : Fin 512) (l : Fin 128) :
    k0_pay51 (F := Ideal) k (k0_pay47 k v q d) (k0_pay50 acc) (constant S512x128 .f32 0x00000000#32) (ix3 (0 : Fin 1) r l) =
      acc (ix3 (0 : Fin 1) r l) + ∑ c : Fin 1024, grad q d k v 512 r c * k (ix2 c l) := by
  simp only [← second_grad]
  generalize k0_pay47 (F := Ideal) k v q d = p
  pointwise! [k0_pay51, k0_pay50]

theorem second_dkt (acc : Vec Ideal S128x1024 .f32) (l : Fin 128) (c : Fin 1024) :
    k0_pay49 (F := Ideal) k v q d acc (ix2 l c) = acc (ix2 l c) + ∑ r : Fin 512, q (ix2 r l) * grad q d k v 512 r c := by
  simp only [← second_grad]
  unfold k0_pay49
  generalize k0_pay47 (F := Ideal) k v q d = p
  pointwise! [k0_pay44]

theorem second_dvt (acc : Vec Ideal S128x1024 .f32) (l : Fin 128) (c : Fin 1024) :
    k0_pay48 (F := Ideal) k q d acc (ix2 l c) = acc (ix2 l c) + ∑ r : Fin 512, d (ix2 r l) * weight q k 512 r c := by
  simp only [← second_weight]
  unfold k0_pay48
  generalize k0_pay46 (F := Ideal) k q = p
  pointwise! [k0_pay45]

/-! ## What a tile below the diagonal adds -/

variable (e : ℕ) (he : 1024 ≤ e)
include he

theorem later_dq (acc : Vec Ideal S1x512x128 .f32) (r : Fin 512) (l : Fin 128) :
    k0_pay52 (F := Ideal) (k0_pay8 acc) (k0_pay9 k v q d) (ix3 (0 : Fin 1) r l) =
      acc (ix3 (0 : Fin 1) r l) + ∑ c : Fin 1024, grad q d k v e r c * k (ix2 c l) := by
  simp only [← later_grad q d k v e he]
  unfold k0_pay9
  generalize k0_pay5 (F := Ideal) k v q d = p
  pointwise! [k0_pay52, k0_pay8]

theorem later_dkt (acc : Vec Ideal S128x1024 .f32) (l : Fin 128) (c : Fin 1024) :
    k0_pay7 (F := Ideal) k v q d acc (ix2 l c) = acc (ix2 l c) + ∑ r : Fin 512, q (ix2 r l) * grad q d k v e r c := by
  simp only [← later_grad q d k v e he]
  unfold k0_pay7
  generalize k0_pay5 (F := Ideal) k v q d = p
  pointwise! [k0_pay2]

theorem later_dvt (acc : Vec Ideal S128x1024 .f32) (l : Fin 128) (c : Fin 1024) :
    k0_pay6 (F := Ideal) k q d acc (ix2 l c) = acc (ix2 l c) + ∑ r : Fin 512, d (ix2 r l) * weight q k e r c := by
  simp only [← later_weight q k e he]
  unfold k0_pay6
  generalize k0_pay4 (F := Ideal) k q = p
  pointwise! [k0_pay3]

end Cert.AttnBwd

end
-- ==== Proof.AttnBwd.Point.lean ====
/-
  What one point of the grid leaves: the point of head `h` and group `g` adds to the query gradient the products of its
  1024 keys, and holds the sums over all the queries for its keys and values.
-/
module

public import proofs.«01_k».proof.Proof.AttnBwd.Tile
public import proofs.«01_k».proof.Proof.Windows

@[expose] public section

set_option maxRecDepth 16384

noncomputable section

namespace Cert.AttnBwd

open Idealize.ShloMosaic Idealize.ShloMosaic.TcCoe Idealize.SL.Sem
open Cert.Kernel2Ideal Cert.Kernel2Ideal.Gen
open Idealize.ShloMosaic.VecWindow (window put)
open Cert.Windows (window_at put_in put_out)

/-! ## Where the tiles lie -/

theorem trips_eq : ∀ i : grid0.Coords, (k0_t1_loop i 63#32).trips = 30 - 2 * (i 1).val := by decide +kernel
theorem off4_eq : ∀ (i : grid0.Coords) (k : Fin (k0_t1_loop i 63#32).trips), k0_off4 i 63#32 k = ![(2 * (i 1).val + 2 + k.val) * 512, 0] := by
  decide +kernel
theorem off5_eq : ∀ (i : grid0.Coords) (k : Fin (k0_t1_loop i 63#32).trips), k0_off5 i 63#32 k = ![0, (2 * (i 1).val + 2 + k.val) * 512, 0] := by
  decide +kernel
theorem off1_first : ∀ i : grid0.Coords, k0_off1 i 0#32 = ![(2 * (i 1).val) * 512, 0] := by decide +kernel
theorem off1_second : ∀ i : grid0.Coords, k0_off1 i 2#32 = ![(2 * (i 1).val + 1) * 512, 0] := by decide +kernel
theorem off2_first : ∀ i : grid0.Coords, k0_off2 i 0#32 = ![0, (2 * (i 1).val) * 512, 0] := by decide +kernel
theorem off2_second : ∀ i : grid0.Coords, k0_off2 i 2#32 = ![0, (2 * (i 1).val + 1) * 512, 0] := by decide +kernel

/-- Query `x` of tile `j`. -/
def row (j : Fin 32) (x : Fin 512) : Fin 16384 := ⟨j.val * 512 + x.val, by omega⟩

theorem window_rows (x : Vec Ideal S16384x128 .bf16) {off : Fin 2 → ℕ} (inb) (j : Fin 32) (h : off = ![j.val * 512, 0]) (r : Fin 512)
    (l : Fin 128) : window (s := S16384x128) x off S512x128.size inb (ix2 r l) = x (ix2 (row j r) l) := by
  subst h
  refine window_at _ _ fun a => ?_
  fin_cases a
  · rfl
  · exact (Nat.zero_add _).symm

theorem window_sum (x : Vec Ideal S1x16384x128 .f32) {off : Fin 3 → ℕ} (inb) (j : Fin 32) (h : off = ![0, j.val * 512, 0]) (r : Fin 512)
    (l : Fin 128) : window (s := S1x16384x128) x off S1x512x128.size inb (ix3 (0 : Fin 1) r l) = x (ix3 (0 : Fin 1) (row j r) l) := by
  subst h
  refine window_at _ _ fun a => ?_
  fin_cases a
  · rfl
  · rfl
  · exact (Nat.zero_add _).symm

theorem put_sum_in (x : Vec Ideal S1x16384x128 .f32) {off : Fin 3 → ℕ} (w : Vec Ideal S1x512x128 .f32) (j : Fin 32) (h : off = ![0, j.val * 512, 0])
    (r : Fin 512) (l : Fin 128) : put (s := S1x16384x128) x off S1x512x128.size w (ix3 (0 : Fin 1) (row j r) l) = w (ix3 (0 : Fin 1) r l) := by
  subst h
  refine put_in (s := S1x16384x128) _ fun a => ?_
  fin_cases a
  · rfl
  · rfl
  · exact (Nat.zero_add _).symm

theorem put_sum_out (x : Vec Ideal S1x16384x128 .f32) {off : Fin 3 → ℕ} (w : Vec Ideal S1x512x128 .f32) (j : Fin 32) (h : off = ![0, j.val * 512, 0])
    (r : Fin 16384) (hr : ¬ (j.val * 512 ≤ r.val ∧ r.val < j.val * 512 + 512)) (l : Fin 128) :
    put (s := S1x16384x128) x off S1x512x128.size w (ix3 (0 : Fin 1) r l) = x (ix3 (0 : Fin 1) r l) := by
  subst h
  exact put_out (s := S1x16384x128) (1 : Fin 3) hr

theorem put_half_in (x : Vec Ideal S128x1024 .f32) (w : Vec Ideal S128x512 .f32) (l : Fin 128) (c : Fin 512) :
    put (s := S128x1024) x ![0, 0] S128x512.size w (ix2 l (⟨c.val, by omega⟩ : Fin 1024)) = w (ix2 l c) := by
  refine put_in (s := S128x1024) _ fun a => ?_
  fin_cases a
  · exact (Nat.zero_add _).symm
  · exact (Nat.zero_add _).symm

theorem put_half_out (x : Vec Ideal S128x1024 .f32) (w : Vec Ideal S128x512 .f32) (l : Fin 128) (c : Fin 1024) (hc : 512 ≤ c.val) :
    put (s := S128x1024) x ![0, 0] S128x512.size w (ix2 l c) = x (ix2 l c) := by
  refine put_out (s := S128x1024) (1 : Fin 2) fun h => ?_
  have h2 : c.val < 0 + 512 := h.2
  omega

theorem window_half (x : Vec Ideal S128x1024 .f32) (l : Fin 128) (c : Fin 512) :
    window (s := S128x1024) x ![0, 0] S128x512.size inb_S128x1024_S128x512_0_0 (ix2 l c) = x (ix2 l (⟨c.val, by omega⟩ : Fin 1024)) := by
  refine window_at _ _ fun a => ?_
  fin_cases a
  · exact (Nat.zero_add _).symm
  · exact (Nat.zero_add _).symm

/-! ## One tile -/

variable (X : Ins Ideal) (g : ℕ)

/-- The weight of key `c` of group `g` for query `r`. -/
def weightAt (r : Fin 16384) (c : Fin 1024) : EReal :=
  if 1024 * g + c.val ≤ r.val then Ideal.exp (∑ l : Fin 128, X.q (ix2 r l) * X.k (ix2 c l)) else 0

/-- The gradient of the score of query `r` against key `c` of group `g`. -/
def gradAt (r : Fin 16384) (c : Fin 1024) : EReal := weightAt X g r c * ∑ l : Fin 128, X.d (ix2 r l) * X.v (ix2 c l)

/-- The state `s'` is `s` with tile `j` added. -/
structure Adds (j : Fin 32) (s s' : St Ideal) : Prop where
  dq_in : ∀ x l, s'.dq (ix3 (0 : Fin 1) (row j x) l) =
    s.dq (ix3 (0 : Fin 1) (row j x) l) + ∑ c : Fin 1024, gradAt X g (row j x) c * X.k (ix2 c l)
  dq_out : ∀ (r : Fin 16384) (l : Fin 128), ¬ (j.val * 512 ≤ r.val ∧ r.val < j.val * 512 + 512) →
    s'.dq (ix3 (0 : Fin 1) r l) = s.dq (ix3 (0 : Fin 1) r l)
  dkt : ∀ l c, s'.dkt (ix2 l c) = s.dkt (ix2 l c) + ∑ x : Fin 512, X.q (ix2 (row j x) l) * gradAt X g (row j x) c
  dvt : ∀ l c, s'.dvt (ix2 l c) = s.dvt (ix2 l c) + ∑ x : Fin 512, X.d (ix2 (row j x) l) * weightAt X g (row j x) c

section Tile

variable {X g} {q d : Vec Ideal S512x128 .bf16} {j : Fin 32} {e : ℕ}

theorem tile_weight (hq : ∀ x l, q (ix2 x l) = X.q (ix2 (row j x) l)) (he : j.val * 512 = 1024 * g + e) (x : Fin 512) (c : Fin 1024) :
    weight q X.k e x c = weightAt X g (row j x) c := by
  unfold weight weightAt
  simp only [hq]
  exact if_congr (by simp only [row]; omega) rfl rfl

theorem tile_grad (hq : ∀ x l, q (ix2 x l) = X.q (ix2 (row j x) l)) (hd : ∀ x l, d (ix2 x l) = X.d (ix2 (row j x) l))
    (he : j.val * 512 = 1024 * g + e) (x : Fin 512) (c : Fin 1024) : grad q d X.k X.v e x c = gradAt X g (row j x) c := by
  unfold grad gradAt
  rw [tile_weight hq he]
  simp only [hd]

end Tile

theorem pay33_eq (x : Vec Ideal S1024x128 .bf16) : k0_pay33 x = x := by
  funext y; idx_vars y; pointwise! [k0_pay33]

theorem pay34_eq (x : Vec Ideal S1024x128 .bf16) : k0_pay34 x = x := by
  funext y; idx_vars y; pointwise! [k0_pay34]

theorem pay38_eq (x : Vec Ideal S512x128 .bf16) : k0_pay38 x = x := by
  funext y; idx_vars y; pointwise! [k0_pay38]

variable (i : grid0.Coords)

theorem first_adds (j : Fin 32) (hj : j.val = 2 * (i 1).val) (s : St Ideal) : Adds X (i 1).val j s (first i X s) := by
  have hq := fun x l => window_rows X.q (off := k0_off1 i 0#32) (k0_off1_inb i 0) j (by rw [hj]; exact off1_first i) x l
  have hd := fun x l => window_rows X.d (off := k0_off1 i 0#32) (k0_off1_inb i 0) j (by rw [hj]; exact off1_first i) x l
  have ho : k0_off2 i 0#32 = ![0, j.val * 512, 0] := by rw [hj]; exact off2_first i
  have hs := fun x l => window_sum s.dq (off := k0_off2 i 0#32) (k0_off2_inb i 0) j ho x l
  have he : j.val * 512 = 1024 * (i 1).val + 0 := by omega
  have hg := tile_grad (X := X) (g := (i 1).val) hq hd he
  have hw := tile_weight (X := X) (g := (i 1).val) hq he
  refine ⟨fun x l => ?_, fun r l h => put_sum_out _ _ j ho r h l, fun l c => ?_, fun l c => ?_⟩
  · refine (put_sum_in _ _ j ho x l).trans ?_
    rw [pay33_eq, pay34_eq, pay38_eq]
    refine (first_dq _ _ _ _ _ x l).trans ?_
    rw [hs]
    exact congrArg _ (Finset.sum_congr rfl fun c _ => by rw [hg])
  · by_cases hc : c.val < 512
    · refine (put_half_in _ _ l ⟨c.val, hc⟩).trans ?_
      rw [pay34_eq, pay38_eq]
      refine (first_dkt _ _ _ _ _ l ⟨c.val, hc⟩).trans ?_
      rw [window_half]
      exact congrArg _ (Finset.sum_congr rfl fun x _ => by rw [hg, hq])
    · refine (put_half_out _ _ l c (by omega)).trans ?_
      rw [Finset.sum_eq_zero, add_zero]
      intro x _
      rw [← hg, grad_behind _ _ _ _ _ _ (by omega), mul_zero]
  · by_cases hc : c.val < 512
    · refine (put_half_in _ _ l ⟨c.val, hc⟩).trans ?_
      rw [pay38_eq]
      refine (first_dvt _ _ _ _ l ⟨c.val, hc⟩).trans ?_
      rw [window_half]
      exact congrArg _ (Finset.sum_congr rfl fun x _ => by rw [hw, hd])
    · refine (put_half_out _ _ l c (by omega)).trans ?_
      rw [Finset.sum_eq_zero, add_zero]
      intro x _
      rw [← hw, weight_behind _ _ _ _ (by omega), mul_zero]

theorem second_adds (j : Fin 32) (hj : j.val = 2 * (i 1).val + 1) (s : St Ideal) : Adds X (i 1).val j s (second i X s) := by
  have hq := fun x l => window_rows X.q (off := k0_off1 i 2#32) (k0_off1_inb i 1) j (by rw [hj]; exact off1_second i) x l
  have hd := fun x l => window_rows X.d (off := k0_off1 i 2#32) (k0_off1_inb i 1) j (by rw [hj]; exact off1_second i) x l
  have ho : k0_off2 i 2#32 = ![0, j.val * 512, 0] := by rw [hj]; exact off2_second i
  have hs := fun x l => window_sum s.dq (off := k0_off2 i 2#32) (k0_off2_inb i 1) j ho x l
  have he : j.val * 512 = 1024 * (i 1).val + 512 := by omega
  have hg := tile_grad (X := X) (g := (i 1).val) hq hd he
  have hw := tile_weight (X := X) (g := (i 1).val) hq he
  refine ⟨fun x l => ?_, fun r l h => put_sum_out _ _ j ho r h l, fun l c => ?_, fun l c => ?_⟩
  · refine (put_sum_in _ _ j ho x l).trans ?_
    rw [pay33_eq, pay34_eq]
    refine (second_dq _ _ _ _ _ x l).trans ?_
    rw [hs]
    exact congrArg _ (Finset.sum_congr rfl fun c _ => by rw [hg])
  · show k0_pay49 (k0_pay33 X.k) (k0_pay34 X.v) _ _ _ _ = _
    rw [pay33_eq, pay34_eq, second_dkt]
    exact congrArg _ (Finset.sum_congr rfl fun x _ => by rw [hg, hq])
  · show k0_pay48 (k0_pay33 X.k) _ _ _ _ = _
    rw [pay33_eq, second_dvt]
    exact congrArg _ (Finset.sum_congr rfl fun x _ => by rw [hw, hd])

theorem later_adds (k : Fin (k0_t1_loop i 63#32).trips) (hw : k0_chk1 i 63#32) (j : Fin 32) (hj : j.val = 2 * (i 1).val + 2 + k.val) (s : St Ideal) :
    Adds X (i 1).val j s (later i X 63#32 hw k s) := by
  have hq := fun x l => window_rows X.q (k0_off4_inb i _ hw k) j (by rw [hj]; exact off4_eq i k) x l
  have hd := fun x l => window_rows X.d (k0_off4_inb i _ hw k) j (by rw [hj]; exact off4_eq i k) x l
  have ho : k0_off5 i 63#32 k = ![0, j.val * 512, 0] := by rw [hj]; exact off5_eq i k
  have hs := fun x l => window_sum s.dq (k0_off5_inb i _ hw k) j ho x l
  obtain ⟨e, he, h1024⟩ : ∃ e, j.val * 512 = 1024 * (i 1).val + e ∧ 1024 ≤ e := ⟨j.val * 512 - 1024 * (i 1).val, by omega, by omega⟩
  have hg := tile_grad (X := X) (g := (i 1).val) hq hd he
  have hw := tile_weight (X := X) (g := (i 1).val) hq he
  refine ⟨fun x l => ?_, fun r l h => put_sum_out _ _ j ho r h l, fun l c => ?_, fun l c => ?_⟩
  · refine (put_sum_in _ _ j ho x l).trans ?_
    rw [pay33_eq, pay34_eq]
    refine (later_dq _ _ _ _ e h1024 _ x l).trans ?_
    rw [hs]
    exact congrArg _ (Finset.sum_congr rfl fun c _ => by rw [hg])
  · show k0_pay7 (k0_pay33 X.k) (k0_pay34 X.v) _ _ _ _ = _
    rw [pay33_eq, pay34_eq, later_dkt _ _ _ _ e h1024]
    exact congrArg _ (Finset.sum_congr rfl fun x _ => by rw [hg, hq])
  · show k0_pay6 (k0_pay33 X.k) _ _ _ _ = _
    rw [pay33_eq, later_dvt _ _ _ e h1024]
    exact congrArg _ (Finset.sum_congr rfl fun x _ => by rw [hw, hd])

/-! ## All the tiles of a point -/

/-- The sum of the first `n` terms of `f`. -/
def upto (f : Fin 32 → EReal) (n : ℕ) : EReal := ∑ j ∈ Finset.range n, if h : j < 32 then f ⟨j, h⟩ else 0

theorem upto_succ (f : Fin 32 → EReal) (j : Fin 32) : upto f (j.val + 1) = upto f j.val + f j := by
  unfold upto
  rw [Finset.sum_range_succ, dif_pos j.isLt]

theorem upto_all (f : Fin 32 → EReal) : upto f 32 = ∑ j, f j := by
  unfold upto
  rw [Finset.sum_range]
  exact Finset.sum_congr rfl fun j _ => dif_pos j.isLt

/-- The state `s` once the tiles before `n` have been added to `dq`. -/
structure Upto (dq : Vec Ideal S1x16384x128 .f32) (n : ℕ) (s : St Ideal) : Prop where
  dq : ∀ (r : Fin 16384) (l : Fin 128), s.dq (ix3 (0 : Fin 1) r l) =
    dq (ix3 (0 : Fin 1) r l) + if r.val < n * 512 then ∑ c : Fin 1024, gradAt X g r c * X.k (ix2 c l) else 0
  dkt : ∀ l c, s.dkt (ix2 l c) = upto (fun j => ∑ x : Fin 512, X.q (ix2 (row j x) l) * gradAt X g (row j x) c) n
  dvt : ∀ l c, s.dvt (ix2 l c) = upto (fun j => ∑ x : Fin 512, X.d (ix2 (row j x) l) * weightAt X g (row j x) c) n

variable {X g}

theorem weightAt_before {r : Fin 16384} {c : Fin 1024} (h : r.val < 1024 * g) : weightAt X g r c = 0 := if_neg (by omega)
theorem gradAt_before {r : Fin 16384} {c : Fin 1024} (h : r.val < 1024 * g) : gradAt X g r c = 0 := by
  unfold gradAt
  rw [weightAt_before h, zero_mul]

theorem Upto.step {dq : Vec Ideal S1x16384x128 .f32} {j : Fin 32} {s s' : St Ideal} (h : Upto X g dq j.val s) (a : Adds X g j s s') :
    Upto X g dq (j.val + 1) s' := by
  refine ⟨fun r l => ?_, fun l c => ?_, fun l c => ?_⟩
  · by_cases hr : j.val * 512 ≤ r.val ∧ r.val < j.val * 512 + 512
    · obtain ⟨x, rfl⟩ : ∃ x, r = row j x := ⟨⟨r.val - j.val * 512, by omega⟩, Fin.ext (by simp only [row]; omega)⟩
      rw [a.dq_in, h.dq, if_neg (by omega), add_zero, if_pos (by omega)]
    · rw [a.dq_out r l hr, h.dq]
      exact congrArg _ (if_congr (by omega) rfl rfl)
  · rw [a.dkt, h.dkt, upto_succ]
  · rw [a.dvt, h.dvt, upto_succ]

theorem upto_start (dq : Vec Ideal S1x16384x128 .f32) (hg : g < 16) : Upto X g dq (2 * g) (start dq) := by
  refine ⟨fun r l => ?_, fun l c => ?_, fun l c => ?_⟩
  · show dq _ = _
    by_cases hr : r.val < 2 * g * 512
    · rw [if_pos hr, Finset.sum_eq_zero, add_zero]
      exact fun c _ => by rw [gradAt_before (by omega), zero_mul]
    · rw [if_neg hr, add_zero]
  · refine Eq.trans ?_ (Finset.sum_eq_zero fun j hj => ?_).symm
    · show k0_pay35 (F := Ideal) (ix2 l c) = (0 : EReal)
      pointwise! [k0_pay35]
    · have hj := Finset.mem_range.mp hj
      rw [dif_pos (by omega)]
      exact Finset.sum_eq_zero fun x _ => by rw [gradAt_before (by simp only [row]; omega), mul_zero]
  · refine Eq.trans ?_ (Finset.sum_eq_zero fun j hj => ?_).symm
    · show k0_pay36 (F := Ideal) (ix2 l c) = (0 : EReal)
      pointwise! [k0_pay36]
    · have hj := Finset.mem_range.mp hj
      rw [dif_pos (by omega)]
      exact Finset.sum_eq_zero fun x _ => by rw [weightAt_before (by simp only [row]; omega), mul_zero]

variable (X)

theorem group_lt (i : grid0.Coords) : (i 1).val < 16 := (i 1).isLt

theorem upto_laters (hw : k0_chk1 i 63#32) (dq : Vec Ideal S1x16384x128 .f32) (s : St Ideal) (hs : Upto X (i 1).val dq (2 * (i 1).val + 2) s) :
    ∀ n, n ≤ (k0_t1_loop i 63#32).trips → Upto X (i 1).val dq (2 * (i 1).val + 2 + n) (laters i X 63#32 hw s n)
  | 0, _ => hs
  | n + 1, h => by
    have hg := group_lt i
    have ht := trips_eq i
    rw [laters, dif_pos (show n < _ from h)]
    exact Upto.step (j := ⟨2 * (i 1).val + 2 + n, by omega⟩) (upto_laters hw dq s hs n (by omega)) (later_adds X i ⟨n, h⟩ hw _ rfl _)

theorem upto_final (hw : k0_chk1 i 63#32) (dq : Vec Ideal S1x16384x128 .f32) : Upto X (i 1).val dq 32 (final i X 63#32 hw dq) := by
  have hg := group_lt i
  have ht := trips_eq i
  have h1 := Upto.step (j := ⟨2 * (i 1).val, by omega⟩) (upto_start (X := X) dq hg) (first_adds X i _ rfl _)
  have h2 := Upto.step (j := ⟨2 * (i 1).val + 1, by omega⟩) h1 (second_adds X i _ rfl _)
  have h3 := upto_laters X i hw dq _ h2 _ le_rfl
  rw [show 2 * (i 1).val + 2 + (k0_t1_loop i 63#32).trips = 32 by omega] at h3
  exact h3

/-- What the point adds to the query gradient. -/
theorem final_dq (hw : k0_chk1 i 63#32) (dq : Vec Ideal S1x16384x128 .f32) (r : Fin 16384) (l : Fin 128) :
    (final i X 63#32 hw dq).dq (ix3 (0 : Fin 1) r l) =
      dq (ix3 (0 : Fin 1) r l) + ∑ c : Fin 1024, gradAt X (i 1).val r c * X.k (ix2 c l) := by
  rw [(upto_final X i hw dq).dq, if_pos (by omega)]

theorem sum_rows (f : Fin 16384 → EReal) : ∑ r, f r = ∑ j : Fin 32, ∑ x : Fin 512, f (row j x) :=
  Fin.sum_univ_tiles 32 512 rfl f

/-- The key gradient of the group, transposed. -/
theorem final_dkt (hw : k0_chk1 i 63#32) (dq : Vec Ideal S1x16384x128 .f32) (l : Fin 128) (c : Fin 1024) :
    (final i X 63#32 hw dq).dkt (ix2 l c) = ∑ r : Fin 16384, X.q (ix2 r l) * gradAt X (i 1).val r c := by
  rw [(upto_final X i hw dq).dkt, upto_all, sum_rows]

/-- The value gradient of the group, transposed. -/
theorem final_dvt (hw : k0_chk1 i 63#32) (dq : Vec Ideal S1x16384x128 .f32) (l : Fin 128) (c : Fin 1024) :
    (final i X 63#32 hw dq).dvt (ix2 l c) = ∑ r : Fin 16384, X.d (ix2 r l) * weightAt X (i 1).val r c := by
  rw [(upto_final X i hw dq).dvt, upto_all, sum_rows]

end Cert.AttnBwd

end
-- ==== Proof.AttnBwd.Arrays.lean ====
/-
  The three arrays that the kernel leaves, as sums over the whole sequence of the four arrays that it reads.
-/
module

public import proofs.«01_k».proof.Proof.AttnBwd.Run
public import proofs.«01_k».proof.Proof.AttnBwd.Point
public import Idealize.ShloMosaic.Lib.Pipeline.ValueKit

@[expose] public section

set_option maxRecDepth 16384

noncomputable section

namespace Cert.AttnBwd

open Idealize.ShloMosaic Idealize.ShloMosaic.TcCoe Idealize.SL.Sem
open Idealize.ShloMosaic.Pipeline (Dat)
open Cert.Kernel2Ideal Cert.Kernel2Ideal.Gen

/-! ## The sums -/

/-- Column `l` of head `h`. -/
def lane (h : Fin 16) (l : Fin 128) : Fin 2048 := ⟨h.val * 128 + l.val, by omega⟩

/-- Key `c` of group `g`. -/
def key (g : Fin 16) (c : Fin 1024) : Fin 16384 := ⟨g.val * 1024 + c.val, by omega⟩

/-- The four arrays that the kernel reads. -/
structure Arrs where
  q : Vec Ideal S16384x2048 .bf16
  d : Vec Ideal S16384x2048 .bf16
  k : Vec Ideal S16384x2048 .bf16
  v : Vec Ideal S16384x2048 .bf16

namespace Arrs

variable (A : Arrs) (h : Fin 16)

/-- The weight of key `c` for query `r`. -/
def p (r c : Fin 16384) : EReal :=
  if c.val ≤ r.val then Ideal.exp (∑ l : Fin 128, A.q (ix2 r (lane h l)) * A.k (ix2 c (lane h l))) else 0

/-- The gradient of the score of query `r` against key `c`. -/
def g (r c : Fin 16384) : EReal := A.p h r c * ∑ l : Fin 128, A.d (ix2 r (lane h l)) * A.v (ix2 c (lane h l))

def dq (r : Fin 16384) (l : Fin 128) : EReal := ∑ c : Fin 16384, A.g h r c * A.k (ix2 c (lane h l))
def dk (c : Fin 16384) (l : Fin 128) : EReal := ∑ r : Fin 16384, A.q (ix2 r (lane h l)) * A.g h r c
def dv (c : Fin 16384) (l : Fin 128) : EReal := ∑ r : Fin 16384, A.d (ix2 r (lane h l)) * A.p h r c

end Arrs

theorem sum_keys (f : Fin 16384 → EReal) : ∑ c, f c = ∑ g : Fin 16, ∑ c : Fin 1024, f (key g c) :=
  Fin.sum_univ_tiles 16 1024 rfl f

/-! ## The inputs of a point -/

variable (m : (ℓ : Loc nD τ sig) → Buf (Elt Ideal) ℓ) (c : Dev nD)

def arrs : Arrs := ⟨entry m c main_v62, entry m c main_v119, entry m c main_v86, entry m c main_v98⟩

theorem points : (cfg m).N = 256 := N_0

def headOf (t : Fin (cfg m).N) : Fin 16 := ⟨t.val / 16, by have := Nat.lt_of_lt_of_eq t.isLt (points m); omega⟩
def groupOf (t : Fin (cfg m).N) : Fin 16 := ⟨t.val % 16, by omega⟩

theorem index_in : ∀ t : Fin grid0.N,
    cc0_transform_0 (grid0.coords t) = ![0, t.val / 16] ∧ cc0_transform_1 (grid0.coords t) = ![0, t.val / 16]
    ∧ cc0_transform_2 (grid0.coords t) = ![t.val % 16, t.val / 16] ∧ cc0_transform_3 (grid0.coords t) = ![t.val % 16, t.val / 16]
    ∧ cc0_transform_4 (grid0.coords t) = ![t.val / 16, 0, 0] ∧ cc0_transform_5 (grid0.coords t) = ![t.val / 16, t.val % 16, 0]
    ∧ cc0_transform_6 (grid0.coords t) = ![t.val / 16, t.val % 16, 0] := by decide +kernel

theorem index_0 (t : Fin (cfg m).N) : ((cfg m).win 0).index t = ![0, t.val / 16] := (index_in t).1
theorem index_1 (t : Fin (cfg m).N) : ((cfg m).win 1).index t = ![0, t.val / 16] := (index_in t).2.1
theorem index_2 (t : Fin (cfg m).N) : ((cfg m).win 2).index t = ![t.val % 16, t.val / 16] := (index_in t).2.2.1
theorem index_3 (t : Fin (cfg m).N) : ((cfg m).win 3).index t = ![t.val % 16, t.val / 16] := (index_in t).2.2.2.1
theorem index_4 (t : Fin (cfg m).N) : ((cfg m).win 4).index t = ![t.val / 16, 0, 0] := (index_in t).2.2.2.2.1
theorem index_5 (t : Fin (cfg m).N) : ((cfg m).win 5).index t = ![t.val / 16, t.val % 16, 0] := (index_in t).2.2.2.2.2.1
theorem index_6 (t : Fin (cfg m).N) : ((cfg m).win 6).index t = ![t.val / 16, t.val % 16, 0] := (index_in t).2.2.2.2.2.2

theorem insAt_q (t : Fin (cfg m).N) (r : Fin 16384) (l : Fin 128) : (insAt m c t).q (ix2 r l) = (arrs m c).q (ix2 r (lane (headOf m t) l)) := by
  show blkAt m c 0 t (ix2 r l) = entry m c main_v62 _
  unfold blkAt
  refine congrArg (entry m c main_v62) ?_
  blk_ext [index_0 m t, lane, headOf]

theorem insAt_d (t : Fin (cfg m).N) (r : Fin 16384) (l : Fin 128) : (insAt m c t).d (ix2 r l) = (arrs m c).d (ix2 r (lane (headOf m t) l)) := by
  show blkAt m c 1 t (ix2 r l) = entry m c main_v119 _
  unfold blkAt
  refine congrArg (entry m c main_v119) ?_
  blk_ext [index_1 m t, lane, headOf]

theorem insAt_k (t : Fin (cfg m).N) (r : Fin 1024) (l : Fin 128) :
    (insAt m c t).k (ix2 r l) = (arrs m c).k (ix2 (key (groupOf m t) r) (lane (headOf m t) l)) := by
  show blkAt m c 2 t (ix2 r l) = entry m c main_v86 _
  unfold blkAt
  refine congrArg (entry m c main_v86) ?_
  blk_ext [index_2 m t, lane, headOf, key, groupOf]

theorem insAt_v (t : Fin (cfg m).N) (r : Fin 1024) (l : Fin 128) :
    (insAt m c t).v (ix2 r l) = (arrs m c).v (ix2 (key (groupOf m t) r) (lane (headOf m t) l)) := by
  show blkAt m c 3 t (ix2 r l) = entry m c main_v98 _
  unfold blkAt
  refine congrArg (entry m c main_v98) ?_
  blk_ext [index_3 m t, lane, headOf, key, groupOf]

theorem weightAt_eq (t : Fin (cfg m).N) (r : Fin 16384) (x : Fin 1024) :
    weightAt (insAt m c t) (grid0.coords t 1).val r x = (arrs m c).p (headOf m t) r (key (groupOf m t) x) := by
  unfold weightAt Arrs.p
  simp only [insAt_q, insAt_k]
  exact if_congr (by rw [coords_group]; simp only [key, groupOf]; omega) rfl rfl

theorem gradAt_eq (t : Fin (cfg m).N) (r : Fin 16384) (x : Fin 1024) :
    gradAt (insAt m c t) (grid0.coords t 1).val r x = (arrs m c).g (headOf m t) r (key (groupOf m t) x) := by
  unfold gradAt Arrs.g
  rw [weightAt_eq]
  simp only [insAt_d, insAt_v]

/-! ## The three arrays -/

theorem finalAt_dkt (t : Fin (cfg m).N) (l : Fin 128) (x : Fin 1024) :
    (finalAt m c t).dkt (ix2 l x) = (arrs m c).dk (headOf m t) (key (groupOf m t) x) l := by
  unfold finalAt Arrs.dk
  rw [final_dkt]
  simp only [gradAt_eq, insAt_q]

theorem finalAt_dvt (t : Fin (cfg m).N) (l : Fin 128) (x : Fin 1024) :
    (finalAt m c t).dvt (ix2 l x) = (arrs m c).dv (headOf m t) (key (groupOf m t) x) l := by
  unfold finalAt Arrs.dv
  rw [final_dvt]
  simp only [weightAt_eq, insAt_d]

theorem finalAt_dq (t : Fin (cfg m).N) (r : Fin 16384) (l : Fin 128) :
    (finalAt m c t).dq (ix3 (0 : Fin 1) r l) = dqIn (grid0.coords t) (dqBefore m c t.val) (ix3 (0 : Fin 1) r l)
      + ∑ x : Fin 1024, (arrs m c).g (headOf m t) r (key (groupOf m t) x) * (arrs m c).k (ix2 (key (groupOf m t) x) (lane (headOf m t) l)) := by
  unfold finalAt
  rw [final_dq]
  simp only [gradAt_eq, insAt_k]

/-- What the groups before `n` give to head `h`'s query gradient. -/
def dqUpto (h : Fin 16) (r : Fin 16384) (l : Fin 128) (n : ℕ) : EReal :=
  ∑ g ∈ Finset.range n, if hg : g < 16 then
    ∑ x : Fin 1024, (arrs m c).g h r (key ⟨g, hg⟩ x) * (arrs m c).k (ix2 (key ⟨g, hg⟩ x) (lane h l)) else 0

theorem dqUpto_all (h : Fin 16) (r : Fin 16384) (l : Fin 128) : dqUpto m c h r l 16 = (arrs m c).dq h r l := by
  unfold dqUpto Arrs.dq
  rw [sum_keys, Finset.sum_range]
  exact Finset.sum_congr rfl fun g _ => dif_pos g.isLt

theorem dq_step (h : Fin 16) (n : ℕ) (hn : n < 16) (ht : h.val * 16 + n < (cfg m).N) (r : Fin 16384) (l : Fin 128)
    (hb : dqIn (grid0.coords ⟨h.val * 16 + n, ht⟩) (dqBefore m c (h.val * 16 + n)) (ix3 (0 : Fin 1) r l) = dqUpto m c h r l n) :
    (finalAt m c ⟨h.val * 16 + n, ht⟩).dq (ix3 (0 : Fin 1) r l) = dqUpto m c h r l (n + 1) := by
  have e1 : headOf m ⟨h.val * 16 + n, ht⟩ = h := Fin.ext (by simp only [headOf]; omega)
  have e2 : groupOf m ⟨h.val * 16 + n, ht⟩ = ⟨n, hn⟩ := Fin.ext (by simp only [groupOf]; omega)
  rw [finalAt_dq, hb, e1, e2]
  unfold dqUpto
  rw [Finset.sum_range_succ, dif_pos hn]

theorem dq_before (h : Fin 16) (r : Fin 16384) (l : Fin 128) : ∀ (n : ℕ) (hn : n < 16) (ht : h.val * 16 + n < (cfg m).N),
    dqIn (grid0.coords ⟨h.val * 16 + n, ht⟩) (dqBefore m c (h.val * 16 + n)) (ix3 (0 : Fin 1) r l) = dqUpto m c h r l n
  | 0, _, ht => by
    unfold dqIn
    rw [if_pos ((atStart_iff _).mpr (by show (h.val * 16 + 0) % 16 = 0; omega))]
    show k0_pay32 (F := Ideal) (ix3 (0 : Fin 1) r l) = (0 : EReal)
    pointwise! [k0_pay32]
  | n + 1, hn, ht => by
    have h1 := dq_step m c h n (by omega) (by omega) r l (dq_before h r l n (by omega) (by omega))
    unfold dqIn
    rw [if_neg fun hs => by have h0 : (h.val * 16 + (n + 1)) % 16 = 0 := (atStart_iff _).mp hs; omega]
    show dqBefore m c (h.val * 16 + n + 1) (ix3 (0 : Fin 1) r l) = _
    rw [dqBefore_succ m c _ (by omega)]
    exact h1

theorem finalAt_dq_last (t : Fin (cfg m).N) (hl : t.val % 16 = 15) (r : Fin 16384) (l : Fin 128) :
    (finalAt m c t).dq (ix3 (0 : Fin 1) r l) = (arrs m c).dq (headOf m t) r l := by
  have ht := t.isLt
  obtain ⟨h, h16, rfl⟩ : ∃ (h : Fin 16) (h16 : h.val * 16 + 15 < (cfg m).N), t = ⟨h.val * 16 + 15, h16⟩ := by
    refine ⟨headOf m t, ?_, Fin.ext ?_⟩
    · simp only [headOf]; omega
    · simp only [headOf]; omega
  rw [dq_step m c h 15 (by omega) _ r l (dq_before m c h r l 15 (by omega) _), dqUpto_all]
  exact congrArg (fun h => (arrs m c).dq h r l) (Fin.ext (by simp only [headOf]; omega))

/-- Some table, to read the windows' schedules at. -/
def someTable : (pcfg0 (F := Ideal)).Adm := adm fun _ _ => Classical.arbitrary _

theorem covers_dq : ((cfg m).win 4).Covers := (by decide +kernel : ((cfg0 someTable).win 4).Covers)
theorem covers_dk : ((cfg m).win 5).Covers := (by decide +kernel : ((cfg0 someTable).win 5).Covers)
theorem covers_dv : ((cfg m).win 6).Covers := (by decide +kernel : ((cfg0 someTable).win 6).Covers)

def dqArr (A : Arrs) : FVec Ideal S16x16384x128 .f32 := fun j => A.dq (j 0) (j 1) (j 2)
def dkArr (A : Arrs) : FVec Ideal S16x16384x128 .f32 := fun j => A.dk (j 0) (j 1) (j 2)
def dvArr (A : Arrs) : FVec Ideal S16x16384x128 .f32 := fun j => A.dv (j 0) (j 1) (j 2)

theorem block_idx {n : ℕ} (y : (⟨3, ![1, n, 128]⟩ : Shape).Idx) : ∃ (r : Fin n) (l : Fin 128), y = ix3 (0 : Fin 1) r l := by
  refine ⟨y 1, y 2, funext fun a => ?_⟩
  fin_cases a
  · exact Fin.ext (Nat.lt_one_iff.mp (y 0).isLt)
  · rfl
  · rfl

theorem arr_dq : (dats m 0 c).arrAt 4 (cfg m).N = dqArr (arrs m c) := by
  refine (dats m 0 c).arrAt_eq_of_covers 4 _ (covers_dq m) fun t hf y => ?_
  blk_simp
  rw [after_4]
  obtain ⟨r, l, rfl⟩ := block_idx (n := 16384) y
  have e : (((cfg m).win 4).blk t).view.emb (ix3 (0 : Fin 1) r l) = ix3 (headOf m t) r l := by
    blk_ext [index_4 m t, headOf]
  rw [e]
  exact finalAt_dq_last m c t ((flush_dq m t).mp hf) r l

theorem arr_dk : (dats m 0 c).arrAt 5 (cfg m).N = dkArr (arrs m c) := by
  refine (dats m 0 c).arrAt_eq_of_covers 5 _ (covers_dk m) fun t hf y => ?_
  blk_simp
  rw [after_5]
  obtain ⟨r, l, rfl⟩ := block_idx (n := 1024) y
  have e : (((cfg m).win 5).blk t).view.emb (ix3 (0 : Fin 1) r l) = ix3 (headOf m t) (key (groupOf m t) r) l := by
    blk_ext [index_5 m t, headOf, groupOf, key]
  rw [e]
  refine Eq.trans ?_ (finalAt_dkt m c t l r)
  pointwise! [k0_pay56]

theorem arr_dv : (dats m 0 c).arrAt 6 (cfg m).N = dvArr (arrs m c) := by
  refine (dats m 0 c).arrAt_eq_of_covers 6 _ (covers_dv m) fun t hf y => ?_
  blk_simp
  rw [after_6]
  obtain ⟨r, l, rfl⟩ := block_idx (n := 1024) y
  have e : (((cfg m).win 6).blk t).view.emb (ix3 (0 : Fin 1) r l) = ix3 (headOf m t) (key (groupOf m t) r) l := by
    blk_ext [index_6 m t, headOf, groupOf, key]
  rw [e]
  refine Eq.trans ?_ (finalAt_dvt m c t l r)
  pointwise! [k0_pay1]

end Cert.AttnBwd

end
-- ==== Proof.AttnBwd.Spec.lean ====
/-
  One head of the attention and its gradient, over the real numbers: what the kernel's sums over tiles come to, and what the
  derivative of the forward lines comes to.
-/
module

public import Idealize.ShloMosaic.Lib.Pointwise
public import Mathlib.Analysis.SpecialFunctions.Log.Basic

@[expose] public section

noncomputable section

namespace Cert.AttnBwd

open Idealize.ShloMosaic

/-- A sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many extended reals, none of them infinite upwards and one of them real, is real. -/
theorem fold_max_real {ι : Type} [Fintype ι] (f : ι → EReal) (h : ∀ i, f i ≠ ⊤) (i : ι) (hi : f i ≠ ⊥) :
    ((Finset.univ.fold max ⊥ f).toReal : EReal) = Finset.univ.fold max ⊥ f := by
  refine EReal.coe_toReal (ne_of_lt ?_) (fun hb => hi ?_)
  · exact Finset.fold_max_lt _ |>.2 ⟨bot_lt_top, fun j _ => lt_top_iff_ne_top.2 (h j)⟩
  · exact le_bot_iff.1 (hb ▸ (Finset.le_fold_max _).2 (Or.inr ⟨i, Finset.mem_univ i, le_rfl⟩))

/-- The arguments of one head. -/
structure Head where
  q : Fin 16384 → Fin 64 → ℝ
  k : Fin 16384 → Fin 64 → ℝ
  v : Fin 16384 → Fin 64 → ℝ
  c : Fin 16384 → ℝ
  d : Fin 16384 → Fin 64 → ℝ

namespace Head

variable (H : Head)

/-- The score of query `r` against key `s`. -/
def score (r s : Fin 16384) : ℝ := (∑ j, H.q r j * H.k s j) * (1 / 8) + H.c r - H.c s

/-- The score, minus infinity where the key stands behind the query. -/
def seen (r s : Fin 16384) : EReal := if s.val ≤ r.val then (H.score r s : EReal) else ⊥

/-- The largest score of a row. -/
def top (r : Fin 16384) : ℝ := (Finset.univ.fold max ⊥ (H.seen r)).toReal

theorem top_eq (r : Fin 16384) : Finset.univ.fold max ⊥ (H.seen r) = (H.top r : EReal) := by
  refine (fold_max_real _ (fun s => ?_) r ?_).symm
  · unfold seen
    by_cases h : s.val ≤ r.val
    · rw [if_pos h]
      exact EReal.coe_ne_top _
    · rw [if_neg h]
      exact bot_ne_top
  · unfold seen
    rw [if_pos le_rfl]
    exact EReal.coe_ne_bot _

def e (r s : Fin 16384) : ℝ := if s.val ≤ r.val then Real.exp (H.score r s - H.top r) else 0
def l (r : Fin 16384) : ℝ := ∑ s, H.e r s

theorem e_nonneg (r s : Fin 16384) : 0 ≤ H.e r s := by
  unfold e
  by_cases h : s.val ≤ r.val
  · rw [if_pos h]
    exact (Real.exp_pos _).le
  · rw [if_neg h]

theorem l_pos (r : Fin 16384) : 0 < H.l r := by
  refine Finset.sum_pos' (fun s _ => H.e_nonneg r s) ⟨r, Finset.mem_univ r, ?_⟩
  unfold e
  rw [if_pos le_rfl]
  exact Real.exp_pos _

/-- The weight of key `s` for query `r`. -/
def p (r s : Fin 16384) : ℝ := H.e r s / H.l r

def lse (r : Fin 16384) : ℝ := H.top r + Real.log (H.l r)

theorem p_eq (r s : Fin 16384) (h : s.val ≤ r.val) : Real.exp (H.score r s - H.lse r) = H.p r s := by
  unfold p e lse
  rw [if_pos h, ← sub_sub, Real.exp_sub _ (Real.log _), Real.exp_log (H.l_pos r)]

theorem p_zero (r s : Fin 16384) (h : ¬ s.val ≤ r.val) : H.p r s = 0 := by
  unfold p e
  rw [if_neg h, zero_div]

def o (r : Fin 16384) (j : Fin 64) : ℝ := ∑ s, H.p r s * H.v s j

/-- The row sum of the output times its cotangent. -/
def delta (r : Fin 16384) : ℝ := ∑ j, H.d r j * H.o r j

/-- The cotangent of a weight. -/
def dp (r s : Fin 16384) : ℝ := ∑ j, H.d r j * H.v s j

/-- The gradient of a score. -/
def g (r s : Fin 16384) : ℝ := H.p r s * (H.dp r s + -H.delta r)

theorem g_zero (r s : Fin 16384) (h : ¬ s.val ≤ r.val) : H.g r s = 0 := by
  unfold g
  rw [H.p_zero r s h, zero_mul]

def dq (r : Fin 16384) (j : Fin 64) : ℝ := (∑ s, H.g r s * H.k s j) * (1 / 8)
def dk (s : Fin 16384) (j : Fin 64) : ℝ := ∑ r, H.q r j * (1 / 8) * H.g r s
def dv (s : Fin 16384) (j : Fin 64) : ℝ := ∑ r, H.d r j * H.p r s
def dc (r : Fin 16384) : ℝ := (∑ s, H.g r s) - ∑ t, H.g t r

theorem delta_eq (r : Fin 16384) : H.delta r = (∑ s, H.dp r s * H.e r s) / H.l r := by
  unfold delta o dp p
  rw [Finset.sum_div]
  simp only [Finset.mul_sum, Finset.sum_mul, Finset.sum_div]
  rw [Finset.sum_comm]
  refine Finset.sum_congr rfl fun s _ => Finset.sum_congr rfl fun j _ => ?_
  ring

/-- The gradient of a score as the derivative of the quotient gives it. -/
theorem g_quotient (r s : Fin 16384) :
    (H.dp r s / H.l r + -∑ t, H.dp r t * (1 / (H.l r * H.l r)) * H.e r t) * H.e r s = H.g r s := by
  have hl : H.l r ≠ 0 := (H.l_pos r).ne'
  have : ∑ t, H.dp r t * (1 / (H.l r * H.l r)) * H.e r t = (∑ t, H.dp r t * H.e r t) * (1 / (H.l r * H.l r)) := by
    rw [Finset.sum_mul]
    exact Finset.sum_congr rfl fun t _ => by ring
  unfold g p
  rw [this, delta_eq]
  field_simp

end Head

/-! ## The tiles -/

/-- A head's tile of 128 columns: its own 64 features first where the head is even, the terms that ride with them after. -/
def tile (h : Fin 16) (own ext : Fin 64 → ℝ) (l : Fin 128) : ℝ :=
  if h.val % 2 = 0 then (if hl : l.val < 64 then own ⟨l.val, hl⟩ else ext ⟨l.val - 64, by omega⟩)
  else (if hl : l.val < 64 then ext ⟨l.val, hl⟩ else own ⟨l.val - 64, by omega⟩)

/-- The column of a head's own feature `j`, and of term `j`. -/
def ownLane (h : Fin 16) (j : Fin 64) : Fin 128 := if h.val % 2 = 0 then ⟨j.val, by omega⟩ else ⟨64 + j.val, by omega⟩
def extLane (h : Fin 16) (j : Fin 64) : Fin 128 := if h.val % 2 = 0 then ⟨64 + j.val, by omega⟩ else ⟨j.val, by omega⟩

theorem tile_own (h : Fin 16) (own ext : Fin 64 → ℝ) (j : Fin 64) : tile h own ext (ownLane h j) = own j := by
  unfold tile ownLane
  by_cases he : h.val % 2 = 0 <;> simp [he]

theorem tile_ext (h : Fin 16) (own ext : Fin 64 → ℝ) (j : Fin 64) : tile h own ext (extLane h j) = ext j := by
  unfold tile extLane
  by_cases he : h.val % 2 = 0 <;> simp [he]

/-- A sum over a tile is the sum over the features and the sum over the terms. -/
theorem sum_tile (h : Fin 16) (f : Fin 128 → ℝ) : ∑ l, f l = (∑ j, f (ownLane h j)) + ∑ j, f (extLane h j) := by
  rw [Fin.sum_univ_two_halves 64 64 rfl f]
  unfold ownLane extLane
  by_cases he : h.val % 2 = 0
  · simp only [if_pos he]
  · simp only [if_neg he]
    rw [add_comm]

theorem sum_tile_mul (h : Fin 16) (a x b y : Fin 64 → ℝ) :
    ∑ l, tile h a x l * tile h b y l = (∑ j, a j * b j) + ∑ j, x j * y j := by
  rw [sum_tile h]
  simp only [tile_own, tile_ext]

/-- The terms that ride with a query, a key, a value and a cotangent. -/
def extQ (x : ℝ) (j : Fin 64) : ℝ := if j.val = 0 then x else if j.val < 3 then 0 else if j.val < 6 then 1 else 0
def extK (y : ℝ) (j : Fin 64) : ℝ := if j.val < 3 then 1 else if j.val = 3 then y else 0
def extV (j : Fin 64) : ℝ := if j.val < 3 then 1 else 0
def extD (x : ℝ) (j : Fin 64) : ℝ := if j.val = 0 then x else 0

theorem extK_zero (y : ℝ) : extK y 0 = 1 := by simp [extK]
theorem extQ_three (x : ℝ) : extQ x 3 = 1 := by simp [extQ]

theorem sum_at (i : Fin 64) (x : ℝ) : ∑ j : Fin 64, (if j.val = i.val then x else 0) = x := by
  simp only [← Fin.ext_iff]
  rw [Finset.sum_ite_eq' Finset.univ i fun _ => x, if_pos (Finset.mem_univ i)]

theorem sum_extQK (x y : ℝ) : ∑ j, extQ x j * extK y j = x + y := by
  rw [show x + y = ∑ j : Fin 64, ((if j.val = (0 : Fin 64).val then x else 0) + (if j.val = (3 : Fin 64).val then y else 0)) by
    rw [Finset.sum_add_distrib, sum_at, sum_at]]
  refine Finset.sum_congr rfl fun j _ => ?_
  unfold extQ extK
  show _ = (if j.val = 0 then x else 0) + (if j.val = 3 then y else 0)
  by_cases h0 : j.val = 0
  · simp [h0]
  · by_cases h3 : j.val = 3
    · simp [h3]
    · by_cases hl : j.val < 3 <;> simp [h0, h3, hl]

theorem sum_extDV (x : ℝ) : ∑ j, extD x j * extV j = x := by
  rw [show x = ∑ j : Fin 64, (if j.val = (0 : Fin 64).val then x else 0) by rw [sum_at]]
  refine Finset.sum_congr rfl fun j _ => ?_
  rw [sum_at]
  unfold extD extV
  show _ = (if j.val = 0 then x else 0)
  by_cases h0 : j.val = 0 <;> simp [h0]

end Cert.AttnBwd

end
-- ==== Proof.AttnBwd.Values.lean ====
/-
  What the kernel's arrays hold where the arguments are real numbers: the saved values, the packed tiles, and the three sums.
-/
module

public import proofs.«01_k».proof.Proof.AttnBwd.Host
public import proofs.«01_k».proof.Proof.AttnBwd.Arrays
public import proofs.«01_k».proof.Proof.AttnBwd.Spec

@[expose] public section

set_option maxRecDepth 16384

noncomputable section

namespace Cert.AttnBwd

open Idealize.ShloMosaic Idealize.ShloMosaic.TcCoe Idealize.SL.Sem
open Cert.Kernel2Ideal Cert.Kernel2Ideal.Gen

/-! ## Constants, and the choice by a head's parity -/

theorem eighth : Ideal.ofBits FTy.f32 1040187392#32 = ((1 / 8 : ℝ) : EReal) := by
  simp [Ideal.ofBits, Ideal.ieee, -EReal.coe_mul, -EReal.coe_neg]
  norm_num

theorem minus_infinity : Ideal.ofBits FTy.f32 4286578688#32 = (⊥ : EReal) := by
  simp [Ideal.ofBits, Ideal.ieee]

theorem select_even {α : Type} (h : Fin 16) (a b : α) :
    Scalar.select (IntOp.cmpi CmpIPredicate.eq (IntOp.andi (BitVec.ofNat 32 ↑h) 1#32) 0#32) a b = if h.val % 2 = 0 then a else b := by
  have : (IntOp.cmpi CmpIPredicate.eq (IntOp.andi (BitVec.ofNat 32 ↑h) 1#32) 0#32 = 1) ↔ h.val % 2 = 0 := by
    revert h
    decide
  unfold Scalar.select
  by_cases he : h.val % 2 = 0
  · rw [if_pos he, if_pos (this.2 he)]
  · rw [if_neg he, if_neg (mt this.1 he)]

theorem select_seen {α : Type} (r s : Fin 16384) (a b : α) :
    Scalar.select (IntOp.cmpi CmpIPredicate.sle (BitVec.ofNat 32 ↑s) (BitVec.ofNat 32 ↑r)) a b = if s.val ≤ r.val then a else b := by
  have : IntOp.cmpi CmpIPredicate.sle (BitVec.ofNat 32 s.val) (BitVec.ofNat 32 r.val) = if s.val ≤ r.val then 1#1 else 0#1 := by
    by_cases hrc : s.val ≤ r.val
    · rw [if_pos hrc]
      word_cmp
    · rw [if_neg hrc]
      word_cmp
  rw [this]
  unfold Scalar.select
  by_cases hrc : s.val ≤ r.val
  · simp [hrc]
  · simp [hrc]

/-! ## The arguments -/

structure Args where
  q : FVec Ideal S16x16384x64 .f32
  k : FVec Ideal S16x16384x64 .f32
  v : FVec Ideal S16x16384x64 .f32
  c : FVec Ideal S16x16384 .f32
  d : FVec Ideal S16x16384x64 .f32

namespace Args

/-- One head of the arguments, as real numbers. -/
def head (A : Args) (h : Fin 16) : Head where
  q r j := (A.q (ix3 h r j)).toReal
  k r j := (A.k (ix3 h r j)).toReal
  v r j := (A.v (ix3 h r j)).toReal
  c r := (A.c (ix2 h r)).toReal
  d r j := (A.d (ix3 h r j)).toReal

/-- Every element of the arguments is a real number. -/
structure Finite (A : Args) : Prop where
  q : ∀ h r j, A.q (ix3 h r j) = ((A.head h).q r j : EReal)
  k : ∀ h r j, A.k (ix3 h r j) = ((A.head h).k r j : EReal)
  v : ∀ h r j, A.v (ix3 h r j) = ((A.head h).v r j : EReal)
  c : ∀ h r, A.c (ix2 h r) = ((A.head h).c r : EReal)
  d : ∀ h r j, A.d (ix3 h r j) = ((A.head h).d r j : EReal)

end Args

/-! ## The saved values -/

theorem exps_read_at (x : FVec Ideal S16x16384x16384 .f32) (h : Fin 16) (r s : Fin 16384) :
    exps x (ix3 h r s) = Ideal.exp (x (ix3 h r s) - tops x (ix2 h r)) := by
  unfold exps
  pointwise!

theorem logSums_read_at (t : FVec Ideal S16x16384 .f32) (l : FVec Ideal S16x16384x1 .f32) (h : Fin 16) (r : Fin 16384) :
    logSums (column t) l (ix2 h r) = t (ix2 h r) + Ideal.log (l (ix3 h r 0)) := by
  unfold logSums column
  pointwise!

theorem deltas_read_at (e : FVec Ideal S16x16384x16384 .f32) (l : FVec Ideal S16x16384x1 .f32) (v d : FVec Ideal S16x16384x64 .f32)
    (h : Fin 16) (r : Fin 16384) : deltas e l v d (ix2 h r) =
      ∑ j : Fin 64, d (ix3 h r j) * ∑ s : Fin 16384, Ideal.div (e (ix3 h r s)) (l (ix3 h r 0)) * v (ix3 h s j) := by
  unfold deltas
  pointwise!

variable {A : Args} (hA : A.Finite) (h : Fin 16)
include hA

theorem masked_at (r s : Fin 16384) : masked A.q A.k A.c (ix3 h r s) = (A.head h).seen r s := by
  unfold masked Head.seen Head.score
  pointwise
  rw [select_seen, minus_infinity, eighth]
  simp only [hA.q, hA.k, hA.c, ← EReal.coe_mul, ← coe_sum, ← EReal.coe_add, ← EReal.coe_sub]

theorem tops_at (r : Fin 16384) : tops (masked A.q A.k A.c) (ix2 h r) = ((A.head h).top r : EReal) := by
  unfold tops
  pointwise
  rw [minus_infinity, ← Head.top_eq]
  simp only [masked_at hA]

/-- The exponential of a score less its row's largest. -/
theorem exp_seen (r s : Fin 16384) : Ideal.exp ((A.head h).seen r s - ((A.head h).top r : EReal)) = ((A.head h).e r s : EReal) := by
  unfold Head.seen Head.e
  by_cases hs : s.val ≤ r.val
  · rw [if_pos hs, if_pos hs, ← EReal.coe_sub, Ideal.exp_coe]
  · rw [if_neg hs, if_neg hs]
    rfl

theorem exps_at (r s : Fin 16384) : exps (masked A.q A.k A.c) (ix3 h r s) = ((A.head h).e r s : EReal) := by
  rw [exps_read_at, masked_at hA, tops_at hA, exp_seen hA]

theorem sums_at (r : Fin 16384) : sums (exps (masked A.q A.k A.c)) (ix3 h r 0) = ((A.head h).l r : EReal) := by
  unfold sums Head.l
  pointwise
  rw [coe_sum]
  exact Finset.sum_congr rfl fun s _ => exps_at hA h r s

theorem lse_at (r : Fin 16384) : lse A.q A.k A.c (ix2 h r) = ((A.head h).lse r : EReal) := by
  unfold lse Head.lse
  rw [logSums_read_at, tops_at hA, sums_at hA, Ideal.log_coe, if_neg (not_le.2 ((A.head h).l_pos r)), ← EReal.coe_add]

theorem div_l (r : Fin 16384) (x : ℝ) : Ideal.div (x : EReal) ((A.head h).l r : EReal) = ((x / (A.head h).l r : ℝ) : EReal) := by
  rw [Ideal.div_coe ((A.head h).l_pos r).ne', ← EReal.coe_mul, mul_one_div]

theorem delta_at (r : Fin 16384) : delta A.q A.k A.c A.v A.d (ix2 h r) = ((A.head h).delta r : EReal) := by
  unfold delta Head.delta Head.o Head.p
  rw [deltas_read_at]
  simp only [exps_at hA, sums_at hA, div_l hA, hA.d, hA.v, ← EReal.coe_mul, ← coe_sum]

/-! ## The tiles -/

omit hA

theorem six_at (a b c d e f : FVec Ideal S16x16384x1 .f32) (z : FVec Ideal S16x16384x58 .f32) (r : Fin 16384) (j : Fin 64)
    (y : Fin 7 → EReal) (ha : a (ix3 h r 0) = y 0) (hb : b (ix3 h r 0) = y 1) (hc : c (ix3 h r 0) = y 2) (hd : d (ix3 h r 0) = y 3)
    (he : e (ix3 h r 0) = y 4) (hf : f (ix3 h r 0) = y 5) (hz : ∀ i, z (ix3 h r i) = y 6) :
    six a b c d e f z (ix3 h r j) = y ⟨min j.val 6, by omega⟩ := by
  unfold six
  pointwise
  rcases j with ⟨j, hj⟩
  rcases j with _ | _ | _ | _ | _ | _ | j
  · exact ha
  · exact hb
  · exact hc
  · exact hd
  · exact he
  · exact hf
  · simp [hz]

theorem three_at (a b c : FVec Ideal S16x16384x1 .f32) (z : FVec Ideal S16x16384x61 .f32) (r : Fin 16384) (j : Fin 64)
    (y : Fin 4 → EReal) (ha : a (ix3 h r 0) = y 0) (hb : b (ix3 h r 0) = y 1) (hc : c (ix3 h r 0) = y 2) (hz : ∀ i, z (ix3 h r i) = y 3) :
    three a b c z (ix3 h r j) = y ⟨min j.val 3, by omega⟩ := by
  unfold three
  pointwise
  rcases j with ⟨j, hj⟩
  rcases j with _ | _ | _ | j
  · exact ha
  · exact hb
  · exact hc
  · simp [hz]

theorem packed_at (own ext : FVec Ideal S16x16384x64 .f32) (r : Fin 16384) (l : Fin 128) (x y : Fin 64 → ℝ)
    (hx : ∀ j, own (ix3 h r j) = (x j : EReal)) (hy : ∀ j, ext (ix3 h r j) = (y j : EReal)) :
    packed own ext ext own (ix2 r (lane h l)) = (tile h x y l : EReal) := by
  unfold packed evenHead tile
  pointwise [lane]
  rw [select_even]
  by_cases he : h.val % 2 = 0 <;> by_cases hl : l.val < 64 <;> simp [he, hl, hx, hy]

theorem column_at (x : FVec Ideal S16x16384 .f32) (r : Fin 16384) : column x (ix3 h r 0) = x (ix2 h r) := by
  unfold column
  pointwise!

theorem half_at (x : FVec Ideal S16x16384 .f32) (r : Fin 16384) : half x (ix2 h r) = x (ix2 h r) := by
  unfold half
  pointwise!

theorem rest_at (x : FVec Ideal S16x16384 .f32) (r : Fin 16384) (y : ℝ) (hy : x (ix2 h r) = (y : EReal)) : rest x (ix2 h r) = ((0 : ℝ) : EReal) := by
  unfold rest half
  pointwise
  rw [hy, ← EReal.coe_sub, sub_self]

/-- The three parts of a value at half precision: over the reals, the value and two zeros. -/
theorem parts_at (x : FVec Ideal S16x16384 .f32) (r : Fin 16384) (y : ℝ) (hy : x (ix2 h r) = (y : EReal)) :
    column (half x) (ix3 h r 0) = (y : EReal) ∧ column (half (rest x)) (ix3 h r 0) = ((0 : ℝ) : EReal) ∧
      column (half (rest (rest x))) (ix3 h r 0) = ((0 : ℝ) : EReal) := by
  refine ⟨?_, ?_, ?_⟩ <;> rw [column_at, half_at]
  · exact hy
  · exact rest_at h x r y hy
  · exact rest_at h _ r 0 (rest_at h x r y hy)

theorem one_at (r : Fin 16384) : column (ones (F := Ideal)) (ix3 h r 0) = ((1 : ℝ) : EReal) := by
  unfold column ones
  pointwise
  rfl

theorem zero58_at (r : Fin 16384) (i : Fin 58) : zeros58 (F := Ideal) (ix3 h r i) = ((0 : ℝ) : EReal) := by
  unfold zeros58
  pointwise
  rfl

theorem zero61_at (r : Fin 16384) (i : Fin 61) : zeros61 (F := Ideal) (ix3 h r i) = ((0 : ℝ) : EReal) := by
  unfold zeros61
  pointwise
  rfl

theorem packedQ_at (q : FVec Ideal S16x16384x64 .f32) (x : FVec Ideal S16x16384 .f32) (r : Fin 16384) (l : Fin 128) (a : Fin 64 → ℝ) (y : ℝ)
    (ha : ∀ j, q (ix3 h r j) = (a j : EReal)) (hy : x (ix2 h r) = (y : EReal)) :
    packedQ q x (ix2 r (lane h l)) = (tile h (fun j => a j * (1 / 8)) (extQ y) l : EReal) := by
  obtain ⟨h0, h1, h2⟩ := parts_at h x r y hy
  refine packed_at h _ _ r l _ _ (fun j => ?_) (fun j => ?_)
  · unfold scaled
    pointwise
    rw [ha, eighth, ← EReal.coe_mul]
  · rw [six_at h _ _ _ _ _ _ _ r j ![(y : EReal), ((0 : ℝ) : EReal), ((0 : ℝ) : EReal), ((1 : ℝ) : EReal), ((1 : ℝ) : EReal), ((1 : ℝ) : EReal), ((0 : ℝ) : EReal)]
      h0 h1 h2 (one_at h r) (one_at h r) (one_at h r) (zero58_at h r)]
    rcases j with ⟨j, hj⟩
    rcases j with _ | _ | _ | _ | _ | _ | j <;> simp [extQ]
    rw [if_neg (by omega), if_neg (by omega), EReal.coe_zero]

theorem packedK_at (k : FVec Ideal S16x16384x64 .f32) (x : FVec Ideal S16x16384 .f32) (r : Fin 16384) (l : Fin 128) (a : Fin 64 → ℝ) (y : ℝ)
    (ha : ∀ j, k (ix3 h r j) = (a j : EReal)) (hy : x (ix2 h r) = (y : EReal)) :
    packedK k x (ix2 r (lane h l)) = (tile h a (extK y) l : EReal) := by
  obtain ⟨h0, h1, h2⟩ := parts_at h x r y hy
  refine packed_at h _ _ r l _ _ ha (fun j => ?_)
  rw [six_at h _ _ _ _ _ _ _ r j ![((1 : ℝ) : EReal), ((1 : ℝ) : EReal), ((1 : ℝ) : EReal), (y : EReal), ((0 : ℝ) : EReal), ((0 : ℝ) : EReal), ((0 : ℝ) : EReal)]
    (one_at h r) (one_at h r) (one_at h r) h0 h1 h2 (zero58_at h r)]
  rcases j with ⟨j, hj⟩
  rcases j with _ | _ | _ | _ | _ | _ | j <;> simp [extK]
  rw [if_neg (by omega), EReal.coe_zero]

theorem packedV_at (v : FVec Ideal S16x16384x64 .f32) (r : Fin 16384) (l : Fin 128) (a : Fin 64 → ℝ)
    (ha : ∀ j, v (ix3 h r j) = (a j : EReal)) : packedV v (ix2 r (lane h l)) = (tile h a extV l : EReal) := by
  refine packed_at h _ _ r l _ _ ha (fun j => ?_)
  rw [three_at h _ _ _ _ r j ![((1 : ℝ) : EReal), ((1 : ℝ) : EReal), ((1 : ℝ) : EReal), ((0 : ℝ) : EReal)]
    (one_at h r) (one_at h r) (one_at h r) (zero61_at h r)]
  rcases j with ⟨j, hj⟩
  rcases j with _ | _ | _ | j <;> simp [extV]
  rw [if_neg (by omega), EReal.coe_zero]

theorem packedD_at (d : FVec Ideal S16x16384x64 .f32) (x : FVec Ideal S16x16384 .f32) (r : Fin 16384) (l : Fin 128) (a : Fin 64 → ℝ) (y : ℝ)
    (ha : ∀ j, d (ix3 h r j) = (a j : EReal)) (hy : x (ix2 h r) = (y : EReal)) :
    packedD d x (ix2 r (lane h l)) = (tile h a (extD y) l : EReal) := by
  obtain ⟨h0, h1, h2⟩ := parts_at h x r y hy
  refine packed_at h _ _ r l _ _ ha (fun j => ?_)
  rw [three_at h _ _ _ _ r j ![(y : EReal), ((0 : ℝ) : EReal), ((0 : ℝ) : EReal), ((0 : ℝ) : EReal)] h0 h1 h2 (zero61_at h r)]
  rcases j with ⟨j, hj⟩
  rcases j with _ | _ | _ | j <;> simp [extD]

/-! ## The kernel's sums -/

/-- The four arrays that the kernel reads, of the arguments. -/
def Args.arrs (A : Args) : Arrs where
  q := packedQ A.q (subf A.c (lse A.q A.k A.c))
  d := packedD A.d (Host.negf (delta A.q A.k A.c A.v A.d))
  k := packedK A.k (Host.negf A.c)
  v := packedV A.v

include hA

theorem arrs_q (r : Fin 16384) (l : Fin 128) : A.arrs.q (ix2 r (lane h l)) =
    (tile h (fun j => (A.head h).q r j * (1 / 8)) (extQ ((A.head h).c r - (A.head h).lse r)) l : EReal) := by
  refine packedQ_at h _ _ r l _ _ (hA.q h r) ?_
  pointwise
  rw [hA.c, lse_at hA, ← EReal.coe_sub]

theorem arrs_k (s : Fin 16384) (l : Fin 128) : A.arrs.k (ix2 s (lane h l)) = (tile h ((A.head h).k s) (extK (-(A.head h).c s)) l : EReal) := by
  refine packedK_at h _ _ s l _ _ (hA.k h s) ?_
  pointwise
  rw [hA.c, ← EReal.coe_neg]

theorem arrs_v (s : Fin 16384) (l : Fin 128) : A.arrs.v (ix2 s (lane h l)) = (tile h ((A.head h).v s) extV l : EReal) :=
  packedV_at h _ s l _ (hA.v h s)

theorem arrs_d (r : Fin 16384) (l : Fin 128) : A.arrs.d (ix2 r (lane h l)) = (tile h ((A.head h).d r) (extD (-(A.head h).delta r)) l : EReal) := by
  refine packedD_at h _ _ r l _ _ (hA.d h r) ?_
  pointwise
  rw [delta_at hA, ← EReal.coe_neg]

theorem arrs_p (r s : Fin 16384) : A.arrs.p h r s = ((A.head h).p r s : EReal) := by
  unfold Arrs.p
  by_cases hs : s.val ≤ r.val
  · rw [if_pos hs, ← (A.head h).p_eq r s hs]
    simp only [arrs_q hA, arrs_k hA, ← EReal.coe_mul, ← coe_sum]
    rw [Ideal.exp_coe, sum_tile_mul, sum_extQK]
    congr 2
    unfold Head.score
    rw [Finset.sum_mul]
    rw [show ∑ j, (A.head h).q r j * (1 / 8) * (A.head h).k s j = ∑ j, (A.head h).q r j * (A.head h).k s j * (1 / 8) from
      Finset.sum_congr rfl fun j _ => by ring]
    ring
  · rw [if_neg hs, (A.head h).p_zero r s hs]
    rfl

theorem arrs_g (r s : Fin 16384) : A.arrs.g h r s = ((A.head h).g r s : EReal) := by
  unfold Arrs.g
  rw [arrs_p hA]
  simp only [arrs_d hA, arrs_v hA, ← EReal.coe_mul, ← coe_sum]
  rw [sum_tile_mul, sum_extDV]
  rfl

theorem arrs_dq (r : Fin 16384) (l : Fin 128) :
    A.arrs.dq h r l = ((∑ s, (A.head h).g r s * tile h ((A.head h).k s) (extK (-(A.head h).c s)) l : ℝ) : EReal) := by
  unfold Arrs.dq
  simp only [arrs_g hA, arrs_k hA, ← EReal.coe_mul, ← coe_sum]

theorem arrs_dk (s : Fin 16384) (l : Fin 128) : A.arrs.dk h s l =
    ((∑ r, tile h (fun j => (A.head h).q r j * (1 / 8)) (extQ ((A.head h).c r - (A.head h).lse r)) l * (A.head h).g r s : ℝ) : EReal) := by
  unfold Arrs.dk
  simp only [arrs_g hA, arrs_q hA, ← EReal.coe_mul, ← coe_sum]

theorem arrs_dv (s : Fin 16384) (l : Fin 128) :
    A.arrs.dv h s l = ((∑ r, tile h ((A.head h).d r) (extD (-(A.head h).delta r)) l * (A.head h).p r s : ℝ) : EReal) := by
  unfold Arrs.dv
  simp only [arrs_p hA, arrs_d hA, ← EReal.coe_mul, ← coe_sum]

/-! ## The results -/

omit hA

theorem features_at {φ : FTy} (t : FVec Ideal S16x16384x128 φ) (r : Fin 16384) (j : Fin 64) :
    features evenHead t (ix3 h r j) = t (ix3 h r (ownLane h j)) := by
  unfold features evenHead ownLane
  pointwise
  rw [select_even]
  by_cases he : h.val % 2 = 0
  · rw [if_pos he, if_pos he]
  · rw [if_neg he, if_neg he]

theorem term0_at (t : FVec Ideal S16x16384x128 .f32) (r : Fin 16384) : term0 evenHead t (ix2 h r) = t (ix3 h r (extLane h 0)) := by
  unfold term0 evenHead extLane
  pointwise
  rw [select_even]
  by_cases he : h.val % 2 = 0
  · rw [if_pos he, if_pos he]
  · rw [if_neg he, if_neg he]

theorem term3_at (t : FVec Ideal S16x16384x128 .f32) (r : Fin 16384) : term3 evenHead t (ix2 h r) = t (ix3 h r (extLane h 3)) := by
  unfold term3 evenHead extLane
  pointwise
  rw [select_even]
  by_cases he : h.val % 2 = 0
  · rw [if_pos he, if_pos he]
  · rw [if_neg he, if_neg he]

include hA

theorem result_dq (r : Fin 16384) (j : Fin 64) :
    scaled (features evenHead (dqArr A.arrs)) (ix3 h r j) = ((A.head h).dq r j : EReal) := by
  have : scaled (features evenHead (dqArr A.arrs)) (ix3 h r j) =
      features evenHead (dqArr A.arrs) (ix3 h r j) * Ideal.ofBits FTy.f32 1040187392#32 := by
    unfold scaled
    pointwise!
  rw [this, features_at, eighth]
  show A.arrs.dq h r (ownLane h j) * _ = _
  rw [arrs_dq hA, ← EReal.coe_mul]
  simp only [tile_own]
  rfl

theorem result_dk (s : Fin 16384) (j : Fin 64) : features evenHead (dkArr A.arrs) (ix3 h s j) = ((A.head h).dk s j : EReal) := by
  rw [features_at]
  show A.arrs.dk h s (ownLane h j) = _
  rw [arrs_dk hA]
  simp only [tile_own]
  rfl

theorem result_dv (s : Fin 16384) (j : Fin 64) : features evenHead (dvArr A.arrs) (ix3 h s j) = ((A.head h).dv s j : EReal) := by
  rw [features_at]
  show A.arrs.dv h s (ownLane h j) = _
  rw [arrs_dv hA]
  simp only [tile_own]
  rfl

theorem result_dc (r : Fin 16384) :
    subf (F := Ideal) (term0 evenHead (dqArr A.arrs)) (term3 evenHead (dkArr A.arrs)) (ix2 h r) = ((A.head h).dc r : EReal) := by
  show term0 evenHead (dqArr A.arrs) (ix2 h r) - term3 evenHead (dkArr A.arrs) (ix2 h r) = _
  rw [term0_at, term3_at]
  show A.arrs.dq h r (extLane h 0) - A.arrs.dk h r (extLane h 3) = _
  rw [arrs_dq hA, arrs_dk hA, ← EReal.coe_sub]
  simp only [tile_ext, extK_zero, extQ_three, mul_one, one_mul]
  rfl

end Cert.AttnBwd

end
-- ==== Proof.AttnBwd.Ref.lean ====
/-
  What the reference's results hold where the arguments are real numbers: its list of operations read in four parts.
-/
module

public import proofs.«01_k».proof.Proof.Gen.Reference2Ideal.Run
public import proofs.«01_k».proof.Proof.AttnBwd.Values
public import Idealize.ShloMosaic.Lib.StableHlo.RunRead

@[expose] public section

set_option maxRecDepth 16384

noncomputable section

namespace Cert.AttnBwd.Ref

open Idealize.ShloMosaic Idealize.ShloMosaic.TcCoe Idealize.SL.Sem
open Cert.Reference2Ideal Cert.Reference2Ideal.Gen Cert.Reference2Ideal.Value

variable {F : FTy → Type} [FloatOps F]

/-! ## The run -/

def refVal (m : (ℓ : Loc nD τ sig) → Buf (Elt F) ℓ) (c : Dev nD) : Valuation τ sig (Elt F) := StableHlo.after ops fun b => m (c, b)

theorem run_ref (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = refVal m c (Proc.devRef .tc b) :=
  StableHlo.run_seq scopedRefs_eq scopedSems_eq defs main (fun _ => ops) main_eq (fun _ => ops_sub) m ρ

/-! ## The operations in four parts -/

def scoresVal (V : Valuation τ sig (Elt F)) : Valuation τ sig (Elt F) := StableHlo.after (ops.take 21) V
def expsVal (V : Valuation τ sig (Elt F)) : Valuation τ sig (Elt F) := StableHlo.after ((ops.drop 21).take 34) V
def gradVal (V : Valuation τ sig (Elt F)) : Valuation τ sig (Elt F) := StableHlo.after ((ops.drop 55).take 27) V
def outVal (V : Valuation τ sig (Elt F)) : Valuation τ sig (Elt F) := StableHlo.after (ops.drop 82) V

theorem refVal_parts (m : (ℓ : Loc nD τ sig) → Buf (Elt F) ℓ) (c : Dev nD) :
    refVal m c = outVal (gradVal (expsVal (scoresVal fun b => m (c, b)))) := by
  unfold refVal outVal gradVal expsVal scoresVal
  rw [← StableHlo.after_append, ← StableHlo.after_append, ← StableHlo.after_append]
  rfl

variable (V : Valuation τ sig (Elt F))

/-- Which keys each query sees. -/
def sees : IVec S16x16384x16384 1 :=
  broadcastInDim S16x16384x16384 ![1, 2] bcast_S16384x16384_S16x16384x16384_1_2
    (cmpi CmpIPredicate.sle
      (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

theorem scores_read : scoresVal V (Proc.devRef .tc main_v15_0) =
    masked (V (Proc.devRef .tc main_arg0)) (V (Proc.devRef .tc main_arg1)) (V (Proc.devRef .tc main_arg3)) := by
  unfold scoresVal masked
  after_reads_simp
  rfl

theorem sees_read : scoresVal V (Proc.devRef .tc main_v15_1) = sees := by
  unfold scoresVal sees
  after_reads_simp
  rfl

/-- The exponentials, each less the larger of minus infinity and a value of its row. -/
def expsLess (s : FVec F S16x16384x16384 .f32) (t : FVec F S16x16384 .f32) : FVec F S16x16384x16384 .f32 :=
  Host.exp (subf s (broadcastInDim S16x16384x16384 ![0, 1, 2] bcast_S16x16384x1_S16x16384x16384_0_1_2
    (broadcastInDim S16x16384x1 ![0, 1] bcast_S16x16384_S16x16384x1_0_1
      (maximumf (broadcastInDim S16x16384 ![] bcast_S_S16x16384 (constant S_ FTy.f32 0xFF800000#32)) t))))

def expsR (s : FVec F S16x16384x16384 .f32) : FVec F S16x16384x16384 .f32 := expsLess s (tops s)

theorem exps_read : expsVal V (Proc.devRef .tc main_v36) = expsR (V (Proc.devRef .tc main_v15_0)) := by
  unfold expsVal expsR expsLess tops
  after_reads_simp

theorem sums_read : expsVal V (Proc.devRef .tc main_v38) = sums (expsR (V (Proc.devRef .tc main_v15_0))) := by
  unfold expsVal sums expsR expsLess tops
  after_reads_simp

theorem keep_sees : expsVal V (Proc.devRef .tc main_v15_1) = V (Proc.devRef .tc main_v15_1) := by
  unfold expsVal
  after_reads_simp

/-- An array of row sums, along the rows. -/
def along (x : FVec F S16x16384x1 .f32) : FVec F S16x16384x16384 .f32 :=
  broadcastInDim S16x16384x16384 ![0, 1, 2] bcast_S16x16384x1_S16x16384x16384_0_1_2 x

/-- The cotangents of the weights. -/
def cots (v d : FVec F S16x16384x64 .f32) : FVec F S16x16384x16384 .f32 :=
  Host.dotGeneral dot_S16x16384x64_S16x16384x64_S16x16384x16384_2_2_1_1_0_0 none d v

/-- What the sum of a row hands back to each of its terms. -/
def sumCot (e : FVec F S16x16384x16384 .f32) (l : FVec F S16x16384x1 .f32) (p : FVec F S16x16384x16384 .f32) : FVec F S16x16384 .f32 :=
  Host.reduceAdd (Host.negf (shapeCast S16x16384x1
    (Host.reduceAdd (mulf (mulf p (along (Host.divf (broadcastInDim S16x16384x1 ![] bcast_S_S16x16384x1 (constant S_ FTy.f32 0x3F800000#32)) (mulf l l)))) e)
      (constant S_ FTy.f32 0x00000000#32) reducesTo_S16x16384x16384_S16x16384_d2 h_S_) shapeCasts_S16x16384_S16x16384x1))
    (constant S_ FTy.f32 0x00000000#32) reducesTo_S16x16384x1_S16x16384_d2 h_S_

/-- The gradients of the scores. -/
def grads (w : IVec S16x16384x16384 1) (e : FVec F S16x16384x16384 .f32) (l : FVec F S16x16384x1 .f32) (v d : FVec F S16x16384x64 .f32) :
    FVec F S16x16384x16384 .f32 :=
  select w (mulf (addf (Host.divf (cots v d) (along l))
    (broadcastInDim S16x16384x16384 ![0, 1] bcast_S16x16384_S16x16384x16384_0_1 (sumCot e l (cots v d)))) e)
    (broadcastInDim S16x16384x16384 ![] bcast_S_S16x16384x16384 (constant S_ FTy.f32 0x00000000#32))

theorem grads_read : gradVal V (Proc.devRef .tc main_v60) =
    grads (V (Proc.devRef .tc main_v15_1)) (V (Proc.devRef .tc main_v36)) (V (Proc.devRef .tc main_v38)) (V (Proc.devRef .tc main_arg2))
      (V (Proc.devRef .tc main_arg4)) := by
  unfold gradVal grads sumCot along cots
  after_reads_simp
  rfl

/-- The weighted sums of the output's cotangents. -/
def dvR (e : FVec F S16x16384x16384 .f32) (l : FVec F S16x16384x1 .f32) (d : FVec F S16x16384x64 .f32) : FVec F S16x16384x64 .f32 :=
  transpose S16x16384x64 [0, 2, 1] (Host.dotGeneral dot_S16x16384x64_S16x16384x16384_S16x64x16384_1_1_2_2_0_0 none d (Host.divf e (along l)))
    transposes_S16x64x16384_S16x16384x64_0_2_1

theorem dv_read : gradVal V (Proc.devRef .tc main_v46) =
    dvR (V (Proc.devRef .tc main_v36)) (V (Proc.devRef .tc main_v38)) (V (Proc.devRef .tc main_arg4)) := by
  unfold gradVal dvR along
  after_reads_simp

def eighthOf (g : FVec F S16x16384x16384 .f32) : FVec F S16x16384x16384 .f32 :=
  mulf g (broadcastInDim S16x16384x16384 ![] bcast_S_S16x16384x16384 (constant S_ FTy.f32 0x3E000000#32))

def dqR (g : FVec F S16x16384x16384 .f32) (k : FVec F S16x16384x64 .f32) : FVec F S16x16384x64 .f32 :=
  Host.dotGeneral dot_S16x16384x16384_S16x16384x64_S16x16384x64_2_1_1_2_0_0 none (eighthOf g) k
def dkR (g : FVec F S16x16384x16384 .f32) (q : FVec F S16x16384x64 .f32) : FVec F S16x16384x64 .f32 :=
  Host.dotGeneral dot_S16x16384x16384_S16x16384x64_S16x16384x64_1_1_2_2_0_0 none (eighthOf g) q

def dcR (g : FVec F S16x16384x16384 .f32) : FVec F S16x16384 .f32 :=
  addf
    (Host.reduceAdd (shapeCast S16x1x16384 (Host.reduceAdd (Host.negf g) (constant S_ FTy.f32 0x00000000#32) reducesTo_S16x16384x16384_S16x16384_d1 h_S_)
      shapeCasts_S16x16384_S16x1x16384) (constant S_ FTy.f32 0x00000000#32) reducesTo_S16x1x16384_S16x16384_d1 h_S_)
    (Host.reduceAdd (shapeCast S16x16384x1 (Host.reduceAdd g (constant S_ FTy.f32 0x00000000#32) reducesTo_S16x16384x16384_S16x16384_d2 h_S_)
      shapeCasts_S16x16384_S16x16384x1) (constant S_ FTy.f32 0x00000000#32) reducesTo_S16x16384x1_S16x16384_d2 h_S_)

theorem out_dq : outVal V (Proc.devRef .tc main_v72) = dqR (V (Proc.devRef .tc main_v60)) (V (Proc.devRef .tc main_arg1)) := by
  unfold outVal dqR eighthOf
  after_reads_simp

theorem out_dk : outVal V (Proc.devRef .tc main_v71) = dkR (V (Proc.devRef .tc main_v60)) (V (Proc.devRef .tc main_arg0)) := by
  unfold outVal dkR eighthOf
  after_reads_simp

theorem out_dv : outVal V (Proc.devRef .tc main_v73) = truncf .bf16 (show FVec F S16x16384x64 .f32 from V (Proc.devRef .tc main_v46)) bitsLt_bf16_f32 := by
  unfold outVal
  after_reads_simp

theorem out_dc : outVal V (Proc.devRef .tc main_v68) = dcR (V (Proc.devRef .tc main_v60)) := by
  unfold outVal dcR
  after_reads_simp
  rfl

/-- No part writes an argument. -/
theorem keep (b : Ref sig .tc) (hb : b ∈ [main_arg0, main_arg1, main_arg2, main_arg3, main_arg4]) :
    scoresVal V (Proc.devRef .tc b) = V (Proc.devRef .tc b) ∧ expsVal V (Proc.devRef .tc b) = V (Proc.devRef .tc b) ∧
      gradVal V (Proc.devRef .tc b) = V (Proc.devRef .tc b) ∧ outVal V (Proc.devRef .tc b) = V (Proc.devRef .tc b) := by
  simp only [List.mem_cons, List.mem_singleton, List.not_mem_nil, or_false] at hb
  unfold scoresVal expsVal gradVal outVal
  rcases hb with rfl | rfl | rfl | rfl | rfl <;> refine ⟨?_, ?_, ?_, ?_⟩ <;> after_reads_simp

theorem arg_unchanged (m : (ℓ : Loc nD τ sig) → Buf (Elt F) ℓ) (c : Dev nD) (b : Ref sig .tc)
    (hb : b ∈ [main_arg0, main_arg1, main_arg2, main_arg3, main_arg4]) : refVal m c (Proc.devRef .tc b) = m (c, Proc.devRef .tc b) := by
  rw [refVal_parts, (keep _ b hb).2.2.2, (keep _ b hb).2.2.1, (keep _ b hb).2.1, (keep _ b hb).1]

/-! ## The results of the arguments -/

def argsOf (m : (ℓ : Loc nD τ sig) → Buf (Elt Ideal) ℓ) (c : Dev nD) : Args where
  q := m (c, Proc.devRef .tc main_arg0)
  k := m (c, Proc.devRef .tc main_arg1)
  v := m (c, Proc.devRef .tc main_arg2)
  c := m (c, Proc.devRef .tc main_arg3)
  d := m (c, Proc.devRef .tc main_arg4)

def expsOf (A : Args) : FVec Ideal S16x16384x16384 .f32 := expsR (masked A.q A.k A.c)
def gradsOf (A : Args) : FVec Ideal S16x16384x16384 .f32 := grads sees (expsOf A) (sums (expsOf A)) A.v A.d

variable (m : (ℓ : Loc nD τ sig) → Buf (Elt Ideal) ℓ) (c : Dev nD)

theorem grads_of : gradVal (expsVal (scoresVal fun b => m (c, b))) (Proc.devRef .tc main_v60) = gradsOf (argsOf m c) := by
  rw [grads_read, exps_read, sums_read, keep_sees, sees_read, scores_read, (keep _ main_arg2 (by decide)).2.1, (keep _ main_arg4 (by decide)).2.1,
    (keep _ main_arg2 (by decide)).1, (keep _ main_arg4 (by decide)).1]
  rfl

theorem ref_dq : refVal m c (Proc.devRef .tc main_v72) = dqR (gradsOf (argsOf m c)) (argsOf m c).k := by
  rw [refVal_parts, out_dq, grads_of, (keep _ main_arg1 (by decide)).2.2.1, (keep _ main_arg1 (by decide)).2.1, (keep _ main_arg1 (by decide)).1]
  rfl

theorem ref_dk : refVal m c (Proc.devRef .tc main_v71) = dkR (gradsOf (argsOf m c)) (argsOf m c).q := by
  rw [refVal_parts, out_dk, grads_of, (keep _ main_arg0 (by decide)).2.2.1, (keep _ main_arg0 (by decide)).2.1, (keep _ main_arg0 (by decide)).1]
  rfl

theorem ref_dv : refVal m c (Proc.devRef .tc main_v73) =
    truncf .bf16 (dvR (expsOf (argsOf m c)) (sums (expsOf (argsOf m c))) (argsOf m c).d) bitsLt_bf16_f32 := by
  rw [refVal_parts, out_dv, dv_read, exps_read, sums_read, scores_read, (keep _ main_arg4 (by decide)).2.1, (keep _ main_arg4 (by decide)).1]
  rfl

theorem ref_dc : refVal m c (Proc.devRef .tc main_v68) = dcR (gradsOf (argsOf m c)) := by
  rw [refVal_parts, out_dc, grads_of]

/-! ## At an index, over the reals -/

theorem expsLess_at (x : FVec Ideal S16x16384x16384 .f32) (t : FVec Ideal S16x16384 .f32) (h : Fin 16) (r s : Fin 16384) :
    expsLess x t (ix3 h r s) = Ideal.exp (x (ix3 h r s) - max (Ideal.ofBits FTy.f32 4286578688#32) (t (ix2 h r))) := by
  unfold expsLess
  pointwise!

theorem sumsR_at (x : FVec Ideal S16x16384x16384 .f32) (h : Fin 16) (r : Fin 16384) : sums x (ix3 h r 0) = ∑ s : Fin 16384, x (ix3 h r s) := by
  unfold sums
  pointwise!

theorem cots_at (v d : FVec Ideal S16x16384x64 .f32) (h : Fin 16) (r s : Fin 16384) :
    cots v d (ix3 h r s) = ∑ j : Fin 64, d (ix3 h r j) * v (ix3 h s j) := by
  unfold cots
  pointwise!

theorem sumCot_at (e : FVec Ideal S16x16384x16384 .f32) (l : FVec Ideal S16x16384x1 .f32) (p : FVec Ideal S16x16384x16384 .f32) (h : Fin 16)
    (r : Fin 16384) : sumCot e l p (ix2 h r) =
      -∑ s : Fin 16384, p (ix3 h r s) * Ideal.div 1 (l (ix3 h r 0) * l (ix3 h r 0)) * e (ix3 h r s) := by
  unfold sumCot along
  pointwise
  simp only [Fin.sum_univ_one]

theorem grads_at (e : FVec Ideal S16x16384x16384 .f32) (l : FVec Ideal S16x16384x1 .f32) (v d : FVec Ideal S16x16384x64 .f32) (h : Fin 16)
    (r s : Fin 16384) : grads sees e l v d (ix3 h r s) = if s.val ≤ r.val then
      (Ideal.div (cots v d (ix3 h r s)) (l (ix3 h r 0)) + sumCot e l (cots v d) (ix2 h r)) * e (ix3 h r s) else 0 := by
  unfold grads along sees
  pointwise
  rw [select_seen]

theorem dvR_at (e : FVec Ideal S16x16384x16384 .f32) (l : FVec Ideal S16x16384x1 .f32) (d : FVec Ideal S16x16384x64 .f32) (h : Fin 16)
    (s : Fin 16384) (j : Fin 64) : dvR e l d (ix3 h s j) = ∑ r : Fin 16384, d (ix3 h r j) * Ideal.div (e (ix3 h r s)) (l (ix3 h r 0)) := by
  unfold dvR along
  pointwise!

theorem dqR_at (g : FVec Ideal S16x16384x16384 .f32) (k : FVec Ideal S16x16384x64 .f32) (h : Fin 16) (r : Fin 16384) (j : Fin 64) :
    dqR g k (ix3 h r j) = ∑ s : Fin 16384, g (ix3 h r s) * Ideal.ofBits FTy.f32 1040187392#32 * k (ix3 h s j) := by
  unfold dqR eighthOf
  pointwise!

theorem dkR_at (g : FVec Ideal S16x16384x16384 .f32) (q : FVec Ideal S16x16384x64 .f32) (h : Fin 16) (s : Fin 16384) (j : Fin 64) :
    dkR g q (ix3 h s j) = ∑ r : Fin 16384, g (ix3 h r s) * Ideal.ofBits FTy.f32 1040187392#32 * q (ix3 h r j) := by
  unfold dkR eighthOf
  pointwise!

theorem dcR_at (g : FVec Ideal S16x16384x16384 .f32) (h : Fin 16) (r : Fin 16384) :
    dcR g (ix2 h r) = (∑ t : Fin 16384, -g (ix3 h t r)) + ∑ s : Fin 16384, g (ix3 h r s) := by
  unfold dcR
  pointwise
  simp only [Fin.sum_univ_one]

variable {A : Args} (hA : A.Finite) (h : Fin 16)
include hA

theorem expsOf_at (r s : Fin 16384) : expsOf A (ix3 h r s) = ((A.head h).e r s : EReal) := by
  unfold expsOf expsR
  rw [expsLess_at, masked_at hA, tops_at hA, minus_infinity, max_eq_right bot_le, exp_seen hA]

theorem sumsOf_at (r : Fin 16384) : sums (expsOf A) (ix3 h r 0) = ((A.head h).l r : EReal) := by
  unfold Head.l
  rw [sumsR_at, coe_sum]
  exact Finset.sum_congr rfl fun s _ => expsOf_at hA h r s

theorem cotsOf_at (r s : Fin 16384) : cots A.v A.d (ix3 h r s) = ((A.head h).dp r s : EReal) := by
  unfold Head.dp
  rw [cots_at]
  simp only [hA.d, hA.v, ← EReal.coe_mul, ← coe_sum]

theorem gradsOf_at (r s : Fin 16384) : gradsOf A (ix3 h r s) = ((A.head h).g r s : EReal) := by
  unfold gradsOf
  rw [grads_at]
  by_cases hs : s.val ≤ r.val
  · have hl : (A.head h).l r * (A.head h).l r ≠ 0 := mul_ne_zero ((A.head h).l_pos r).ne' ((A.head h).l_pos r).ne'
    rw [if_pos hs, sumCot_at, cotsOf_at hA, expsOf_at hA, sumsOf_at hA, div_l hA, ← EReal.coe_mul, Ideal.div_coe hl, one_mul]
    simp only [cotsOf_at hA, expsOf_at hA, ← EReal.coe_mul, ← coe_sum, ← EReal.coe_neg, ← EReal.coe_add]
    rw [(A.head h).g_quotient r s]
  · rw [if_neg hs, (A.head h).g_zero r s hs, EReal.coe_zero]

theorem dq_at (r : Fin 16384) (j : Fin 64) : dqR (gradsOf A) A.k (ix3 h r j) = ((A.head h).dq r j : EReal) := by
  unfold Head.dq
  rw [dqR_at, eighth, Finset.sum_mul]
  simp only [gradsOf_at hA, hA.k, ← EReal.coe_mul, ← coe_sum]
  refine congrArg Real.toEReal ?_
  exact Finset.sum_congr rfl fun s _ => by ring

theorem dk_at (s : Fin 16384) (j : Fin 64) : dkR (gradsOf A) A.q (ix3 h s j) = ((A.head h).dk s j : EReal) := by
  unfold Head.dk
  rw [dkR_at, eighth]
  simp only [gradsOf_at hA, hA.q, ← EReal.coe_mul, ← coe_sum]
  refine congrArg Real.toEReal ?_
  exact Finset.sum_congr rfl fun r _ => by ring

theorem dv_at (s : Fin 16384) (j : Fin 64) : dvR (expsOf A) (sums (expsOf A)) A.d (ix3 h s j) = ((A.head h).dv s j : EReal) := by
  unfold Head.dv Head.p
  rw [dvR_at]
  simp only [expsOf_at hA, sumsOf_at hA, div_l hA, hA.d, ← EReal.coe_mul, ← coe_sum]

theorem dc_at (r : Fin 16384) : dcR (gradsOf A) (ix2 h r) = ((A.head h).dc r : EReal) := by
  unfold Head.dc
  rw [dcR_at]
  simp only [gradsOf_at hA, ← EReal.coe_neg, ← coe_sum, ← EReal.coe_add]
  refine congrArg Real.toEReal ?_
  rw [Finset.sum_neg_distrib]
  ring

end Cert.AttnBwd.Ref

end
-- ==== Proof.AttnBwd.Result.lean ====
/-
  The results of the kernel and of the reference where every argument is a real number, and the frames of the kernel.
-/
module

public import proofs.«01_k».proof.Defs
public import proofs.«01_k».proof.Proof.Gen.Pre_finite2
public import proofs.«01_k».proof.Proof.Finite
public import proofs.«01_k».proof.Proof.AttnBwd.Values
public import proofs.«01_k».proof.Proof.AttnBwd.Ref
public import Idealize.ShloMosaic.Lib.ReduceAll

@[expose] public section

set_option maxRecDepth 16384

noncomputable section

namespace Cert.AttnBwd

open Idealize.ShloMosaic Idealize.ShloMosaic.TcCoe Idealize.SL.Sem
open Cert.Kernel2Ideal Cert.Kernel2Ideal.Gen

/-! ## What the precondition says -/

instance : Subsingleton (Cert.Pre_finite2.S_.Idx) := ⟨fun a b => funext fun i => i.elim0⟩

theorem finite_of_pre (A : Args) (h : Cert.Pre_finite2.fn (F := Ideal) A.q A.k A.v A.c A.d = fun _ => 1#1) : A.Finite := by
  have e := congrFun h (Shape.Idx.first (by decide))
  unfold Cert.Pre_finite2.fn Cert.Pre_finite2.fn_part1 at e
  obtain ⟨e, hd⟩ := IntOp.andi_eq_one.1 e
  obtain ⟨e, hc⟩ := IntOp.andi_eq_one.1 e
  obtain ⟨e, hv⟩ := IntOp.andi_eq_one.1 e
  obtain ⟨hq, hk⟩ := IntOp.andi_eq_one.1 e
  exact ⟨fun h r j => Cert.Finite.toReal_of_abs_lt _ (Host.reduce_andi_all _ _ _ _ _ hq (ix3 h r j)),
    fun h r j => Cert.Finite.toReal_of_abs_lt _ (Host.reduce_andi_all _ _ _ _ _ hk (ix3 h r j)),
    fun h r j => Cert.Finite.toReal_of_abs_lt _ (Host.reduce_andi_all _ _ _ _ _ hv (ix3 h r j)),
    fun h r => Cert.Finite.toReal_of_abs_lt _ (Host.reduce_andi_all _ _ _ _ _ hc (ix2 h r)),
    fun h r j => Cert.Finite.toReal_of_abs_lt _ (Host.reduce_andi_all _ _ _ _ _ hd (ix3 h r j))⟩

/-! ## The kernel's results -/

section
variable (m : (ℓ : Loc nD τ sig) → Buf (Elt Ideal) ℓ) (c : Dev nD)

def argsOf : Args where
  q := argQ m c
  k := argK m c
  v := argV m c
  c := argC m c
  d := argD m c

theorem arrs_of : arrs m c = (argsOf m c).arrs := by
  unfold arrs
  rw [entry_q, entry_k, entry_v, entry_d]
  rfl

end

section
variable {F : FTy → Type} [FloatOps F] [Named F] (m : (ℓ : Loc nD τ sig) → Buf (Elt F) ℓ) (c : Dev nD)

theorem endVal_out (w : Fin 7) : endVal m c (Proc.devRef .tc (Pipeline.arrRef spec0 w)) = (dats m 0 c).arrAt w (cfg m).N :=
  Pipeline.withArrays_arr _ (by decide) c _ _ w

theorem endVal_keep (b : Ref sig .tc) (hb : ∀ w, Pipeline.arrRef spec0 w ≠ b) : endVal m c (Proc.devRef .tc b) = entryVal m c (Proc.devRef .tc b) :=
  Pipeline.withArrays_of_ne _ c _ _ b hb

theorem arg_unchanged (b : Ref sig .tc) (hb : b ∈ [main_arg0, main_arg1, main_arg2, main_arg3, main_arg4]) :
    tailVal (endVal m c) (Proc.devRef .tc b) = m ((c.tc : Thread nD τ).loc b) := by
  rw [args_tail _ b hb, endVal_keep m c b (by revert b; decide), args_entry m c b hb]

/-- The kernel's run: every buffer outside its memory ends as the last lines leave it. -/
theorem run_buf (ρ : Dev nD → PrngReg) : θ_run defs (onTc (τ := τ) (main (F := F))) ⟨m, fun _ => 0, ρ⟩ (fun r =>
    (∀ c : Dev nD, ∀ b ∈ Pipeline.restRefs sig spec0,
      r.2.mem ((c.tc : Thread nD τ).loc b) = tailVal (endVal m c) (Proc.devRef .tc b)) ∧ r.2.sem = fun _ => 0) :=
  run_main m ρ

/-- The run leaves the arguments as they were and every counter at zero. -/
theorem frame (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    have keep (b : Ref sig .tc) (hr : b ∈ Pipeline.restRefs sig spec0) (hb : b ∈ [main_arg0, main_arg1, main_arg2, main_arg3, main_arg4]) :
        r.2.mem ((c.tc : Thread nD τ).loc b) = m ((c.tc : Thread nD τ).loc b) := (h.1 c b hr).trans (arg_unchanged m c b hb)
    ⟨keep main_arg0 (by decide) (by decide), keep main_arg1 (by decide) (by decide), keep main_arg2 (by decide) (by decide),
      keep main_arg3 (by decide) (by decide), keep main_arg4 (by decide) (by decide)⟩, h.2⟩) (run_buf m ρ)

end

section
variable (m : (ℓ : Loc nD τ sig) → Buf (Elt Ideal) ℓ) (c : Dev nD)

theorem end_even : endVal m c (Proc.devRef .tc main_v35) = evenHead :=
  (endVal_keep m c main_v35 (by decide)).trans (entry_even m c)

theorem end_dq : endVal m c (Proc.devRef .tc main_v121_0) = dqArr (argsOf m c).arrs :=
  (endVal_out m c 4).trans ((arr_dq m c).trans (by rw [arrs_of]))
theorem end_dk : endVal m c (Proc.devRef .tc main_v121_1) = dkArr (argsOf m c).arrs :=
  (endVal_out m c 5).trans ((arr_dk m c).trans (by rw [arrs_of]))
theorem end_dv : endVal m c (Proc.devRef .tc main_v121_2) = dvArr (argsOf m c).arrs :=
  (endVal_out m c 6).trans ((arr_dv m c).trans (by rw [arrs_of]))

/-! ## The reference's results are the kernel's -/

variable (hA : (argsOf m c).Finite)
include hA

theorem same_dq : tailVal (endVal m c) (Proc.devRef .tc main_v127) = Ref.dqR (Ref.gradsOf (argsOf m c)) (argsOf m c).k := by
  rw [tail_dq, end_even, end_dq]
  funext j
  idx_vars j
  exact (result_dq hA _ _ _).trans (Ref.dq_at hA _ _ _).symm

theorem same_dk : tailVal (endVal m c) (Proc.devRef .tc main_v131) = Ref.dkR (Ref.gradsOf (argsOf m c)) (argsOf m c).q := by
  rw [tail_dk, end_even, end_dk]
  funext j
  idx_vars j
  exact (result_dk hA _ _ _).trans (Ref.dk_at hA _ _ _).symm

theorem same_dv : tailVal (endVal m c) (Proc.devRef .tc main_v135) =
    truncf .bf16 (Ref.dvR (Ref.expsOf (argsOf m c)) (sums (Ref.expsOf (argsOf m c))) (argsOf m c).d) Cert.Reference2Ideal.Gen.bitsLt_bf16_f32 := by
  rw [tail_dv, end_even, end_dv]
  funext j
  idx_vars j
  exact (result_dv hA _ _ _).trans (Ref.dv_at hA _ _ _).symm

theorem same_dc : tailVal (endVal m c) (Proc.devRef .tc main_v146) = Ref.dcR (Ref.gradsOf (argsOf m c)) := by
  rw [tail_dc, end_even, end_dq, end_dk]
  funext j
  idx_vars j
  exact (result_dc hA _ _).trans (Ref.dc_at hA _ _).symm

/-! ## The claim -/

omit hA

theorem argsOf_ref (m' : (ℓ : Loc Cert.Reference2Ideal.nD Cert.Reference2Ideal.τ Cert.Reference2Ideal.sig) → Buf (Elt Ideal) ℓ)
    (hm : m' ((c.tc : Thread Cert.Reference2Ideal.nD Cert.Reference2Ideal.τ).loc Cert.Reference2Ideal.main_arg0) = m ((c.tc : Thread nD τ).loc main_arg0)
      ∧ m' ((c.tc : Thread Cert.Reference2Ideal.nD Cert.Reference2Ideal.τ).loc Cert.Reference2Ideal.main_arg1) = m ((c.tc : Thread nD τ).loc main_arg1)
      ∧ m' ((c.tc : Thread Cert.Reference2Ideal.nD Cert.Reference2Ideal.τ).loc Cert.Reference2Ideal.main_arg2) = m ((c.tc : Thread nD τ).loc main_arg2)
      ∧ m' ((c.tc : Thread Cert.Reference2Ideal.nD Cert.Reference2Ideal.τ).loc Cert.Reference2Ideal.main_arg3) = m ((c.tc : Thread nD τ).loc main_arg3)
      ∧ m' ((c.tc : Thread Cert.Reference2Ideal.nD Cert.Reference2Ideal.τ).loc Cert.Reference2Ideal.main_arg4) = m ((c.tc : Thread nD τ).loc main_arg4)) :
    Ref.argsOf m' c = argsOf m c := by
  obtain ⟨h0, h1, h2, h3, h4⟩ := hm
  unfold Ref.argsOf argsOf
  congr 1

end

theorem frame_ref (m : (ℓ : Loc Cert.Reference2Ideal.nD Cert.Reference2Ideal.τ Cert.Reference2Ideal.sig) → Buf (Elt Ideal) ℓ)
    (ρ : Dev Cert.Reference2Ideal.nD → PrngReg) : θ_run (Cert.Reference2Ideal.defs (F := Ideal)) (onTc (τ := Cert.Reference2Ideal.τ)
      (Cert.Reference2Ideal.main (F := Ideal))) ⟨m, fun _ => 0, ρ⟩ (fun r =>
    (∀ c : Dev Cert.Reference2Ideal.nD, ∀ b ∈ [Cert.Reference2Ideal.main_arg0, Cert.Reference2Ideal.main_arg1, Cert.Reference2Ideal.main_arg2,
      Cert.Reference2Ideal.main_arg3, Cert.Reference2Ideal.main_arg4], r.2.mem ((c.tc : Thread _ Cert.Reference2Ideal.τ).loc b) = m ((c.tc : Thread _ Cert.Reference2Ideal.τ).loc b)) ∧ r.2.sem = fun _ => 0) :=
  (θ_run Cert.Reference2Ideal.defs _ _).mono (fun r h => ⟨fun c b hb => (h c b).trans (Ref.arg_unchanged m c b hb),
    sem_eq_zero_of_no_sems (by decide) r.2⟩) (Ref.run_ref m ρ)

theorem algebraic : Cert.algebraic_Kernel2Ideal_Reference2Ideal_pre_finite2 := by
  intro m g m' g' hpre hm
  have hA (c : Dev nD) : (argsOf m c).Finite := finite_of_pre (argsOf m c) (hpre c)
  have same (c : Dev nD) : Ref.argsOf m' c = argsOf m c := argsOf_ref m c m' (hm c)
  refine ⟨fun c => tailVal (endVal m c) (Proc.devRef .tc main_v127), fun c => tailVal (endVal m c) (Proc.devRef .tc main_v131),
    fun c => tailVal (endVal m c) (Proc.devRef .tc main_v135), fun c => tailVal (endVal m c) (Proc.devRef .tc main_v146), ?_, ?_⟩
  · refine (θ_run defs _ _).mono (fun r h c => ?_) (run_buf m g)
    have keep (b : Ref sig .tc) (hr : b ∈ Pipeline.restRefs sig spec0) (hb : b ∈ [main_arg0, main_arg1, main_arg2, main_arg3, main_arg4]) :
        r.2.mem ((c.tc : Thread nD τ).loc b) = m ((c.tc : Thread nD τ).loc b) := (h.1 c b hr).trans (arg_unchanged m c b hb)
    exact ⟨h.1 c main_v127 (by decide), h.1 c main_v131 (by decide), h.1 c main_v135 (by decide), h.1 c main_v146 (by decide),
      keep main_arg0 (by decide) (by decide), keep main_arg1 (by decide) (by decide), keep main_arg2 (by decide) (by decide),
      keep main_arg3 (by decide) (by decide), keep main_arg4 (by decide) (by decide)⟩
  · refine (θ_run Cert.Reference2Ideal.defs _ _).mono (fun r h c => ?_) (Ref.run_ref m' g')
    exact ⟨(h c _).trans ((Ref.ref_dq m' c).trans (by rw [same c]; exact (same_dq m c (hA c)).symm)),
      (h c _).trans ((Ref.ref_dk m' c).trans (by rw [same c]; exact (same_dk m c (hA c)).symm)),
      (h c _).trans ((Ref.ref_dv m' c).trans (by rw [same c]; exact (same_dv m c (hA c)).symm)),
      (h c _).trans ((Ref.ref_dc m' c).trans (by rw [same c]; exact (same_dc m c (hA c)).symm)),
      (h c _).trans (Ref.arg_unchanged m' c _ (by decide)), (h c _).trans (Ref.arg_unchanged m' c _ (by decide)),
      (h c _).trans (Ref.arg_unchanged m' c _ (by decide)), (h c _).trans (Ref.arg_unchanged m' c _ (by decide)),
      (h c _).trans (Ref.arg_unchanged m' c _ (by decide))⟩

end Cert.AttnBwd

end
-- ==== Proof.ConvBwd.State.lean ====
/-
  What the convolution layer's backward kernel computes on one block of 256 rows, by values: from its inputs (`Ins`) and
  from the sums and the rows carried over from the blocks before (`Carry`).
-/
module

public import proofs.«01_k».proof.Proof.Gen.KernelIdeal.Skeleton
public import Idealize.ShloMosaic.Lib.VecWindow

@[expose] public section

set_option maxRecDepth 16384

noncomputable section

namespace Cert.ConvBwd

open Idealize.ShloMosaic Cert.KernelIdeal Cert.KernelIdeal.Gen
open Idealize.ShloMosaic.VecWindow (window put)

variable {F : FTy → Type} [FloatOps F]

/-- The block's inputs. -/
@[ext] structure Ins (F : FTy → Type) [FloatOps F] where
  dp : Vec F S256x4224 .bf16
  wa : Vec F S1024x4096 .bf16
  wf : Vec F S1024x128 .bf16
  x1 : Vec F S256x1024 .f32
  g2 : Vec F S1x1024 .f32
  dx2 : Vec F S256x1024 .f32
  x : Vec F S256x1024 .f32
  g1 : Vec F S1x1024 .f32
  win : Vec F S4x1024x1024 .bf16
  wout : Vec F S1024x1024 .bf16
  cw : Vec F S3x1024 .f32
  proj : Vec F S256x4096 .f32
  yc : Vec F S256x1024 .f32

/-- What goes from block to block: the three sums over rows, and the rows of the block after (the blocks go backwards). -/
@[ext] structure Carry (F : FTy → Type) [FloatOps F] where
  dg : Vec F S1x1024 .f32
  dcw : Vec F S3x1024 .f32
  dg2 : Vec F S1x1024 .f32
  nd : Vec F S256x1024 .f32

/-- The start of the sums. -/
def Carry.zero : Carry F := ⟨k0_pay5, k0_pay6, k0_pay7, k0_pay8⟩

variable (X : Ins F) (s : Carry F)

def dh2 : FVec F S256x1024 .f32 :=
  k0_pay9 (window X.dp ![0, 0] S256x4096.size inb_S256x4224_S256x4096_0_0) X.wa (window X.dp ![0, 4096] S256x128.size inb_S256x4224_S256x128_0_4096) X.wf
def inv2 : FVec F S256x1 .f32 := k0_pay11 X.x1
def xh2 : FVec F S256x1024 .f32 := k0_pay12 X.x1
def dxn2 : FVec F S256x1024 .f32 :=
  k0_pay13 (window X.dp ![0, 0] S256x4096.size inb_S256x4224_S256x4096_0_0) X.wa (window X.dp ![0, 4096] S256x128.size inb_S256x4224_S256x128_0_4096) X.wf X.x1 X.g2
/-- The gradient of the layer's output. -/
def dx1 : FVec F S256x1024 .f32 := k0_pay15 (inv2 X) (dxn2 X) X.dx2
def dx1b : FVec F S256x1024 .bf16 := k0_pay16 (inv2 X) (dxn2 X) X.dx2
def dy : FVec F S256x1024 .f32 := k0_pay17 (inv2 X) (dxn2 X) X.dx2 X.wout
def gateB : FVec F S256x1024 .f32 := k0_pay18 (window X.proj ![0, 0] S256x1024.size inb_S256x4096_S256x1024_0_0)
def gateC : FVec F S256x1024 .f32 := k0_pay19 (window X.proj ![0, 1024] S256x1024.size inb_S256x4096_S256x1024_0_1024)
def xin : FVec F S256x1024 .f32 := k0_pay20 (window X.proj ![0, 2048] S256x1024.size inb_S256x4096_S256x1024_0_2048)
def z : FVec F S256x1024 .f32 := k0_pay21 (window X.proj ![0, 3072] S256x1024.size inb_S256x4096_S256x1024_0_3072)
def sg : FVec F S256x1024 .f32 := k0_pay22 (window X.proj ![0, 3072] S256x1024.size inb_S256x4096_S256x1024_0_3072)
def sz : FVec F S256x1024 .f32 := k0_pay23 (window X.proj ![0, 3072] S256x1024.size inb_S256x4096_S256x1024_0_3072)
/-- The gradient of the convolution's result at a row, one row and two rows further on. -/
def d0 : FVec F S256x1024 .f32 := k0_pay25 (dy X) (gateB X) (sz X)
def d1 (nd : Vec F S256x1024 .f32) : FVec F S256x1024 .f32 := k0_pay28 (dy X) (gateB X) (sz X) nd
def d2 (nd : Vec F S256x1024 .f32) : FVec F S256x1024 .f32 := k0_pay29 (dy X) (gateB X) (sz X) nd
/-- The four parts of the projection's gradient. -/
def partB : FVec F S256x1024 .bf16 := k0_pay26 (dy X) (sz X) X.yc
def partC (nd : Vec F S256x1024 .f32) : FVec F S256x1024 .bf16 := k0_pay37 (xin X) (d0 X) (d1 X nd) (d2 X nd) X.cw (k0_pay31 X.cw)
def partX (nd : Vec F S256x1024 .f32) : FVec F S256x1024 .bf16 := k0_pay38 (gateC X) (d0 X) (d1 X nd) (d2 X nd) X.cw (k0_pay31 X.cw)
def partZ : FVec F S256x1024 .bf16 := k0_pay27 (dy X) (gateB X) (z X) (sg X) X.yc
/-- The same, one after the other in the columns, over any contents. -/
def over (d : Vec F S256x4096 .bf16) (nd : Vec F S256x1024 .f32) : Vec F S256x4096 .bf16 :=
  put (put (put (put d ![0, 0] S256x1024.size (partB X)) ![0, 3072] S256x1024.size (partZ X)) ![0, 1024] S256x1024.size (partC X nd))
    ![0, 2048] S256x1024.size (partX X nd)
def dproj (nd : Vec F S256x1024 .f32) : Vec F S256x4096 .bf16 := over X (constant S256x4096 .bf16 0x0000#16) nd
def dh (nd : Vec F S256x1024 .f32) : FVec F S256x1024 .f32 :=
  k0_pay39 (partB X) (window X.win ![0, 0, 0] S1x1024x1024.size inb_S4x1024x1024_S1x1024x1024_0_0_0)
    (partC X nd) (window X.win ![1, 0, 0] S1x1024x1024.size inb_S4x1024x1024_S1x1024x1024_1_0_0)
    (partX X nd) (window X.win ![2, 0, 0] S1x1024x1024.size inb_S4x1024x1024_S1x1024x1024_2_0_0)
    (partZ X) (window X.win ![3, 0, 0] S1x1024x1024.size inb_S4x1024x1024_S1x1024x1024_3_0_0)
/-- The gradient of the layer's input. -/
def dx (nd : Vec F S256x1024 .f32) : FVec F S256x1024 .f32 :=
  k0_pay3 (dx1 X) (dh X nd) X.x X.g1 (k0_pay40 X.x) (Scalar.ofBits .f32 0x44800000#32)

/-- What the block hands to the next one. -/
def step : Carry F where
  dg := k0_pay4 (dh X s.nd) X.x (k0_pay40 X.x) (Scalar.ofBits .f32 0x44800000#32) s.dg
  dcw := put (put (put s.dcw ![2, 0] S1x1024.size (k0_pay34 (gateC X) (xin X) (d0 X) (window s.dcw ![2, 0] S1x1024.size inb_S3x1024_S1x1024_2_0)))
      ![1, 0] S1x1024.size (k0_pay35 (gateC X) (xin X) (d1 X s.nd) (window s.dcw ![1, 0] S1x1024.size inb_S3x1024_S1x1024_1_0)))
      ![0, 0] S1x1024.size (k0_pay36 (gateC X) (xin X) (d2 X s.nd) (window s.dcw ![0, 0] S1x1024.size inb_S3x1024_S1x1024_0_0))
  dg2 := k0_pay14 (dh2 X) (xh2 X) s.dg2
  nd := k0_pay30 (dy X) (gateB X) (sz X)

/-- The first block starts the sums. -/
abbrev atStart (i : grid0.Coords) : Prop := (Scalar.cmpi .ne (Scalar.extui (Scalar.cmpi .eq (BitVec.ofNat 32 (i 0).val) 0#32)) 0#32) = 1#1
def carryIn (i : grid0.Coords) (s : Carry F) : Carry F := if atStart i then Carry.zero else s

end Cert.ConvBwd

end
-- ==== Proof.ConvBwd.Body.lean ====
/-
  One block of the convolution layer's backward kernel, run: from its inputs and the carried sums to its outputs and the
  next block's sums.
-/
module

public import proofs.«01_k».proof.Proof.ConvBwd.State
public import proofs.«01_k».proof.Proof.Windows
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.Windows

variable {F : FTy → Type} [FloatOps F]

local notation "𝕄" => MT nD τ sig Unit (Elt F) ℕ (UR sig nD τ) ℕ

section Wholes

variable {α : Type}

theorem put_rows (x y : S256x1024.Idx → α) : put x ![0, 0] ![256, 1024] y = y := put_whole x inb_S256x1024_S256x1024_0_0 y
theorem put_row (x y : S1x1024.Idx → α) : put x ![0, 0] ![1, 1024] y = y := put_whole x inb_S1x1024_S1x1024_0_0 y
theorem put_taps (x y : S3x1024.Idx → α) : put x ![0, 0] ![3, 1024] y = y := put_whole x inb_S3x1024_S3x1024_0_0 y
theorem window_rows (x : S256x1024.Idx → α) : window x ![0, 0] ![256, 1024] inb_S256x1024_S256x1024_0_0 = x := window_whole x _
theorem window_row (x : S1x1024.Idx → α) : window x ![0, 0] ![1, 1024] inb_S1x1024_S1x1024_0_0 = x := window_whole x _
theorem window_taps (x : S3x1024.Idx → α) : window x ![0, 0] ![3, 1024] inb_S3x1024_S3x1024_0_0 = x := window_whole x _
theorem window_wa (x : S1024x4096.Idx → α) : window x ![0, 0] ![1024, 4096] inb_S1024x4096_S1024x4096_0_0 = x := window_whole x _
theorem window_wf (x : S1024x128.Idx → α) : window x ![0, 0] ![1024, 128] inb_S1024x128_S1024x128_0_0 = x := window_whole x _
theorem window_wout (x : S1024x1024.Idx → α) : window x ![0, 0] ![1024, 1024] inb_S1024x1024_S1024x1024_0_0 = x := window_whole x _

end Wholes

section Columns

variable {α : Type} (d : S256x4096.Idx → α) (a b p q : S256x1024.Idx → α)

/-- Four parts of the columns, in the order in which the body stores them. -/
abbrev four : S256x4096.Idx → α :=
  put (put (put (put d ![0, 0] ![256, 1024] a) ![0, 3072] ![256, 1024] b) ![0, 1024] ![256, 1024] p) ![0, 2048] ![256, 1024] q

theorem four_0 : window (four d a b p q) ![0, 0] ![256, 1024] inb_S256x4096_S256x1024_0_0 = a := by
  rw [four, VecWindow.window_put_of_disjoint _ _ _ _ _ _ _ 1 (.inl (by decide)), VecWindow.window_put_of_disjoint _ _ _ _ _ _ _ 1 (.inl (by decide)),
    VecWindow.window_put_of_disjoint _ _ _ _ _ _ _ 1 (.inl (by decide)), VecWindow.window_put_same]
theorem four_3 : window (four d a b p q) ![0, 3072] ![256, 1024] inb_S256x4096_S256x1024_0_3072 = b := by
  rw [four, VecWindow.window_put_of_disjoint _ _ _ _ _ _ _ 1 (.inr (by decide)), VecWindow.window_put_of_disjoint _ _ _ _ _ _ _ 1 (.inr (by decide)),
    VecWindow.window_put_same]
theorem four_1 : window (four d a b p q) ![0, 1024] ![256, 1024] inb_S256x4096_S256x1024_0_1024 = p := by
  rw [four, VecWindow.window_put_of_disjoint _ _ _ _ _ _ _ 1 (.inl (by decide)), VecWindow.window_put_same]
theorem four_2 : window (four d a b p q) ![0, 2048] ![256, 1024] inb_S256x4096_S256x1024_0_2048 = q := by
  rw [four, VecWindow.window_put_same]

/-- Nothing of what was there before remains. -/
theorem four_over (d d' : S256x4096.Idx → α) : four d a b p q = four d' a b p q := by
  funext z
  have h0 : (z 0).val < 256 := (z 0).isLt
  have h1 : (z 1).val < 4096 := (z 1).isLt
  unfold four VecWindow.put
  split_ifs with g1 g2 g3 g4
  · rfl
  · rfl
  · rfl
  · rfl
  · exfalso
    simp [Fin.forall_fin_two] at g1 g2 g3 g4
    omega

variable (e : S3x1024.Idx → α) (u v w : S1x1024.Idx → α)

theorem rows_1 : window (put e ![2, 0] ![1, 1024] u) ![1, 0] ![1, 1024] inb_S3x1024_S1x1024_1_0 = window e ![1, 0] ![1, 1024] inb_S3x1024_S1x1024_1_0 :=
  VecWindow.window_put_of_disjoint _ _ _ _ _ _ _ 0 (.inl (by decide))
theorem rows_0 : window (put (put e ![2, 0] ![1, 1024] u) ![1, 0] ![1, 1024] v) ![0, 0] ![1, 1024] inb_S3x1024_S1x1024_0_0
    = window e ![0, 0] ![1, 1024] inb_S3x1024_S1x1024_0_0 := by
  rw [VecWindow.window_put_of_disjoint _ _ _ _ _ _ _ 0 (.inl (by decide)), VecWindow.window_put_of_disjoint _ _ _ _ _ _ _ 0 (.inl (by decide))]

end Columns

set_option maxHeartbeats 8000000 in
/-- The body on a block: its outputs are `State`'s values, and the carried buffers hold what the next block starts from. -/
theorem body_run (c : Dev nD) (i : grid0.Coords)
  (arg1 : Memref sig .tc .vmem S256x4224 .bf16) (harg1 : arg1.IsWhole)
  (arg2 : Memref sig .tc .vmem S1024x4096 .bf16) (harg2 : arg2.IsWhole)
  (arg3 : Memref sig .tc .vmem S1024x128 .bf16) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S4x1024x1024 .bf16) (harg9 : arg9.IsWhole)
  (arg10 : Memref sig .tc .vmem S1024x1024 .bf16) (harg10 : arg10.IsWhole)
  (arg11 : Memref sig .tc .vmem S3x1024 .f32) (harg11 : arg11.IsWhole)
  (arg12 : Memref sig .tc .vmem S256x4096 .f32) (harg12 : arg12.IsWhole)
  (arg13 : Memref sig .tc .vmem S256x1024 .f32) (harg13 : arg13.IsWhole)
  (arg14 : Memref sig .tc .vmem S256x4096 .bf16) (harg14 : arg14.IsWhole)
  (arg15 : Memref sig .tc .vmem S256x1024 .f32) (harg15 : arg15.IsWhole)
  (arg16 : Memref sig .tc .vmem S256x1024 .bf16) (harg16 : arg16.IsWhole)
  (arg17 : Memref sig .tc .vmem S1x1024 .f32) (harg17 : arg17.IsWhole)
  (arg18 : Memref sig .tc .vmem S3x1024 .f32) (harg18 : arg18.IsWhole)
  (arg19 : Memref sig .tc .vmem S1x1024 .f32) (harg19 : arg19.IsWhole)
  (arg20 : Memref sig .tc .vmem S256x1024 .f32) (harg20 : arg20.IsWhole)
    (X : Ins F) (s : Carry F) (E : Set ℕ) (K : PUnit → sProp 𝕄) :
    iprop(owns (c : Thread nD τ) arg1 fullShare X.dp ∗ owns (c : Thread nD τ) arg2 fullShare X.wa ∗ owns (c : Thread nD τ) arg3 fullShare X.wf ∗ owns (c : Thread nD τ) arg4 fullShare X.x1 ∗ owns (c : Thread nD τ) arg5 fullShare X.g2 ∗ owns (c : Thread nD τ) arg6 fullShare X.dx2 ∗ owns (c : Thread nD τ) arg7 fullShare X.x ∗ owns (c : Thread nD τ) arg8 fullShare X.g1 ∗ owns (c : Thread nD τ) arg9 fullShare X.win ∗ owns (c : Thread nD τ) arg10 fullShare X.wout ∗ owns (c : Thread nD τ) arg11 fullShare X.cw ∗ owns (c : Thread nD τ) arg12 fullShare X.proj ∗ owns (c : Thread nD τ) arg13 fullShare X.yc ∗ (∃ d, owns (c : Thread nD τ) arg14 fullShare d) ∗ (∃ d, owns (c : Thread nD τ) arg15 fullShare d) ∗ (∃ d, owns (c : Thread nD τ) arg16 fullShare d) ∗ owns (c : Thread nD τ) arg17 fullShare s.dg ∗ owns (c : Thread nD τ) arg18 fullShare s.dcw ∗ owns (c : Thread nD τ) arg19 fullShare s.dg2 ∗ owns (c : Thread nD τ) arg20 fullShare s.nd
        ∗ (iprop(owns (c : Thread nD τ) arg1 fullShare X.dp ∗ owns (c : Thread nD τ) arg2 fullShare X.wa ∗ owns (c : Thread nD τ) arg3 fullShare X.wf ∗ owns (c : Thread nD τ) arg4 fullShare X.x1 ∗ owns (c : Thread nD τ) arg5 fullShare X.g2 ∗ owns (c : Thread nD τ) arg6 fullShare X.dx2 ∗ owns (c : Thread nD τ) arg7 fullShare X.x ∗ owns (c : Thread nD τ) arg8 fullShare X.g1 ∗ owns (c : Thread nD τ) arg9 fullShare X.win ∗ owns (c : Thread nD τ) arg10 fullShare X.wout ∗ owns (c : Thread nD τ) arg11 fullShare X.cw ∗ owns (c : Thread nD τ) arg12 fullShare X.proj ∗ owns (c : Thread nD τ) arg13 fullShare X.yc ∗ owns (c : Thread nD τ) arg14 fullShare (dproj X (carryIn i s).nd) ∗ owns (c : Thread nD τ) arg15 fullShare (dx X (carryIn i s).nd) ∗ owns (c : Thread nD τ) arg16 fullShare (dx1b X) ∗ owns (c : Thread nD τ) arg17 fullShare (step X (carryIn i s)).dg ∗ owns (c : Thread nD τ) arg18 fullShare (step X (carryIn i s)).dcw ∗ owns (c : Thread nD τ) arg19 fullShare (step X (carryIn i s)).dg2 ∗ owns (c : Thread nD τ) arg20 fullShare (step X (carryIn i s)).nd) -∗ K ⟨⟩))
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_conv_bwd_eq_skeleton]; unfold cc0_conv_bwd_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, Hk⟩
  by_cases hc : atStart i
  all_goals
    sl_exec (disch := sl_exact hc)
    sl_step
    first
      | rw [show carryIn i s = Carry.zero from if_pos hc]
      | rw [show carryIn i s = s from if_neg hc]
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; swap; · iexact H14
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      exact four_over _ _ _ _ _ _
    isplitl [H15]
    · iexists _; isplitr; swap; · iexact H15
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      rfl
    isplitl [H16]
    · iexists _; isplitr; swap; · iexact H16
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      rfl
    isplitl [H17]
    · iexists _; isplitr; swap; · iexact H17
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      rfl
    isplitl [H18]
    · iexists _; isplitr; swap; · iexact H18
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      rfl
    isplitl [H19]
    · iexists _; isplitr; swap; · iexact H19
      ipureintro
      sl_unfold_run_names
      simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
      rfl
    iexists _; isplitr; swap; · iexact H20
    ipureintro
    sl_unfold_run_names
    simp only [read_put, read_window, View.readCov, View.writes_nil, hf1, hf2, hf3, hf4, hf5, hf6, hf7, hf8, hf9, hf10, hf11, hf12, hf13, hf17, hf18, hf19, hf20,
        put_rows, put_row, put_taps, window_rows, window_row, window_taps, window_wa, window_wf, window_wout, four_0, four_1, four_2, four_3, rows_1, rows_0]
    rfl

end Cert.ConvBwd

end
-- ==== Proof.ConvBwd.Run.lean ====
/-
  The convolution layer's backward program, run: the host lines and the 64 points of the kernel, which take the blocks of
  rows from the last to the first. From point to point go the three sums and the rows of the block before.
-/
module

public import proofs.«01_k».proof.Proof.ConvBwd.Body
public import proofs.«01_k».proof.Proof.Gen.KernelIdeal.Frame.Runs
public import Idealize.ShloMosaic.Lib.StableHlo.RunRead
public import Idealize.ShloMosaic.Lib.Claim

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The inputs of a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- What point `n` starts from. -/
def carryBefore (c : Dev nD) : ℕ → Carry F
  | 0 => Carry.zero
  | n + 1 => if h : n < cfg0.N then step (insAt m c ⟨n, h⟩) (carryIn (grid0.coords ⟨n, h⟩) (carryBefore c n)) else Carry.zero

/-- The carried values as point `t` uses them: the first point sets them to their start. -/
def carryAt (c : Dev nD) (t : Fin cfg0.N) : Carry F := carryIn (grid0.coords t) (carryBefore m c t.val)

theorem carryBefore_succ (c : Dev nD) (t : Fin cfg0.N) : carryBefore m c (t.val + 1) = step (insAt m c t) (carryAt m c t) := by
  rw [carryBefore, dif_pos t.isLt]; rfl

theorem atStart_iff (t : Fin cfg0.N) : atStart (grid0.coords t) ↔ t.val = 0 := by
  have ht : t.val < 64 := Nat.lt_of_lt_of_eq t.isLt N_0
  exact (hcond0_0 t).trans (by omega)

/-- What the kernel holds beside its windows before point `n`: its own buffer, from the first point on at the rows that
    the point before left. -/
def kept (c : Dev nD) : ℕ → sProp 𝕄
  | 0 => Pipeline.ΦA spec0 c
  | n + 1 => iprop(owns (c : Thread nD τ) scM0_0 fullShare (carryBefore m c (n + 1)).nd ∗ (∃ r, prngReg c r))

/-- Before any point the buffer is there, at the carried rows unless the point is the first. -/
theorem kept_open (c : Dev nD) (n : ℕ) :
    kept m c n ⊢ iprop(∃ d, ⌜n ≠ 0 → d = (carryBefore m c n).nd⌝ ∗ owns (c : Thread nD τ) scM0_0 fullShare d ∗ (∃ r, prngReg c r)) := by
  cases n with
  | zero =>
    unfold kept; rw [PhiA0_eq]
    iintro ⟨⟨%d, H⟩, Hg⟩
    iexists d
    isplitr; · ipureintro; exact fun h => absurd rfl h
    isplitl [H]; · iexact H
    iexact Hg
  | succ n =>
    unfold kept
    iintro ⟨H, Hg⟩
    iexists _
    isplitr; · ipureintro; exact fun _ => rfl
    isplitl [H]; · iexact H
    iexact Hg

theorem kept_forget (c : Dev nD) (n : ℕ) : kept m c n ⊢ Pipeline.ΦA spec0 c := by
  refine (kept_open m c n).trans ?_
  rw [PhiA0_eq]
  iintro ⟨%d, -, H, Hg⟩
  isplitl [H]; · iexists d; iexact H
  iexact Hg

/-- What every window's buffer holds after each point: an input its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dproj (insAt m c t) (carryAt m c t).nd
    | ⟨14, _⟩ => dx (insAt m c t) (carryAt m c t).nd
    | ⟨15, _⟩ => dx1b (insAt m c t)
    | ⟨16, _⟩ => (carryBefore m c (t.val + 1)).dg
    | ⟨17, _⟩ => (carryBefore m c (t.val + 1)).dcw
    | ⟨18, _⟩ => (carryBefore m c (t.val + 1)).dg2
    | ⟨_ + 19, h⟩ => absurd h (Nat.not_lt.2 (Nat.le_add_left _ _))
  Φ t := kept m c t.val
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = dproj (insAt m c t) (carryAt m c t).nd := by dsimp only [dats]
theorem after_14 (c : Dev nD) (t : Fin cfg0.N) : (dats m 0 c).after 14 t = dx (insAt m c t) (carryAt m c t).nd := by dsimp only [dats]
theorem after_15 (c : Dev nD) (t : Fin cfg0.N) : (dats m 0 c).after 15 t = dx1b (insAt m c t) := by dsimp only [dats]
theorem after_16 (c : Dev nD) (t : Fin cfg0.N) : (dats m 0 c).after 16 t = (carryBefore m c (t.val + 1)).dg := by dsimp only [dats]
theorem after_17 (c : Dev nD) (t : Fin cfg0.N) : (dats m 0 c).after 17 t = (carryBefore m c (t.val + 1)).dcw := by dsimp only [dats]
theorem after_18 (c : Dev nD) (t : Fin cfg0.N) : (dats m 0 c).after 18 t = (carryBefore m c (t.val + 1)).dg2 := by dsimp only [dats]

/-- The sums' buffers are read from the second point on, and there they hold what the point before left. -/
theorem carried (c : Dev nD) (t : Fin cfg0.N) (d16 d17 d18) (nd : Vec F S256x1024 .f32) (hnd : t.val ≠ 0 → nd = (carryBefore m c t.val).nd) :
    carryIn (grid0.coords t) ⟨(dats m 0 c).before 16 t d16, (dats m 0 c).before 17 t d17, (dats m 0 c).before 18 t d18, nd⟩ = carryAt m c t := by
  unfold carryAt carryIn
  by_cases hs : atStart (grid0.coords t)
  · rw [if_pos hs, if_pos hs]
  rw [if_neg hs, if_neg hs]
  have h0 : t.val ≠ 0 := fun e => hs ((atStart_iff t).mpr e)
  have hN : t.val < 64 := lt_of_lt_of_eq t.isLt N_0
  have e : t.val - 1 + 1 = t.val := Nat.sub_add_cancel (Nat.one_le_iff_ne_zero.mpr h0)
  refine Carry.ext ?_ ?_ ?_ (hnd h0)
  · rw [Dat.before_out_kept _ 16 rfl t h0 (Bool.eq_false_iff.mpr fun h => by have := (flush0_16 _).mp h; dsimp only at this; omega) (fun _ => rfl) (fun _ _ => rfl)]
    rw [after_16]; show (carryBefore m c (t.val - 1 + 1)).dg = _
    rw [e]
  · rw [Dat.before_out_kept _ 17 rfl t h0 (Bool.eq_false_iff.mpr fun h => by have := (flush0_17 _).mp h; dsimp only at this; omega) (fun _ => rfl) (fun _ _ => rfl)]
    rw [after_17]; show (carryBefore m c (t.val - 1 + 1)).dcw = _
    rw [e]
  · rw [Dat.before_out_kept _ 18 rfl t h0 (Bool.eq_false_iff.mpr fun h => by have := (flush0_18 _).mp h; dsimp only at this; omega) (fun _ => rfl) (fun _ _ => rfl)]
    rw [after_18]; show (carryBefore m c (t.val - 1 + 1)).dg2 = _
    rw [e]

/-! ## One point's triple, as the pipeline states it -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (dats_A m c 0) (after_0 m c),
    before0_1_of m (dats m 0 c) (dats_A m c 1) (after_1 m c),
    before0_2_of m (dats m 0 c) (dats_A m c 2) (after_2 m c),
    before0_3_of m (dats m 0 c) (dats_A m c 3) (after_3 m c),
    before0_4_of m (dats m 0 c) (dats_A m c 4) (after_4 m c),
    before0_5_of m (dats m 0 c) (dats_A m c 5) (after_5 m c),
    before0_6_of m (dats m 0 c) (dats_A m c 6) (after_6 m c),
    before0_7_of m (dats m 0 c) (dats_A m c 7) (after_7 m c),
    before0_8_of m (dats m 0 c) (dats_A m c 8) (after_8 m c),
    before0_9_of m (dats m 0 c) (dats_A m c 9) (after_9 m c),
    before0_10_of m (dats m 0 c) (dats_A m c 10) (after_10 m c),
    before0_11_of m (dats m 0 c) (dats_A m c 11) (after_11 m c),
    before0_12_of m (dats m 0 c) (dats_A m c 12) (after_12 m c)]
  rw [show (dats m 0 c).owesAt () t.succ = (dats m 0 c).owesAt () t.castSucc from rfl,
    show (dats m 0 c).Φ t.castSucc = kept m c t.val from rfl,
    show (dats m 0 c).Φ t.succ = iprop(owns (c : Thread nD τ) scM0_0 fullShare (carryBefore m c (t.val + 1)).nd ∗ (∃ r, prngReg c r)) from rfl,
    after_0, after_1, after_2, after_3, after_4, after_5, after_6, after_7, after_8, after_9, after_10, after_11, after_12, after_13, after_14, after_15, after_16, after_17, after_18]
  rw [carryBefore_succ]
  refine (sep_mono (kept_open m c t.val) .rfl).trans ?_
  iintro ⟨⟨%nd, %hnd, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [← carried m c t d16 d17 d18 nd hnd]
  iapply (body_run c (grid0.coords t) _ _ _ _ _ _ _ _ _ _ _ _ _ _ _ _ _ _ _ _ _ _ _ _ _ _ _ _ _ _ _ _ _ _ _ _ _ _ _ _ (insAt m c t) ⟨_, _, _, nd⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [HS]; · iexact HS
  iintro ⟨H0, H1, H2, H3, H4, H5, H6, H7, H8, H9, H10, H11, H12, H13, H14, H15, H16, H17, H18, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, with every array at what the points wrote, every other buffer as the kernel found it and every
    counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hin := fun c => .rfl)
    (hout := fun c => kept_forget m c (cfgs 0).N)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.ConvBwd

end
-- ==== Proof.ConvBwd.Spec.lean ====
/-
  The convolution layer and its gradient over the real numbers: the normalisation, the four projections, the causal
  convolution of three taps, the gate, and what each of them hands back.
-/
module

public import Idealize.ShloMosaic.PureOps
public import Idealize.ShloMosaic.Lib.IdealHost
public import Idealize.ShloMosaic.Lib.Pointwise

@[expose] public section

set_option maxRecDepth 16384

noncomputable section

namespace Cert.ConvBwd

open Idealize.ShloMosaic

/-! ## Constants, and the extended reals that are real -/

theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- The small constant under the root. -/
def eps : ℝ := ((2 ^ 23 + 407485 : ℕ) : ℝ) * 2 ^ (107 - 127 - 23 : ℤ)

theorem eps_pos : 0 < eps := by unfold eps; positivity

theorem word_eps : Ideal.ofBits FTy.f32 0x358637BD#32 = (eps : EReal) := by
  simp [eps, Ideal.ofBits, Ideal.ieee, -EReal.coe_mul, -EReal.coe_neg]

theorem word_width : Ideal.ofBits FTy.f32 0x44800000#32 = ((1024 : ℝ) : EReal) := by
  simp [Ideal.ofBits, Ideal.ieee, -EReal.coe_mul, -EReal.coe_neg]; norm_num

theorem word_minus_half : Ideal.ofBits FTy.f32 0xBF000000#32 = ((-(1 / 2) : ℝ) : EReal) := by
  simp [Ideal.ofBits, Ideal.ieee, -EReal.coe_mul, -EReal.coe_neg]; norm_num

theorem word_half : Ideal.ofBits FTy.f32 0x3F000000#32 = ((1 / 2 : ℝ) : EReal) := by
  simp [Ideal.ofBits, Ideal.ieee, -EReal.coe_mul, -EReal.coe_neg]; norm_num

theorem div_width (a : ℝ) : Ideal.div (a : EReal) (Ideal.ofBits FTy.f32 0x44800000#32) = ((a * (1 / 1024) : ℝ) : EReal) := by
  rw [word_width, Ideal.div_coe (by norm_num), ← EReal.coe_mul]

/-! ## The normalisation of a row -/

section Row
variable (v d : Fin 1024 → ℝ)

/-- The mean square, plus the small constant. -/
def meanSq : ℝ := (∑ k, v k * v k) * (1 / 1024) + eps
/-- One over its root. -/
def invRms : ℝ := (Real.sqrt (meanSq v))⁻¹

theorem meanSq_pos : 0 < meanSq v := by
  have := Finset.sum_nonneg (s := Finset.univ) (fun k (_ : k ∈ Finset.univ) => mul_self_nonneg (v k))
  have := eps_pos
  unfold meanSq
  positivity

theorem rsqrt_meanSq : Ideal.rsqrt ((meanSq v : ℝ) : EReal) = (invRms v : EReal) := by
  rw [Ideal.rsqrt_coe, if_neg (not_lt.mpr (meanSq_pos v).le), if_neg (meanSq_pos v).ne']; rfl

theorem root_at : Ideal.rsqrt (Ideal.div (∑ k, (v k : EReal) * (v k : EReal)) (Ideal.ofBits FTy.f32 0x44800000#32) +
    Ideal.ofBits FTy.f32 0x358637BD#32) = (invRms v : EReal) := by
  simp only [← EReal.coe_mul, ← coe_sum, div_width, word_eps, ← EReal.coe_add]
  exact rsqrt_meanSq v

/-- What a row's normalisation hands back to the row, beside `a`. -/
def normBack (a : ℝ) (j : Fin 1024) : ℝ :=
  a + invRms v * (d j - v j * invRms v * ((∑ k, d k * (v k * invRms v)) * (1 / 1024)))

/-- What the mean square hands back to each of the row's terms, as the chain rule writes it. -/
def meanBack : ℝ := (∑ k, v k * d k) * (-(1 / 2) * (invRms v * (1 / meanSq v))) * (1 / 1024)

theorem meanBack_at : Ideal.div ((∑ k, (v k : EReal) * (d k : EReal)) * (Ideal.ofBits FTy.f32 0xBF000000#32 * Ideal.div (invRms v : EReal) (meanSq v : EReal)))
    (Ideal.ofBits FTy.f32 0x44800000#32) = (meanBack v d : EReal) := by
  rw [word_minus_half, Ideal.div_coe (meanSq_pos v).ne']
  simp only [← EReal.coe_mul, ← coe_sum, div_width]
  rfl

theorem normBack_chain (a : ℝ) (j : Fin 1024) :
    a + d j * invRms v + v j * meanBack v d + meanBack v d * v j = normBack v d a j := by
  unfold normBack meanBack
  have hs : invRms v * invRms v = 1 / meanSq v := by
    unfold invRms
    rw [← mul_inv, Real.mul_self_sqrt (meanSq_pos v).le, one_div]
  have h1 : (∑ k, d k * (v k * invRms v)) = (∑ k, v k * d k) * invRms v := by
    rw [Finset.sum_mul]; exact Finset.sum_congr rfl fun k _ => by ring
  rw [h1, ← hs]
  generalize (∑ k, v k * d k) = S
  ring

end Row

/-! ## The gate -/

def sigmoid (z : ℝ) : ℝ := 1 / (1 + Real.exp (-z))

theorem sigmoid_quotient (z : ℝ) : Ideal.div 1 (1 + Ideal.exp (-(z : EReal))) = (sigmoid z : EReal) := by
  have h : (1 + Real.exp (-z)) ≠ 0 := by positivity
  have h1 : (1 : EReal) = ((1 : ℝ) : EReal) := rfl
  rw [← EReal.coe_neg, Ideal.exp_coe, h1, ← EReal.coe_add, Ideal.div_coe h, ← EReal.coe_mul, one_mul]
  rfl

theorem sigmoid_tanh (z : ℝ) : ((1 / 2 : ℝ) : EReal) * Ideal.tanh (((1 / 2 : ℝ) : EReal) * (z : EReal)) + ((1 / 2 : ℝ) : EReal) = (sigmoid z : EReal) := by
  rw [← EReal.coe_mul, Ideal.tanh_coe, ← EReal.coe_mul, ← EReal.coe_add, EReal.coe_eq_coe_iff, Real.tanh_eq_sinh_div_cosh,
    Real.sinh_eq, Real.cosh_eq]
  have h1 : Real.exp (1 / 2 * z) = Real.exp (-(1 / 2 * z)) * Real.exp z := by rw [← Real.exp_add]; ring_nf
  have h2 : Real.exp (-z) = (Real.exp z)⁻¹ := Real.exp_neg z
  have h3 := Real.exp_pos z
  have h4 := Real.exp_pos (-(1 / 2 * z))
  unfold sigmoid
  rw [h1, h2]
  field_simp
  ring

/-! ## A sum against shifted rows -/

/-- A sum of products with the row `n` before is the sum of products with the row `n` after. -/
theorem sum_shift {N : ℕ} (n : ℕ) (f g : Fin N → ℝ) :
    ∑ s : Fin N, f s * (if h : n ≤ s.val then g ⟨s.val - n, by omega⟩ else 0) =
      ∑ s : Fin N, (if h : s.val + n < N then f ⟨s.val + n, h⟩ else 0) * g s := by
  have hl (s : Fin N) : f s * (if h : n ≤ s.val then g ⟨s.val - n, by omega⟩ else 0) = ∑ t : Fin N, if s.val = t.val + n then f s * g t else 0 := by
    by_cases h : n ≤ s.val
    · rw [dif_pos h, Finset.sum_eq_single (⟨s.val - n, by omega⟩ : Fin N)]
      · rw [if_pos (by show s.val = s.val - n + n; omega)]
      · exact fun t _ ht => if_neg fun e => ht (Fin.ext (by show t.val = s.val - n; omega))
      · exact fun h => absurd (Finset.mem_univ _) h
    · rw [dif_neg h, mul_zero]
      exact (Finset.sum_eq_zero fun t _ => if_neg (by omega)).symm
  have hr (t : Fin N) : (if h : t.val + n < N then f ⟨t.val + n, h⟩ else 0) * g t = ∑ s : Fin N, if s.val = t.val + n then f s * g t else 0 := by
    by_cases h : t.val + n < N
    · rw [dif_pos h, Finset.sum_eq_single (⟨t.val + n, h⟩ : Fin N)]
      · rw [if_pos rfl]
      · exact fun s _ hs => if_neg fun e => hs (Fin.ext e)
      · exact fun h => absurd (Finset.mem_univ _) h
    · rw [dif_neg h, zero_mul]
      exact (Finset.sum_eq_zero fun s _ => if_neg (by have := s.isLt; omega)).symm
  rw [Finset.sum_congr rfl fun s _ => hl s, Finset.sum_congr rfl fun t _ => hr t, Finset.sum_comm]

/-- A sum over the four parts. -/
theorem sum_parts (f : Fin 4096 → ℝ) : ∑ l, f l = (∑ k : Fin 1024, f ⟨k.val, by omega⟩) + (∑ k : Fin 1024, f ⟨1024 + k.val, by omega⟩) +
    (∑ k : Fin 1024, f ⟨2048 + k.val, by omega⟩) + ∑ k : Fin 1024, f ⟨3072 + k.val, by omega⟩ := by
  rw [Fin.sum_univ_tiles 4 1024 rfl f, Fin.sum_univ_four]
  refine congrArg₂ _ (congrArg₂ _ (congrArg₂ _ (Finset.sum_congr rfl fun k _ => congrArg f (Fin.ext ?_)) rfl) rfl) rfl
  exact Nat.zero_add _

/-! ## The layer -/

structure Layer where
  x : Fin 16384 → Fin 1024 → ℝ
  g1 : Fin 1024 → ℝ
  win : Fin 1024 → Fin 4096 → ℝ
  cw : Fin 3 → Fin 1024 → ℝ
  wo : Fin 1024 → Fin 1024 → ℝ
  g2 : Fin 1024 → ℝ
  wa : Fin 1024 → Fin 4112 → ℝ
  cp : Fin 16384 → Fin 4112 → ℝ
  cx : Fin 16384 → Fin 1024 → ℝ

/-- The arguments hold the layer's numbers. -/
structure Reads (L : Layer) (x : FVec Ideal ⟨2, ![16384, 1024]⟩ .f32) (g1 : FVec Ideal ⟨2, ![1, 1024]⟩ .f32) (win : FVec Ideal ⟨2, ![1024, 4096]⟩ .f32) (cw : FVec Ideal ⟨2, ![3, 1024]⟩ .f32)
    (wo : FVec Ideal ⟨2, ![1024, 1024]⟩ .f32) (g2 : FVec Ideal ⟨2, ![1, 1024]⟩ .f32) (wa : FVec Ideal ⟨2, ![1024, 4112]⟩ .f32) (cp : FVec Ideal ⟨2, ![16384, 4112]⟩ .f32)
    (cx : FVec Ideal ⟨2, ![16384, 1024]⟩ .f32) : Prop where
  x : ∀ s j, x (ix2 s j) = (L.x s j : EReal)
  g1 : ∀ j, g1 (ix2 (0 : Fin 1) j) = (L.g1 j : EReal)
  win : ∀ k l, win (ix2 k l) = (L.win k l : EReal)
  cw : ∀ i j, cw (ix2 i j) = (L.cw i j : EReal)
  wo : ∀ k j, wo (ix2 k j) = (L.wo k j : EReal)
  g2 : ∀ j, g2 (ix2 (0 : Fin 1) j) = (L.g2 j : EReal)
  wa : ∀ j l, wa (ix2 j l) = (L.wa j l : EReal)
  cp : ∀ s l, cp (ix2 s l) = (L.cp s l : EReal)
  cx : ∀ s j, cx (ix2 s j) = (L.cx s j : EReal)

namespace Layer

variable (L : Layer) (s : Fin 16384) (j : Fin 1024)

/-- The normalised row, and its projection. -/
def xh : ℝ := L.x s j * invRms (L.x s)
def proj (l : Fin 4096) : ℝ := ∑ k, L.xh s k * L.g1 k * L.win k l
/-- The projection's four parts. -/
def pB : ℝ := L.proj s ⟨j.val, by omega⟩
def pC : ℝ := L.proj s ⟨1024 + j.val, by omega⟩
def pX : ℝ := L.proj s ⟨2048 + j.val, by omega⟩
def pZ : ℝ := L.proj s ⟨3072 + j.val, by omega⟩
/-- The convolution's argument, and what tap `i` sees of it: zero before the first row. -/
def u : ℝ := L.pC s j * L.pX s j
def past (i : Fin 3) : ℝ := if h : i.val + s.val < 2 then 0 else L.u ⟨i.val + s.val - 2, by omega⟩ j
def yc : ℝ := L.cw 0 j * L.past s j 0 + L.cw 1 j * L.past s j 1 + L.cw 2 j * L.past s j 2
def sg : ℝ := sigmoid (L.pZ s j)
def sz : ℝ := L.pZ s j * L.sg s j
/-- The layer's output. -/
def x1 : ℝ := L.x s j + ∑ k, L.pB s k * L.yc s k * L.sz s k * L.wo k j

/-- The gradient of the second normalisation's result, and what it hands to the layer's output. -/
def dh2 : ℝ := ∑ l, L.cp s l * L.wa j l
def xh2 : ℝ := L.x1 s j * invRms (L.x1 s)
def dx1 : ℝ := normBack (L.x1 s) (fun k => L.dh2 s k * L.g2 k) (L.cx s j) j
def dg2 : ℝ := ∑ s, L.xh2 s j * L.dh2 s j
def dy : ℝ := ∑ k, L.dx1 s k * L.wo j k
/-- The gradient of the convolution's result, and the same `n` rows on: zero after the last row. -/
def d0 : ℝ := L.pB s j * (L.dy s j * L.sz s j)
def ahead (n : ℕ) : ℝ := if h : s.val + n < 16384 then L.d0 ⟨s.val + n, h⟩ j else 0
def du : ℝ := L.cw 2 j * L.d0 s j + L.cw 1 j * L.ahead s j 1 + L.cw 0 j * L.ahead s j 2
/-- The gradients of the projection's four parts. -/
def gB : ℝ := L.dy s j * L.sz s j * L.yc s j
def gC : ℝ := L.du s j * L.pX s j
def gX : ℝ := L.pC s j * L.du s j
def gZ : ℝ := L.pB s j * L.yc s j * L.dy s j * (L.sg s j * (1 + L.pZ s j * (1 - L.sg s j)))
/-- The same in columns, one after the other. -/
def dproj (l : Fin 4096) : ℝ :=
  if h : l.val < 1024 then L.gB s ⟨l.val, h⟩ else
    if h : l.val - 1024 < 1024 then L.gC s ⟨l.val - 1024, h⟩ else
      if h : l.val - 1024 - 1024 < 1024 then L.gX s ⟨l.val - 1024 - 1024, h⟩ else L.gZ s ⟨l.val - 1024 - 1024 - 1024, by omega⟩
def dh : ℝ := (∑ k : Fin 1024, L.gB s k * L.win j ⟨k.val, by omega⟩) + (∑ k : Fin 1024, L.gC s k * L.win j ⟨1024 + k.val, by omega⟩)
  + (∑ k : Fin 1024, L.gX s k * L.win j ⟨2048 + k.val, by omega⟩) + ∑ k : Fin 1024, L.gZ s k * L.win j ⟨3072 + k.val, by omega⟩
def dx : ℝ := normBack (L.x s) (fun k => L.dh s k * L.g1 k) (L.dx1 s j) j
def dg : ℝ := ∑ s, L.xh s j * L.dh s j
def dcw (i : Fin 3) : ℝ := ∑ s, L.d0 s j * L.past s j i

theorem past_eq (i : Fin 3) : L.past s j i = if h : 2 - i.val ≤ s.val then L.u ⟨s.val - (2 - i.val), by omega⟩ j else 0 := by
  unfold past
  have hi := i.isLt
  by_cases h : i.val + s.val < 2
  · rw [dif_pos h, dif_neg (by omega)]
  · rw [dif_neg h, dif_pos (by omega)]
    congr 1
    exact Fin.ext (by show i.val + s.val - 2 = s.val - (2 - i.val); omega)

/-- A tap's gradient, by the rows on. -/
theorem dcw_ahead (i : Fin 3) : L.dcw j i = ∑ s, L.ahead s j (2 - i.val) * L.u s j := by
  unfold dcw ahead
  rw [← sum_shift (2 - i.val) (fun s => L.d0 s j) fun s => L.u s j]
  exact Finset.sum_congr rfl fun s _ => by rw [past_eq]

theorem dproj_B : L.dproj s ⟨j.val, by omega⟩ = L.gB s j := dif_pos j.isLt
theorem dproj_C : L.dproj s ⟨1024 + j.val, by omega⟩ = L.gC s j := by
  have hj := j.isLt
  unfold dproj
  rw [dif_neg (by show ¬ 1024 + j.val < 1024; omega), dif_pos (by show 1024 + j.val - 1024 < 1024; omega)]
  exact congrArg (L.gC s) (Fin.ext (by show 1024 + j.val - 1024 = j.val; omega))
theorem dproj_X : L.dproj s ⟨2048 + j.val, by omega⟩ = L.gX s j := by
  have hj := j.isLt
  unfold dproj
  rw [dif_neg (by show ¬ 2048 + j.val < 1024; omega), dif_neg (by show ¬ 2048 + j.val - 1024 < 1024; omega),
    dif_pos (by show 2048 + j.val - 1024 - 1024 < 1024; omega)]
  exact congrArg (L.gX s) (Fin.ext (by show 2048 + j.val - 1024 - 1024 = j.val; omega))
theorem dproj_Z : L.dproj s ⟨3072 + j.val, by omega⟩ = L.gZ s j := by
  have hj := j.isLt
  unfold dproj
  rw [dif_neg (by show ¬ 3072 + j.val < 1024; omega), dif_neg (by show ¬ 3072 + j.val - 1024 < 1024; omega),
    dif_neg (by show ¬ 3072 + j.val - 1024 - 1024 < 1024; omega)]
  exact congrArg (L.gZ s) (Fin.ext (by show 3072 + j.val - 1024 - 1024 - 1024 = j.val; omega))

theorem dh_dproj : ∑ l, L.dproj s l * L.win j l = L.dh s j := by
  rw [sum_parts]
  simp only [dproj_B, dproj_C, dproj_X, dproj_Z]
  rfl

theorem ahead_congr {s s' : Fin 16384} {n n' : ℕ} (h : s.val + n = s'.val + n') : L.ahead s j n = L.ahead s' j n' := by
  simp only [ahead, h]

theorem ahead_zero : L.ahead s j 0 = L.d0 s j := dif_pos s.isLt

end Layer

end Cert.ConvBwd

end
-- ==== Proof.ConvBwd.Host.lean ====
/-
  The host lines before the kernel: the forward lines that make the saved values, and the packing of the kernel's inputs.
-/
module

public import proofs.«01_k».proof.Proof.ConvBwd.Run
public import proofs.«01_k».proof.Proof.ConvBwd.Spec
public import Idealize.ShloMosaic.Lib.Pointwise

@[expose] public section

set_option maxRecDepth 16384

noncomputable section

namespace Cert.ConvBwd

open Idealize.ShloMosaic Idealize.ShloMosaic.TcCoe Idealize.SL.Sem
open Cert.KernelIdeal Cert.KernelIdeal.Gen

variable {F : FTy → Type} [FloatOps F]

/-! ## The lines in five parts: the projection, the convolution, the gate, the output, the packing -/

def projVal (V : Valuation τ sig (Elt F)) : Valuation τ sig (Elt F) := StableHlo.after (hostOps0.take 16) V
def convVal (V : Valuation τ sig (Elt F)) : Valuation τ sig (Elt F) := StableHlo.after ((hostOps0.drop 16).take 26) V
def gateVal (V : Valuation τ sig (Elt F)) : Valuation τ sig (Elt F) := StableHlo.after (hostOps0.drop 42) V
def outVal (V : Valuation τ sig (Elt F)) : Valuation τ sig (Elt F) := StableHlo.after (List.flatten [hostOps0_1, hostOps0_2]) V
def packVal (V : Valuation τ sig (Elt F)) : Valuation τ sig (Elt F) :=
  StableHlo.after (List.flatten [hostOps0_3, hostOps0_4, hostOps0_5, hostOps0_6]) V

theorem V_parts (m : (ℓ : Loc nD τ sig) → Buf (Elt F) ℓ) (c : Dev nD) (b : Ref sig .tc) :
    V m c b = packVal (outVal (gateVal (convVal (projVal fun b => m (c, b))))) (Proc.devRef .tc b) := by
  unfold packVal outVal gateVal convVal projVal
  rw [← StableHlo.after_append, ← StableHlo.after_append, ← StableHlo.after_append, ← StableHlo.after_append]
  rfl

variable (V : Valuation τ sig (Elt F))

/-- The projection of the normalised rows. -/
def projOf (x : FVec F S16384x1024 .f32) (g : FVec F S1x1024 .f32) (w : FVec F S1024x4096 .f32) : FVec F S16384x4096 .f32 :=
  Host.dotGeneral dot_S16384x1024_S1024x4096_S16384x4096_1_0_0_1_n_n none
    (mulf (mulf x (broadcastInDim S16384x1024 ![0, 1] bcast_S16384x1_S16384x1024_0_1 (Host.rsqrt (addf
      (Host.divf (broadcastInDim S16384x1 ![0] bcast_S16384_S16384x1_0 (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 g)) w

theorem proj_read : projVal V (Proc.devRef .tc main_v12) =
    projOf (V (Proc.devRef .tc main_arg0)) (V (Proc.devRef .tc main_arg1)) (V (Proc.devRef .tc main_arg2)) := by
  unfold projVal projOf
  after_reads_simp

/-- The convolution's argument under two rows of zeros. -/
def paddedOf (p : FVec F S16384x4096 .f32) : FVec F S16386x1024 .f32 :=
  concatenate S16386x1024 0 [⟨S2x1024, broadcastInDim S2x1024 ![] bcast_S_S2x1024 (constant S_ .f32 0x00000000#32)⟩,
    ⟨S16384x1024, mulf (extractStridedSlice S16384x1024 ![0, 1024] p slices_S16384x4096_S16384x1024_0_1024)
      (extractStridedSlice S16384x1024 ![0, 2048] p slices_S16384x4096_S16384x1024_0_2048)⟩] concatenates_S2x1024_S16384x1024_S16386x1024_d0

/-- A tap's row over all rows. -/
def tapOf (w : FVec F S1x1024 .f32) : FVec F S16384x1024 .f32 :=
  broadcastInDim S16384x1024 ![0, 1] bcast_S1x1024_S16384x1024_0_1 (broadcastInDim S1x1024 ![1] bcast_S1024_S1x1024_1 (shapeCast S1024 w shapeCasts_S1x1024_S1024))

def convOf (p : FVec F S16384x4096 .f32) (w : FVec F S3x1024 .f32) : FVec F S16384x1024 .f32 :=
  addf (addf
    (mulf (tapOf (extractStridedSlice S1x1024 ![0, 0] w slices_S3x1024_S1x1024_0_0))
      (extractStridedSlice S16384x1024 ![0, 0] (paddedOf p) slices_S16386x1024_S16384x1024_0_0))
    (mulf (tapOf (extractStridedSlice S1x1024 ![1, 0] w slices_S3x1024_S1x1024_1_0))
      (extractStridedSlice S16384x1024 ![1, 0] (paddedOf p) slices_S16386x1024_S16384x1024_1_0)))
    (mulf (tapOf (extractStridedSlice S1x1024 ![2, 0] w slices_S3x1024_S1x1024_2_0))
      (extractStridedSlice S16384x1024 ![2, 0] (paddedOf p) slices_S16386x1024_S16384x1024_2_0))

theorem conv_read : convVal V (Proc.devRef .tc main_v37) = convOf (V (Proc.devRef .tc main_v12)) (V (Proc.devRef .tc main_arg3)) := by
  unfold convVal convOf tapOf paddedOf
  after_reads_simp
  rfl

theorem gated_read : gateVal V (Proc.devRef .tc main_v65) =
    mulf (extractStridedSlice S16384x1024 ![0, 0] (V (Proc.devRef .tc main_v12) : FVec F S16384x4096 .f32) slices_S16384x4096_S16384x1024_0_0)
      (convOf (V (Proc.devRef .tc main_v12)) (V (Proc.devRef .tc main_arg3))) := by
  unfold gateVal convOf tapOf paddedOf
  after_reads_simp
  rfl

theorem gate_read : gateVal V (Proc.devRef .tc main_v41) =
    extractStridedSlice S16384x1024 ![0, 3072] (V (Proc.devRef .tc main_v12) : FVec F S16384x4096 .f32) slices_S16384x4096_S16384x1024_0_3072 := by
  unfold gateVal
  after_reads_simp

/-- The layer's output from the input, the gated convolution, the gate and the weights. -/
def outOf (x y z : FVec F S16384x1024 .f32) (w : FVec F S1024x1024 .f32) : FVec F S16384x1024 .f32 :=
  addf x (Host.dotGeneral dot_S16384x1024_S1024x1024_S16384x1024_1_0_0_1_n_n none (mulf y (mulf z
    (Host.divf (broadcastInDim S16384x1024 ![] bcast_S_S16384x1024 (constant S_ .f32 0x3F800000#32))
      (addf (broadcastInDim S16384x1024 ![] bcast_S_S16384x1024 (constant S_ .f32 0x3F800000#32)) (Host.exp (Host.negf z)))))) w)

theorem out_read : outVal V (Proc.devRef .tc main_v69) =
    outOf (V (Proc.devRef .tc main_arg0)) (V (Proc.devRef .tc main_v65)) (V (Proc.devRef .tc main_v41)) (V (Proc.devRef .tc main_arg4)) := by
  unfold outVal outOf
  after_reads_simp
  rfl

theorem front_read : outVal V (Proc.devRef .tc main_v71) =
    truncf .bf16 (extractStridedSlice S1024x4096 ![0, 0] (V (Proc.devRef .tc main_arg6) : FVec F S1024x4112 .f32) slices_S1024x4112_S1024x4096_0_0) bitsLt_bf16_f32 := by
  unfold outVal
  after_reads_simp

theorem rest_read : outVal V (Proc.devRef .tc main_v72) =
    extractStridedSlice S1024x16 ![0, 4096] (V (Proc.devRef .tc main_arg6) : FVec F S1024x4112 .f32) slices_S1024x4112_S1024x16_0_4096 := by
  unfold outVal
  after_reads_simp

theorem zero_read : outVal V (Proc.devRef .tc main_c) = constantI S_ 32 0#32 := by
  unfold outVal
  after_reads_simp

def paddedRest (w : FVec F S1024x16 .f32) (z : IVec S_ 32) : FVec F S1024x128 .bf16 :=
  truncf .bf16 (pad S1024x128 ![0, 0] ![0, 112] ![0, 0] w (sitofp .f32 z) pads_S1024x16_S1024x128_000_01120 h_S_) bitsLt_bf16_f32

def paddedCot (d : FVec F S16384x4112 .f32) : FVec F S16384x4224 .bf16 :=
  truncf .bf16 (pad S16384x4224 ![0, 0] ![0, 112] ![0, 0] d (sitofp .f32 (constantI S_ 32 0#32)) pads_S16384x4112_S16384x4224_000_01120 h_S_) bitsLt_bf16_f32

def partsOf (w : FVec F S1024x4096 .f32) : FVec F S4x1024x1024 .bf16 :=
  truncf .bf16 (transpose S4x1024x1024 [1, 0, 2] (shapeCast S1024x4x1024 w shapeCasts_S1024x4096_S1024x4x1024) transposes_S1024x4x1024_S4x1024x1024_1_0_2) bitsLt_bf16_f32

theorem wf_read : packVal V (Proc.devRef .tc main_v74) = paddedRest (V (Proc.devRef .tc main_v72)) (V (Proc.devRef .tc main_c)) := by
  unfold packVal paddedRest
  after_reads_simp
  rfl

theorem dp_read : packVal V (Proc.devRef .tc main_v76) = paddedCot (V (Proc.devRef .tc main_arg7)) := by
  unfold packVal paddedCot
  after_reads_simp
  rfl

theorem win_read : packVal V (Proc.devRef .tc main_v79) = partsOf (V (Proc.devRef .tc main_arg2)) := by
  unfold packVal partsOf
  after_reads_simp
  rfl

theorem wout_read : packVal V (Proc.devRef .tc main_v80) = truncf .bf16 (V (Proc.devRef .tc main_arg4) : FVec F S1024x1024 .f32) bitsLt_bf16_f32 := by
  unfold packVal
  after_reads_simp

/-! ## What the lines leave alone -/

theorem keep (b : Ref sig .tc) (hb : b ∈ [main_arg0, main_arg1, main_arg2, main_arg3, main_arg4, main_arg5, main_arg6, main_arg7, main_arg8]) :
    projVal V (Proc.devRef .tc b) = V (Proc.devRef .tc b) ∧ convVal V (Proc.devRef .tc b) = V (Proc.devRef .tc b) ∧
      gateVal V (Proc.devRef .tc b) = V (Proc.devRef .tc b) ∧ outVal V (Proc.devRef .tc b) = V (Proc.devRef .tc b) := by
  unfold projVal convVal gateVal outVal
  simp only [List.mem_cons, List.not_mem_nil, or_false] at hb
  rcases hb with rfl | rfl | rfl | rfl | rfl | rfl | rfl | rfl | rfl <;>
    (refine ⟨?_, ?_, ?_, ?_⟩ <;> after_reads_simp)

theorem keep_proj : convVal V (Proc.devRef .tc main_v12) = V (Proc.devRef .tc main_v12) ∧ gateVal V (Proc.devRef .tc main_v12) = V (Proc.devRef .tc main_v12) ∧
    outVal V (Proc.devRef .tc main_v12) = V (Proc.devRef .tc main_v12) ∧ packVal V (Proc.devRef .tc main_v12) = V (Proc.devRef .tc main_v12) := by
  unfold convVal gateVal outVal packVal
  refine ⟨?_, ?_, ?_, ?_⟩ <;> after_reads_simp

theorem keep_conv : gateVal V (Proc.devRef .tc main_v37) = V (Proc.devRef .tc main_v37) ∧
    outVal V (Proc.devRef .tc main_v37) = V (Proc.devRef .tc main_v37) ∧ packVal V (Proc.devRef .tc main_v37) = V (Proc.devRef .tc main_v37) := by
  unfold gateVal outVal packVal
  refine ⟨?_, ?_, ?_⟩ <;> after_reads_simp

theorem keep_out : packVal V (Proc.devRef .tc main_v69) = V (Proc.devRef .tc main_v69) ∧ packVal V (Proc.devRef .tc main_v71) = V (Proc.devRef .tc main_v71) := by
  unfold packVal
  refine ⟨?_, ?_⟩ <;> after_reads_simp

/-! ## The kernel's inputs from the arguments -/

variable (m : (ℓ : Loc nD τ sig) → Buf (Elt F) ℓ) (c : Dev nD)

/-- An argument at the launch. -/
abbrev argAt (b : Ref sig .tc) : Buf (Elt F) ((c : Thread nD τ).loc b) := m (c, Proc.devRef .tc b)

theorem V_proj : Gen.V m c main_v12 = projOf (argAt m c main_arg0) (argAt m c main_arg1) (argAt m c main_arg2) := by
  rw [V_parts, (keep_proj _).2.2.2, (keep_proj _).2.2.1, (keep_proj _).2.1, (keep_proj _).1, proj_read]

theorem V_conv : Gen.V m c main_v37 = convOf (projOf (argAt m c main_arg0) (argAt m c main_arg1) (argAt m c main_arg2)) (argAt m c main_arg3) := by
  rw [V_parts, (keep_conv _).2.2, (keep_conv _).2.1, (keep_conv _).1, conv_read, proj_read, (keep _ main_arg3 (by decide)).1]

theorem V_out : Gen.V m c main_v69 = outOf (argAt m c main_arg0)
    (mulf (extractStridedSlice S16384x1024 ![0, 0] (projOf (argAt m c main_arg0) (argAt m c main_arg1) (argAt m c main_arg2)) slices_S16384x4096_S16384x1024_0_0)
      (convOf (projOf (argAt m c main_arg0) (argAt m c main_arg1) (argAt m c main_arg2)) (argAt m c main_arg3)))
    (extractStridedSlice S16384x1024 ![0, 3072] (projOf (argAt m c main_arg0) (argAt m c main_arg1) (argAt m c main_arg2)) slices_S16384x4096_S16384x1024_0_3072)
    (argAt m c main_arg4) := by
  rw [V_parts, (keep_out _).1, out_read, gated_read, gate_read, (keep_proj _).1, proj_read, (keep _ main_arg0 (by decide)).2.2.1,
    (keep _ main_arg0 (by decide)).2.1, (keep _ main_arg0 (by decide)).1, (keep _ main_arg3 (by decide)).2.1, (keep _ main_arg3 (by decide)).1,
    (keep _ main_arg4 (by decide)).2.2.1, (keep _ main_arg4 (by decide)).2.1, (keep _ main_arg4 (by decide)).1]

theorem V_wa : Gen.V m c main_v71 =
    truncf .bf16 (extractStridedSlice S1024x4096 ![0, 0] (argAt m c main_arg6 : FVec F S1024x4112 .f32) slices_S1024x4112_S1024x4096_0_0) bitsLt_bf16_f32 := by
  rw [V_parts, (keep_out _).2, front_read, (keep _ main_arg6 (by decide)).2.2.1, (keep _ main_arg6 (by decide)).2.1, (keep _ main_arg6 (by decide)).1]

theorem V_wf : Gen.V m c main_v74 = paddedRest (extractStridedSlice S1024x16 ![0, 4096] (argAt m c main_arg6 : FVec F S1024x4112 .f32)
    slices_S1024x4112_S1024x16_0_4096) (constantI S_ 32 0#32) := by
  rw [V_parts, wf_read, rest_read, zero_read, (keep _ main_arg6 (by decide)).2.2.1, (keep _ main_arg6 (by decide)).2.1, (keep _ main_arg6 (by decide)).1]

theorem V_dp : Gen.V m c main_v76 = paddedCot (argAt m c main_arg7) := by
  rw [V_parts, dp_read, (keep _ main_arg7 (by decide)).2.2.2, (keep _ main_arg7 (by decide)).2.2.1, (keep _ main_arg7 (by decide)).2.1, (keep _ main_arg7 (by decide)).1]

theorem V_win : Gen.V m c main_v79 = partsOf (argAt m c main_arg2) := by
  rw [V_parts, win_read, (keep _ main_arg2 (by decide)).2.2.2, (keep _ main_arg2 (by decide)).2.2.1, (keep _ main_arg2 (by decide)).2.1, (keep _ main_arg2 (by decide)).1]

theorem V_wout : Gen.V m c main_v80 = truncf .bf16 (argAt m c main_arg4 : FVec F S1024x1024 .f32) bitsLt_bf16_f32 := by
  rw [V_parts, wout_read, (keep _ main_arg4 (by decide)).2.2.2, (keep _ main_arg4 (by decide)).2.2.1, (keep _ main_arg4 (by decide)).2.1, (keep _ main_arg4 (by decide)).1]

end Cert.ConvBwd

end
-- ==== Proof.ConvBwd.Entry.lean ====
/-
  The kernel's inputs where the arguments are real numbers: the saved values and the packed arrays at an index.
-/
module

public import proofs.«01_k».proof.Proof.ConvBwd.Host

@[expose] public section

set_option maxRecDepth 16384

noncomputable section

namespace Cert.ConvBwd

open Idealize.ShloMosaic Idealize.ShloMosaic.TcCoe Idealize.SL.Sem
open Cert.KernelIdeal Cert.KernelIdeal.Gen

/-- An entry of a piece of an array's columns. -/
theorem columns_at {α : Type} {n k k' o : ℕ} (v : (⟨2, ![n, k]⟩ : Shape).Idx → α) (h : (⟨2, ![n, k]⟩ : Shape).Slices ![0, o] ⟨2, ![n, k']⟩)
    (s : Fin n) (j : Fin k') (l : Fin k) (hl : l.val = o + j.val) :
    extractStridedSlice ⟨2, ![n, k']⟩ ![0, o] v h (ix2 s j) = v (ix2 s l) :=
  congrArg v (funext fun a => by
    fin_cases a
    · exact Fin.ext (Nat.zero_add _)
    · exact Fin.ext hl.symm)

/-! ## The saved values -/

section Saved

variable {L : Layer} (s : Fin 16384) (j : Fin 1024)

theorem projOf_at {x : FVec Ideal S16384x1024 .f32} {g : FVec Ideal S1x1024 .f32} {w : FVec Ideal S1024x4096 .f32}
    (hx : ∀ s j, x (ix2 s j) = (L.x s j : EReal)) (hg : ∀ j, g (ix2 (0 : Fin 1) j) = (L.g1 j : EReal))
    (hw : ∀ k l, w (ix2 k l) = (L.win k l : EReal)) (l : Fin 4096) : projOf x g w (ix2 s l) = (L.proj s l : EReal) := by
  pointwise [projOf]
  simp only [hx, hg, hw]
  simp only [root_at]
  simp only [← EReal.coe_mul, ← coe_sum]
  rfl

theorem paddedOf_at {p : FVec Ideal S16384x4096 .f32} (hp : ∀ s l, p (ix2 s l) = (L.proj s l : EReal)) (a : Fin 16386) :
    paddedOf p (ix2 a j) = ((if h : a.val < 2 then 0 else L.u ⟨a.val - 2, by omega⟩ j : ℝ) : EReal) := by
  pointwise [paddedOf]
  by_cases hl : a.val < 2
  · rw [dif_pos hl, dif_pos hl, EReal.coe_zero]
  · rw [dif_neg hl, dif_neg hl, hp, hp, ← EReal.coe_mul]; rfl

theorem tapOf_at (w : FVec Ideal S1x1024 .f32) : tapOf w (ix2 s j) = w (ix2 (0 : Fin 1) j) := by
  pointwise [tapOf]

theorem convOf_at {p : FVec Ideal S16384x4096 .f32} {w : FVec Ideal S3x1024 .f32} (hp : ∀ s l, p (ix2 s l) = (L.proj s l : EReal))
    (hw : ∀ i j, w (ix2 i j) = (L.cw i j : EReal)) : convOf p w (ix2 s j) = (L.yc s j : EReal) := by
  have h := paddedOf_at j hp
  unfold convOf
  generalize paddedOf p = v at h ⊢
  have e0 : (extractStridedSlice S16384x1024 ![0, 0] v slices_S16386x1024_S16384x1024_0_0) (ix2 s j) = (L.past s j 0 : EReal) := by
    pointwise []
    refine (h _).trans (congrArg Real.toEReal ?_)
    show _ = if h : 0 + s.val < 2 then 0 else L.u ⟨0 + s.val - 2, by omega⟩ j
    simp only [Nat.zero_add]
  have e1 : (extractStridedSlice S16384x1024 ![1, 0] v slices_S16386x1024_S16384x1024_1_0) (ix2 s j) = (L.past s j 1 : EReal) := by
    pointwise []; rw [h]; rfl
  have e2 : (extractStridedSlice S16384x1024 ![2, 0] v slices_S16386x1024_S16384x1024_2_0) (ix2 s j) = (L.past s j 2 : EReal) := by
    pointwise []; rw [h]; rfl
  have c0 : (extractStridedSlice S1x1024 ![0, 0] w slices_S3x1024_S1x1024_0_0) (ix2 (0 : Fin 1) j) = (L.cw 0 j : EReal) := by
    pointwise []; rw [← hw]
  have c1 : (extractStridedSlice S1x1024 ![1, 0] w slices_S3x1024_S1x1024_1_0) (ix2 (0 : Fin 1) j) = (L.cw 1 j : EReal) := by
    pointwise []; rw [← hw]
  have c2 : (extractStridedSlice S1x1024 ![2, 0] w slices_S3x1024_S1x1024_2_0) (ix2 (0 : Fin 1) j) = (L.cw 2 j : EReal) := by
    pointwise []; rw [← hw]
  show tapOf _ (ix2 s j) * _ + tapOf _ (ix2 s j) * _ + tapOf _ (ix2 s j) * _ = _
  rw [tapOf_at, tapOf_at, tapOf_at]
  rw [c0, c1, c2, e0, e1, e2]
  simp only [← EReal.coe_mul, ← EReal.coe_add]
  rfl

theorem outOf_at {x y z : FVec Ideal S16384x1024 .f32} {w : FVec Ideal S1024x1024 .f32} (hx : ∀ s j, x (ix2 s j) = (L.x s j : EReal))
    (hy : ∀ s j, y (ix2 s j) = ((L.pB s j * L.yc s j : ℝ) : EReal)) (hz : ∀ s j, z (ix2 s j) = (L.pZ s j : EReal))
    (hw : ∀ k j, w (ix2 k j) = (L.wo k j : EReal)) : outOf x y z w (ix2 s j) = (L.x1 s j : EReal) := by
  pointwise [outOf]
  simp only [hx, hy, hz, hw]
  have h := fun k => sigmoid_quotient (L.pZ s k)
  simp only [h, ← EReal.coe_mul, ← coe_sum, ← EReal.coe_add]
  rfl

end Saved

/-! ## The packed arrays -/

theorem zero_of_int : (FloatOps.sitofp (F := Ideal) FTy.f32 (0#32 : BitVec 32)) = (0 : EReal) := by
  simp [FloatOps.sitofp]

theorem paddedCot_at (d : FVec Ideal S16384x4112 .f32) (s : Fin 16384) (l : Fin 4224) :
    paddedCot d (ix2 s l) = if h : l.val < 4112 then d (ix2 s (⟨l.val, h⟩ : Fin 4112)) else 0 := by
  pointwise [paddedCot]
  rw [zero_of_int]

theorem paddedRest_at (w : FVec Ideal S1024x16 .f32) (j : Fin 1024) (l : Fin 128) :
    paddedRest w (constantI S_ 32 0#32) (ix2 j l) = if h : l.val < 16 then w (ix2 j (⟨l.val, h⟩ : Fin 16)) else 0 := by
  pointwise [paddedRest]
  rw [zero_of_int]

theorem partsOf_at (w : FVec Ideal S1024x4096 .f32) (p : Fin 4) (j k : Fin 1024) :
    partsOf w (ix3 p j k) = w (ix2 j (⟨p.val * 1024 + k.val, by omega⟩ : Fin 4096)) := by
  pointwise [partsOf]

end Cert.ConvBwd

end
-- ==== Proof.ConvBwd.Point.lean ====
/-
  The kernel's block of rows as real numbers: where a block's inputs hold the layer's rows (`Block`), each of its values
  is the layer's.
-/
module

public import proofs.«01_k».proof.Proof.ConvBwd.State
public import proofs.«01_k».proof.Proof.ConvBwd.Spec
public import proofs.«01_k».proof.Proof.Windows

@[expose] public section

set_option maxRecDepth 16384

noncomputable section

namespace Cert.ConvBwd

open Idealize.ShloMosaic Cert.KernelIdeal Cert.KernelIdeal.Gen
open Idealize.ShloMosaic.VecWindow (window put)
open Cert.Windows (window_at put_in put_out)

/-! ## The kernel's operations at an index -/

section Ops

/-- The rotated rows: `n` rows on in the same block, or in the block after it. -/
theorem rotated {n : ℕ} (f g : Fin 256 → EReal) (r : Fin 256) {w : BitVec 1} (hn : n < 256) (hw : w = if 256 ≤ r.val + n then 1#1 else 0#1) :
    Scalar.select w (f ⟨(r.val + 256 - (256 - n)) % 256, Nat.mod_lt _ (by norm_num)⟩) (g ⟨(r.val + 256 - (256 - n)) % 256, Nat.mod_lt _ (by norm_num)⟩) =
      if h : r.val + n < 256 then g ⟨r.val + n, h⟩ else f ⟨r.val + n - 256, by omega⟩ := by
  have hr := r.isLt
  by_cases h : r.val + n < 256
  · rw [hw, if_neg (by omega), dif_pos h]
    exact congrArg g (Fin.ext (by show (r.val + 256 - (256 - n)) % 256 = r.val + n; omega))
  · rw [hw, if_pos (by omega), dif_neg h]
    exact congrArg f (Fin.ext (by show (r.val + 256 - (256 - n)) % 256 = r.val + n - 256; omega))

theorem last_row : ∀ r : Fin 256, IntOp.cmpi CmpIPredicate.sge (BitVec.ofNat 32 r.val) 255#32 = if 256 ≤ r.val + 1 then 1#1 else 0#1 := by
  decide +kernel
theorem last_rows : ∀ r : Fin 256, IntOp.cmpi CmpIPredicate.sge (BitVec.ofNat 32 r.val) 254#32 = if 256 ≤ r.val + 2 then 1#1 else 0#1 := by
  decide +kernel

variable (a b c d : Vec Ideal S256x1024 .f32) (r : Fin 256) (j : Fin 1024)

theorem pay9_at (p : Vec Ideal S256x4096 .bf16) (w : Vec Ideal S1024x4096 .bf16) (q : Vec Ideal S256x128 .bf16) (v : Vec Ideal S1024x128 .bf16) :
    k0_pay9 p w q v (ix2 r j) = ∑ l, p (ix2 r l) * w (ix2 j l) + ∑ l, q (ix2 r l) * v (ix2 j l) := by
  pointwise [k0_pay9]

theorem pay11_at : k0_pay11 a (ix2 r (0 : Fin 1)) =
    Ideal.rsqrt (Ideal.div (∑ k, a (ix2 r k) * a (ix2 r k)) (Ideal.ofBits FTy.f32 0x44800000#32) + Ideal.ofBits FTy.f32 0x358637BD#32) := by
  pointwise [k0_pay11, k0_pay10]

theorem pay12_at : k0_pay12 a (ix2 r j) = a (ix2 r j) * k0_pay11 a (ix2 r (0 : Fin 1)) := by
  pointwise [k0_pay12, k0_pay10]

theorem pay13_at (p : Vec Ideal S256x4096 .bf16) (w : Vec Ideal S1024x4096 .bf16) (q : Vec Ideal S256x128 .bf16) (v : Vec Ideal S1024x128 .bf16)
    (g : Vec Ideal S1x1024 .f32) :
    k0_pay13 p w q v a g (ix2 r j) = k0_pay9 p w q v (ix2 r j) * g (ix2 (0 : Fin 1) j) - k0_pay12 a (ix2 r j) *
      Ideal.div (∑ k, k0_pay9 p w q v (ix2 r k) * g (ix2 (0 : Fin 1) k) * k0_pay12 a (ix2 r k)) (Ideal.ofBits FTy.f32 0x44800000#32) := by
  pointwise [k0_pay13]

theorem pay14_at (g : Vec Ideal S1x1024 .f32) :
    k0_pay14 a b g (ix2 (0 : Fin 1) j) = g (ix2 (0 : Fin 1) j) + ∑ r, a (ix2 r j) * b (ix2 r j) := by
  pointwise [k0_pay14]

theorem pay15_at (i : Vec Ideal S256x1 .f32) : k0_pay15 i a b (ix2 r j) = b (ix2 r j) + i (ix2 r (0 : Fin 1)) * a (ix2 r j) := by
  pointwise [k0_pay15]

theorem pay17_at (i : Vec Ideal S256x1 .f32) (w : Vec Ideal S1024x1024 .bf16) :
    k0_pay17 i a b w (ix2 r j) = ∑ k, k0_pay15 i a b (ix2 r k) * w (ix2 j k) := by
  pointwise [k0_pay17, k0_pay16]

theorem pay22_at : k0_pay22 a (ix2 r j) =
    Ideal.ofBits FTy.f32 0x3F000000#32 * Ideal.tanh (Ideal.ofBits FTy.f32 0x3F000000#32 * a (ix2 r j)) + Ideal.ofBits FTy.f32 0x3F000000#32 := by
  pointwise [k0_pay22, k0_pay21]

theorem pay23_at : k0_pay23 a (ix2 r j) = a (ix2 r j) * k0_pay22 a (ix2 r j) := by
  pointwise [k0_pay23, k0_pay21]

theorem pay25_at : k0_pay25 (F := Ideal) a b c (ix2 r j) = a (ix2 r j) * b (ix2 r j) * c (ix2 r j) := by
  pointwise [k0_pay25]

theorem pay26_at : k0_pay26 a b c (ix2 r j) = a (ix2 r j) * c (ix2 r j) * b (ix2 r j) := by
  pointwise [k0_pay26, k0_pay24]

theorem pay27_at (e : Vec Ideal S256x1024 .f32) : k0_pay27 a b c d e (ix2 r j) =
    a (ix2 r j) * b (ix2 r j) * e (ix2 r j) * (d (ix2 r j) * (1 + c (ix2 r j) * (1 - d (ix2 r j)))) := by
  pointwise [k0_pay27, k0_pay24]

theorem pay28_at : k0_pay28 a b c d (ix2 r j) =
    if h : r.val + 1 < 256 then k0_pay25 (F := Ideal) a b c (ix2 (⟨r.val + 1, h⟩ : Fin 256) j) else d (ix2 (⟨r.val + 1 - 256, by omega⟩ : Fin 256) j) := by
  pointwise [k0_pay28]
  exact rotated (fun q => d (ix2 q j)) (fun q => k0_pay25 (F := Ideal) a b c (ix2 q j)) r (by norm_num) (last_row r)

theorem pay29_at : k0_pay29 a b c d (ix2 r j) =
    if h : r.val + 2 < 256 then k0_pay25 (F := Ideal) a b c (ix2 (⟨r.val + 2, h⟩ : Fin 256) j) else d (ix2 (⟨r.val + 2 - 256, by omega⟩ : Fin 256) j) := by
  pointwise [k0_pay29]
  exact rotated (fun q => d (ix2 q j)) (fun q => k0_pay25 (F := Ideal) a b c (ix2 q j)) r (by norm_num) (last_rows r)

theorem pay30_at : k0_pay30 a b c (ix2 r j) = k0_pay25 (F := Ideal) a b c (ix2 r j) := by
  pointwise [k0_pay30]

theorem pay32_at (w : Vec Ideal S3x1024 .f32) : k0_pay32 a b c w (k0_pay31 w) (ix2 r j) =
    w (ix2 (2 : Fin 3) j) * a (ix2 r j) + w (ix2 (1 : Fin 3) j) * b (ix2 r j) + w (ix2 (0 : Fin 3) j) * c (ix2 r j) := by
  pointwise [k0_pay32, k0_pay31]

theorem pay34_at (g : Vec Ideal S1x1024 .f32) : k0_pay34 a b c g (ix2 (0 : Fin 1) j) =
    g (ix2 (0 : Fin 1) j) + ∑ r, c (ix2 r j) * (a (ix2 r j) * b (ix2 r j)) := by
  pointwise [k0_pay34, k0_pay33]

theorem pay35_eq (g : Vec Ideal S1x1024 .f32) : k0_pay35 a b c g = k0_pay34 a b c g := rfl
theorem pay36_eq (g : Vec Ideal S1x1024 .f32) : k0_pay36 a b c g = k0_pay34 a b c g := rfl

theorem pay37_at (w : Vec Ideal S3x1024 .f32) :
    k0_pay37 a b c d w (k0_pay31 w) (ix2 r j) = k0_pay32 b c d w (k0_pay31 w) (ix2 r j) * a (ix2 r j) := by
  pointwise [k0_pay37]

theorem pay38_at (w : Vec Ideal S3x1024 .f32) :
    k0_pay38 a b c d w (k0_pay31 w) (ix2 r j) = k0_pay32 b c d w (k0_pay31 w) (ix2 r j) * a (ix2 r j) := by
  pointwise [k0_pay38]

theorem pay39_at (p q u v : Vec Ideal S256x1024 .bf16) (w₀ w₁ w₂ w₃ : Vec Ideal S1x1024x1024 .bf16) :
    k0_pay39 p w₀ q w₁ u w₂ v w₃ (ix2 r j) = (∑ k, p (ix2 r k) * w₀ (ix3 (0 : Fin 1) j k)) + (∑ k, q (ix2 r k) * w₁ (ix3 (0 : Fin 1) j k))
      + (∑ k, u (ix2 r k) * w₂ (ix3 (0 : Fin 1) j k)) + ∑ k, v (ix2 r k) * w₃ (ix3 (0 : Fin 1) j k) := by
  pointwise [k0_pay39]

theorem pay1_at : k0_pay1 (k0_pay40 a) (Scalar.ofBits .f32 0x44800000#32) (ix2 r (0 : Fin 1)) =
    Ideal.rsqrt (Ideal.div (∑ k, a (ix2 r k) * a (ix2 r k)) (Ideal.ofBits FTy.f32 0x44800000#32) + Ideal.ofBits FTy.f32 0x358637BD#32) := by
  pointwise [k0_pay1, k0_pay40]

theorem pay3_at (i : Vec Ideal S256x1 .f32) (g : Vec Ideal S1x1024 .f32) (e : Ideal .f32) : k0_pay3 a b c g i e (ix2 r j) =
    a (ix2 r j) + k0_pay1 i e (ix2 r (0 : Fin 1)) * (b (ix2 r j) * g (ix2 (0 : Fin 1) j) - c (ix2 r j) * k0_pay1 i e (ix2 r (0 : Fin 1)) *
      Ideal.div (∑ k, b (ix2 r k) * g (ix2 (0 : Fin 1) k) * (c (ix2 r k) * k0_pay1 i e (ix2 r (0 : Fin 1)))) (Ideal.ofBits FTy.f32 0x44800000#32)) := by
  pointwise [k0_pay3, k0_pay2]

theorem pay4_at (i : Vec Ideal S256x1 .f32) (g : Vec Ideal S1x1024 .f32) (e : Ideal .f32) : k0_pay4 a b i e g (ix2 (0 : Fin 1) j) =
    g (ix2 (0 : Fin 1) j) + ∑ r, a (ix2 r j) * (b (ix2 r j) * k0_pay1 i e (ix2 r (0 : Fin 1))) := by
  pointwise [k0_pay4, k0_pay2]

end Ops

/-! ## Rectangles of the inputs -/

section Rectangles

variable {α : Type}

theorem dp_front (x : S256x4224.Idx → α) (r : Fin 256) (l : Fin 4096) :
    window x ![0, 0] S256x4096.size inb_S256x4224_S256x4096_0_0 (ix2 r l) = x (ix2 r (⟨l.val, by omega⟩ : Fin 4224)) := by
  refine window_at _ _ fun a => ?_
  fin_cases a <;> exact (Nat.zero_add _).symm

theorem dp_back (x : S256x4224.Idx → α) (r : Fin 256) (l : Fin 128) :
    window x ![0, 4096] S256x128.size inb_S256x4224_S256x128_0_4096 (ix2 r l) = x (ix2 r (⟨4096 + l.val, by omega⟩ : Fin 4224)) := by
  refine window_at _ _ fun a => ?_
  fin_cases a
  · exact (Nat.zero_add _).symm
  · rfl

/-- The columns of the projection from `o` on. -/
theorem proj_from (x : S256x4096.Idx → α) {o : ℕ} (inb) (r : Fin 256) (j : Fin 1024) (h : o + j.val < 4096) :
    window x ![0, o] S256x1024.size inb (ix2 r j) = x (ix2 r (⟨o + j.val, h⟩ : Fin 4096)) := by
  refine window_at _ _ fun a => ?_
  fin_cases a
  · exact (Nat.zero_add _).symm
  · rfl

/-- One of the four parts of the projection's weights. -/
theorem win_part (x : S4x1024x1024.Idx → α) {p : ℕ} (hp : p < 4) (inb) (j k : Fin 1024) :
    window x ![p, 0, 0] S1x1024x1024.size inb (ix3 (0 : Fin 1) j k) = x (ix3 (⟨p, hp⟩ : Fin 4) j k) := by
  refine window_at _ _ fun a => ?_
  fin_cases a
  · rfl
  · exact (Nat.zero_add _).symm
  · exact (Nat.zero_add _).symm

theorem tap_read (x : S3x1024.Idx → α) (i : Fin 3) (inb) (j : Fin 1024) :
    window x ![i.val, 0] S1x1024.size inb (ix2 (0 : Fin 1) j) = x (ix2 i j) := by
  refine window_at _ _ fun a => ?_
  fin_cases a
  · rfl
  · exact (Nat.zero_add _).symm

theorem tap_put (x : S3x1024.Idx → α) (w : S1x1024.Idx → α) (i : Fin 3) (j : Fin 1024) :
    put x ![i.val, 0] S1x1024.size w (ix2 i j) = w (ix2 (0 : Fin 1) j) := by
  refine put_in _ fun a => ?_
  fin_cases a
  · rfl
  · exact (Nat.zero_add _).symm

theorem tap_keep (x : S3x1024.Idx → α) (w : S1x1024.Idx → α) (i i' : Fin 3) (h : i' ≠ i) (j : Fin 1024) :
    put x ![i.val, 0] S1x1024.size w (ix2 i' j) = x (ix2 i' j) := by
  refine put_out (0 : Fin 2) fun hh => h (Fin.ext ?_)
  have h1 : i.val ≤ i'.val := hh.1
  have h2 : i'.val < i.val + 1 := hh.2
  omega

/-- A store of 1024 columns from `o` on, read inside and outside. -/
theorem part_put (x : S256x4096.Idx → α) (w : S256x1024.Idx → α) {o : ℕ} (r : Fin 256) (j : Fin 1024) (h : o + j.val < 4096) :
    put x ![0, o] S256x1024.size w (ix2 r (⟨o + j.val, h⟩ : Fin 4096)) = w (ix2 r j) := by
  refine put_in _ fun a => ?_
  fin_cases a
  · exact (Nat.zero_add _).symm
  · rfl

theorem part_keep (x : S256x4096.Idx → α) (w : S256x1024.Idx → α) {o : ℕ} (r : Fin 256) (l : Fin 4096) (h : ¬ (o ≤ l.val ∧ l.val < o + 1024)) :
    put x ![0, o] S256x1024.size w (ix2 r l) = x (ix2 r l) :=
  put_out (1 : Fin 2) h

end Rectangles

end Cert.ConvBwd

end
-- ==== Proof.ConvBwd.Block.lean ====
/-
  A block of 256 rows of the kernel as real numbers. The blocks go backwards: step `t` holds the rows from
  `(63 - t) * 256` on.
-/
module

public import proofs.«01_k».proof.Proof.ConvBwd.Point

@[expose] public section

set_option maxRecDepth 16384

noncomputable section

namespace Cert.ConvBwd

open Idealize.ShloMosaic Cert.KernelIdeal Cert.KernelIdeal.Gen
open Idealize.ShloMosaic.VecWindow (window put)

/-- Row `r` of step `t`. -/
def row (t : ℕ) (r : Fin 256) : Fin 16384 := ⟨(63 - t) * 256 + r.val, by omega⟩

/-- The sum over the rows of the first `n` steps. -/
def tail (f : Fin 16384 → ℝ) (n : ℕ) : ℝ := ∑ t ∈ Finset.range n, ∑ r, f (row t r)

theorem tail_zero (f : Fin 16384 → ℝ) : tail f 0 = 0 := Finset.sum_range_zero _

theorem tail_succ (f : Fin 16384 → ℝ) (n : ℕ) : tail f (n + 1) = tail f n + ∑ r, f (row n r) := Finset.sum_range_succ _ _

theorem tail_all (f : Fin 16384 → ℝ) : tail f 64 = ∑ s, f s := by
  rw [Fin.sum_univ_tiles 64 256 rfl f]
  unfold tail
  rw [← Finset.sum_range_reflect, ← Fin.sum_univ_eq_sum_range (fun t => ∑ r, f (row (64 - 1 - t) r)) 64]
  refine Finset.sum_congr rfl fun b _ => Finset.sum_congr rfl fun r _ => congrArg f (Fin.ext ?_)
  have := b.isLt
  show (63 - (64 - 1 - b.val)) * 256 + r.val = b.val * 256 + r.val
  omega

/-- The inputs of step `t` hold the layer's rows. -/
structure Block (L : Layer) (t : ℕ) (X : Ins Ideal) : Prop where
  dp : ∀ r (l : Fin 4224), X.dp (ix2 r l) = if h : l.val < 4112 then ((L.cp (row t r) ⟨l.val, h⟩ : ℝ) : EReal) else 0
  wa : ∀ j (l : Fin 4096), X.wa (ix2 j l) = ((L.wa j ⟨l.val, by omega⟩ : ℝ) : EReal)
  wf : ∀ j (l : Fin 128), X.wf (ix2 j l) = if h : l.val < 16 then ((L.wa j ⟨4096 + l.val, by omega⟩ : ℝ) : EReal) else 0
  x1 : ∀ r j, X.x1 (ix2 r j) = (L.x1 (row t r) j : EReal)
  g2 : ∀ j, X.g2 (ix2 (0 : Fin 1) j) = (L.g2 j : EReal)
  dx2 : ∀ r j, X.dx2 (ix2 r j) = (L.cx (row t r) j : EReal)
  x : ∀ r j, X.x (ix2 r j) = (L.x (row t r) j : EReal)
  g1 : ∀ j, X.g1 (ix2 (0 : Fin 1) j) = (L.g1 j : EReal)
  win : ∀ (p : Fin 4) j k, X.win (ix3 p j k) = ((L.win j ⟨p.val * 1024 + k.val, by omega⟩ : ℝ) : EReal)
  wout : ∀ j k, X.wout (ix2 j k) = (L.wo j k : EReal)
  cw : ∀ i j, X.cw (ix2 i j) = (L.cw i j : EReal)
  proj : ∀ r l, X.proj (ix2 r l) = (L.proj (row t r) l : EReal)
  yc : ∀ r j, X.yc (ix2 r j) = (L.yc (row t r) j : EReal)

/-- What step `t` finds: the sums over the rows of the steps before, and the block after its own. -/
structure Carried (L : Layer) (t : ℕ) (s : Carry Ideal) : Prop where
  dg : ∀ j, s.dg (ix2 (0 : Fin 1) j) = (tail (fun s => L.dh s j * L.xh s j) t : EReal)
  dcw : ∀ i j, s.dcw (ix2 i j) = (tail (fun s => L.ahead s j (2 - i.val) * L.u s j) t : EReal)
  dg2 : ∀ j, s.dg2 (ix2 (0 : Fin 1) j) = (tail (fun s => L.dh2 s j * L.xh2 s j) t : EReal)
  nd : t < 64 → ∀ r j, s.nd (ix2 r j) = (L.ahead (row t r) j 256 : EReal)

theorem carried_zero (L : Layer) : Carried L 0 Carry.zero where
  dg j := by rw [tail_zero]; show k0_pay5 (F := Ideal) (ix2 (0 : Fin 1) j) = _; pointwise [k0_pay5]; exact EReal.coe_zero.symm
  dcw i j := by rw [tail_zero]; show k0_pay6 (F := Ideal) (ix2 i j) = _; pointwise [k0_pay6]; exact EReal.coe_zero.symm
  dg2 j := by rw [tail_zero]; show k0_pay7 (F := Ideal) (ix2 (0 : Fin 1) j) = _; pointwise [k0_pay7]; exact EReal.coe_zero.symm
  nd _ r j := by
    rw [Layer.ahead, dif_neg (by simp only [row]; omega)]
    show k0_pay8 (F := Ideal) (ix2 r j) = _
    pointwise [k0_pay8]
    exact EReal.coe_zero.symm

/-- A product over the padded columns is one over the 4112 columns. -/
theorem sum_padded (f g : Fin 4112 → ℝ) :
    ∑ l : Fin 4096, ((f ⟨l.val, by omega⟩ * g ⟨l.val, by omega⟩ : ℝ) : EReal) +
      ∑ l : Fin 128, (if h : 4096 + l.val < 4112 then ((f ⟨4096 + l.val, h⟩ : ℝ) : EReal) else 0) *
        (if h : l.val < 16 then ((g ⟨4096 + l.val, by omega⟩ : ℝ) : EReal) else 0) = ((∑ l, f l * g l : ℝ) : EReal) := by
  have h1 : ∀ l : Fin 128, (if h : 4096 + l.val < 4112 then ((f ⟨4096 + l.val, h⟩ : ℝ) : EReal) else 0) *
      (if h : l.val < 16 then ((g ⟨4096 + l.val, by omega⟩ : ℝ) : EReal) else 0) =
      ((if h : 4096 + l.val < 4112 then f ⟨4096 + l.val, h⟩ * g ⟨4096 + l.val, h⟩ else 0 : ℝ) : EReal) := fun l => by
    by_cases h : l.val < 16
    · rw [dif_pos (by omega), dif_pos h, dif_pos (by omega), EReal.coe_mul]
    · rw [dif_neg (by omega), dif_neg h, dif_neg (by omega), zero_mul, EReal.coe_zero]
  simp only [h1, ← coe_sum, ← EReal.coe_add, EReal.coe_eq_coe_iff]
  have h2 := Fin.sum_univ_add (a := 4096) (b := 16) fun l : Fin (4096 + 16) => f l * g l
  have h3 := Fin.sum_univ_add (a := 16) (b := 112) fun l : Fin (16 + 112) =>
    if h : 4096 + l.val < 4112 then f ⟨4096 + l.val, h⟩ * g ⟨4096 + l.val, h⟩ else 0
  refine Eq.trans (congrArg _ (h3.trans ?_)) h2.symm
  rw [Finset.sum_eq_zero (s := Finset.univ (α := Fin 112)) fun l _ => dif_neg (by simp only [Fin.natAdd]; omega), add_zero]
  exact Finset.sum_congr rfl fun l _ => dif_pos (by have := l.isLt; simp only [Fin.castAdd, Fin.castLE]; omega)

section Values

variable {L : Layer} {t : ℕ} {X : Ins Ideal} (H : Block L t X) (r : Fin 256) (j : Fin 1024)
include H

theorem dh2_at : dh2 X (ix2 r j) = (L.dh2 (row t r) j : EReal) := by
  rw [dh2, pay9_at]
  refine (congrArg₂ _ (Finset.sum_congr rfl fun l _ => ?_) (Finset.sum_congr rfl fun l _ => ?_)).trans (sum_padded (L.cp (row t r)) (L.wa j))
  · rw [dp_front, H.dp, H.wa, dif_pos (by show l.val < 4112; omega), EReal.coe_mul]
  · rw [dp_back, H.dp, H.wf]

theorem inv2_at : inv2 X (ix2 r (0 : Fin 1)) = (invRms (L.x1 (row t r)) : EReal) := by
  rw [inv2, pay11_at]
  simp only [H.x1]
  exact root_at _

theorem xh2_at : xh2 X (ix2 r j) = (L.xh2 (row t r) j : EReal) := by
  rw [xh2, pay12_at, ← inv2, inv2_at H, H.x1, ← EReal.coe_mul]; rfl

theorem dxn2_at : dxn2 X (ix2 r j) = ((L.dh2 (row t r) j * L.g2 j - L.xh2 (row t r) j *
    ((∑ k, L.dh2 (row t r) k * L.g2 k * L.xh2 (row t r) k) * (1 / 1024)) : ℝ) : EReal) := by
  rw [dxn2, pay13_at, ← dh2, ← xh2]
  simp only [dh2_at H, xh2_at H, H.g2, ← EReal.coe_mul, ← coe_sum, div_width, ← EReal.coe_sub]

theorem dx1_at : dx1 X (ix2 r j) = (L.dx1 (row t r) j : EReal) := by
  rw [dx1, pay15_at, inv2_at H, dxn2_at H, H.dx2, ← EReal.coe_mul, ← EReal.coe_add]; rfl

theorem dx1b_at : dx1b X (ix2 r j) = (L.dx1 (row t r) j : EReal) := dx1_at H r j

theorem dy_at : dy X (ix2 r j) = (L.dy (row t r) j : EReal) := by
  rw [dy, pay17_at, ← dx1]
  simp only [dx1_at H, H.wout, ← EReal.coe_mul, ← coe_sum]; rfl

theorem gateB_at : gateB X (ix2 r j) = (L.pB (row t r) j : EReal) := by
  show k0_pay18 (F := Ideal) _ _ = _
  rw [show ∀ v : Vec Ideal S256x1024 .f32, k0_pay18 v (ix2 r j) = v (ix2 r j) from fun v => by pointwise [k0_pay18],
    proj_from _ _ _ _ (by omega), H.proj]
  exact congrArg (fun l => ((L.proj (row t r) l : ℝ) : EReal)) (Fin.ext (Nat.zero_add _))

theorem gateC_at : gateC X (ix2 r j) = (L.pC (row t r) j : EReal) := by
  show k0_pay19 (F := Ideal) _ _ = _
  rw [show ∀ v : Vec Ideal S256x1024 .f32, k0_pay19 v (ix2 r j) = v (ix2 r j) from fun v => by pointwise [k0_pay19],
    proj_from _ _ _ _ (by omega), H.proj]
  rfl

theorem xin_at : xin X (ix2 r j) = (L.pX (row t r) j : EReal) := by
  show k0_pay20 (F := Ideal) _ _ = _
  rw [show ∀ v : Vec Ideal S256x1024 .f32, k0_pay20 v (ix2 r j) = v (ix2 r j) from fun v => by pointwise [k0_pay20],
    proj_from _ _ _ _ (by omega), H.proj]
  rfl

theorem z_at : z X (ix2 r j) = (L.pZ (row t r) j : EReal) := by
  show k0_pay21 (F := Ideal) _ _ = _
  rw [show ∀ v : Vec Ideal S256x1024 .f32, k0_pay21 v (ix2 r j) = v (ix2 r j) from fun v => by pointwise [k0_pay21],
    proj_from _ _ _ _ (by omega), H.proj]
  rfl

theorem sg_at : sg X (ix2 r j) = (L.sg (row t r) j : EReal) := by
  rw [sg, pay22_at, proj_from _ _ _ _ (by omega), H.proj, word_half]
  exact sigmoid_tanh _

theorem sz_at : sz X (ix2 r j) = (L.sz (row t r) j : EReal) := by
  rw [sz, pay23_at, ← sg, sg_at H, proj_from _ _ _ _ (by omega), H.proj, ← EReal.coe_mul]
  rfl

theorem d0_at : d0 X (ix2 r j) = (L.d0 (row t r) j : EReal) := by
  rw [d0, pay25_at, dy_at H, gateB_at H, sz_at H, ← EReal.coe_mul, ← EReal.coe_mul, EReal.coe_eq_coe_iff, Layer.d0]
  ring

section Ahead

variable {nd : Vec Ideal S256x1024 .f32} (hnd : ∀ r j, nd (ix2 r j) = (L.ahead (row t r) j 256 : EReal))
include hnd

theorem d1_at : d1 X nd (ix2 r j) = (L.ahead (row t r) j 1 : EReal) := by
  rw [d1, pay28_at]
  split
  · rw [← d0, d0_at H, ← L.ahead_zero]
    exact congrArg Real.toEReal (L.ahead_congr _ (by simp only [row]; omega))
  · rw [hnd]
    exact congrArg Real.toEReal (L.ahead_congr _ (by simp only [row]; omega))

theorem d2_at : d2 X nd (ix2 r j) = (L.ahead (row t r) j 2 : EReal) := by
  rw [d2, pay29_at]
  split
  · rw [← d0, d0_at H, ← L.ahead_zero]
    exact congrArg Real.toEReal (L.ahead_congr _ (by simp only [row]; omega))
  · rw [hnd]
    exact congrArg Real.toEReal (L.ahead_congr _ (by simp only [row]; omega))

theorem du_at : k0_pay32 (d0 X) (d1 X nd) (d2 X nd) X.cw (k0_pay31 X.cw) (ix2 r j) = (L.du (row t r) j : EReal) := by
  rw [pay32_at, d0_at H, d1_at H r j hnd, d2_at H r j hnd, H.cw, H.cw, H.cw]
  simp only [← EReal.coe_mul, ← EReal.coe_add]; rfl

theorem partC_at : partC X nd (ix2 r j) = (L.gC (row t r) j : EReal) := by
  rw [partC, pay37_at, du_at H r j hnd, xin_at H, ← EReal.coe_mul]; rfl

theorem partX_at : partX X nd (ix2 r j) = (L.gX (row t r) j : EReal) := by
  rw [partX, pay38_at, du_at H r j hnd, gateC_at H, ← EReal.coe_mul, mul_comm]; rfl

end Ahead

theorem partB_at : partB X (ix2 r j) = (L.gB (row t r) j : EReal) := by
  rw [partB, pay26_at, dy_at H, sz_at H, H.yc, ← EReal.coe_mul, ← EReal.coe_mul, EReal.coe_eq_coe_iff, Layer.gB]
  ring

theorem partZ_at : partZ X (ix2 r j) = (L.gZ (row t r) j : EReal) := by
  have h1 : (1 : EReal) = ((1 : ℝ) : EReal) := rfl
  rw [partZ, pay27_at, dy_at H, gateB_at H, z_at H, sg_at H, H.yc, h1]
  simp only [← EReal.coe_mul, ← EReal.coe_sub, ← EReal.coe_add, EReal.coe_eq_coe_iff, Layer.gZ]
  ring

variable {nd : Vec Ideal S256x1024 .f32} (hnd : ∀ r j, nd (ix2 r j) = (L.ahead (row t r) j 256 : EReal))
include hnd

theorem dh_at : dh X nd (ix2 r j) = (L.dh (row t r) j : EReal) := by
  rw [dh, pay39_at]
  simp only [partB_at H, partC_at H _ _ hnd, partX_at H _ _ hnd, partZ_at H, win_part _ (show 0 < 4 by norm_num), win_part _ (show 1 < 4 by norm_num),
    win_part _ (show 2 < 4 by norm_num), win_part _ (show 3 < 4 by norm_num), H.win, ← EReal.coe_mul, ← coe_sum, ← EReal.coe_add, EReal.coe_eq_coe_iff, Layer.dh,
    Nat.zero_mul, Nat.zero_add, Nat.one_mul, Nat.reduceMul]

theorem dx_at : dx X nd (ix2 r j) = (L.dx (row t r) j : EReal) := by
  rw [dx, pay3_at, pay1_at]
  simp only [H.x, root_at]
  simp only [dx1_at H, dh_at H _ _ hnd, H.g1, ← EReal.coe_mul, ← coe_sum, div_width, ← EReal.coe_sub, ← EReal.coe_add]
  rfl

end Values

section Step

variable {L : Layer} {t : ℕ} {X : Ins Ideal} {s : Carry Ideal}

/-- A tap's row of the sums after the block's stores. -/
theorem step_tap {L : Layer} {t : ℕ} {X : Ins Ideal} (H : Block L t X) (g : Vec Ideal S1x1024 .f32) (d : Vec Ideal S256x1024 .f32) (n : ℕ) (j : Fin 1024)
    (hg : g (ix2 (0 : Fin 1) j) = (tail (fun s => L.ahead s j n * L.u s j) t : EReal))
    (hd : ∀ r j, d (ix2 r j) = (L.ahead (row t r) j n : EReal)) :
    k0_pay34 (gateC X) (xin X) d g (ix2 (0 : Fin 1) j) = (tail (fun s => L.ahead s j n * L.u s j) (t + 1) : EReal) := by
  rw [pay34_at, hg, tail_succ]
  simp only [hd, gateC_at H, xin_at H, ← EReal.coe_mul, ← coe_sum, ← EReal.coe_add]
  rfl

theorem carried_step (H : Block L t X) (ht : t < 64) (C : Carried L t s) : Carried L (t + 1) (step X s) where
  dg j := by
    show k0_pay4 (F := Ideal) _ _ _ _ _ _ = _
    rw [pay4_at, tail_succ]
    simp only [H.x, pay1_at, root_at]
    simp only [C.dg, dh_at H _ _ (C.nd ht), ← EReal.coe_mul, ← coe_sum, ← EReal.coe_add]
    rfl
  dcw i j := by
    have hnd := C.nd ht
    show put (put (put s.dcw ![(2 : Fin 3).val, 0] S1x1024.size (k0_pay34 (gateC X) (xin X) (d0 X) _)) ![(1 : Fin 3).val, 0] S1x1024.size
      (k0_pay34 (gateC X) (xin X) (d1 X s.nd) _)) ![(0 : Fin 3).val, 0] S1x1024.size (k0_pay34 (gateC X) (xin X) (d2 X s.nd) _) (ix2 i j) = _
    fin_cases i
    · refine (tap_put _ _ 0 j).trans ?_
      exact step_tap H _ _ 2 j ((tap_read s.dcw 0 _ j).trans (C.dcw 0 j)) fun r j => d2_at H r j hnd
    · refine (tap_keep _ _ 0 1 (by decide) j).trans ((tap_put _ _ 1 j).trans ?_)
      exact step_tap H _ _ 1 j ((tap_read s.dcw 1 _ j).trans (C.dcw 1 j)) fun r j => d1_at H r j hnd
    · refine (tap_keep _ _ 0 2 (by decide) j).trans ((tap_keep _ _ 1 2 (by decide) j).trans ((tap_put _ _ 2 j).trans ?_))
      exact step_tap H _ _ 0 j ((tap_read s.dcw 2 _ j).trans (C.dcw 2 j)) fun r j => (d0_at H r j).trans (by rw [L.ahead_zero])
  dg2 j := by
    show k0_pay14 (F := Ideal) _ _ _ _ = _
    rw [pay14_at, tail_succ]
    simp only [C.dg2, dh2_at H, xh2_at H, ← EReal.coe_mul, ← coe_sum, ← EReal.coe_add]
  nd h r j := by
    show k0_pay30 (F := Ideal) _ _ _ _ = _
    rw [pay30_at, ← d0, d0_at H, ← L.ahead_zero]
    exact congrArg Real.toEReal (L.ahead_congr _ (by simp only [row]; omega))

end Step

/-! ## The projection's gradient in columns -/

section Columns

variable {L : Layer} {t : ℕ} {X : Ins Ideal} (H : Block L t X) {nd : Vec Ideal S256x1024 .f32}
    (hnd : ∀ r j, nd (ix2 r j) = (L.ahead (row t r) j 256 : EReal)) (r : Fin 256) (j : Fin 1024)
include H hnd

theorem dproj_B : dproj X nd (ix2 r (⟨0 + j.val, by omega⟩ : Fin 4096)) = (L.gB (row t r) j : EReal) := by
  unfold dproj over
  rw [part_keep _ _ _ _ (by show ¬ (2048 ≤ 0 + j.val ∧ _); omega), part_keep _ _ _ _ (by show ¬ (1024 ≤ 0 + j.val ∧ _); omega),
    part_keep _ _ _ _ (by show ¬ (3072 ≤ 0 + j.val ∧ _); omega), part_put, partB_at H]

theorem dproj_C : dproj X nd (ix2 r (⟨1024 + j.val, by omega⟩ : Fin 4096)) = (L.gC (row t r) j : EReal) := by
  unfold dproj over
  rw [part_keep _ _ _ _ (by show ¬ (2048 ≤ 1024 + j.val ∧ _); omega), part_put, partC_at H _ _ hnd]

theorem dproj_X : dproj X nd (ix2 r (⟨2048 + j.val, by omega⟩ : Fin 4096)) = (L.gX (row t r) j : EReal) := by
  unfold dproj over
  rw [part_put, partX_at H _ _ hnd]

theorem dproj_Z : dproj X nd (ix2 r (⟨3072 + j.val, by omega⟩ : Fin 4096)) = (L.gZ (row t r) j : EReal) := by
  unfold dproj over
  rw [part_keep _ _ _ _ (by show ¬ (2048 ≤ 3072 + j.val ∧ 3072 + j.val < 2048 + 1024); omega),
    part_keep _ _ _ _ (by show ¬ (1024 ≤ 3072 + j.val ∧ 3072 + j.val < 1024 + 1024); omega), part_put, partZ_at H]

end Columns

end Cert.ConvBwd

end
-- ==== Proof.ConvBwd.Blocks.lean ====
/-
  The inputs of every point of the kernel, where the arguments are real numbers.
-/
module

public import proofs.«01_k».proof.Proof.ConvBwd.Entry
public import proofs.«01_k».proof.Proof.ConvBwd.Block
public import Idealize.ShloMosaic.Lib.Pipeline.ValueKit

@[expose] public section

set_option maxRecDepth 16384

noncomputable section

namespace Cert.ConvBwd

open Idealize.ShloMosaic Idealize.ShloMosaic.TcCoe Idealize.SL.Sem
open Idealize.ShloMosaic.Pipeline (Dat)
open Cert.KernelIdeal Cert.KernelIdeal.Gen

/-! ## Where the blocks lie -/

/-- The windows over rows go backwards, the others hold a whole array. -/
theorem index_rows : ∀ t : Fin grid0.N,
    cc0_transform_0 (grid0.coords t) = ![63 - t.val, 0] ∧ cc0_transform_3 (grid0.coords t) = ![63 - t.val, 0]
    ∧ cc0_transform_5 (grid0.coords t) = ![63 - t.val, 0] ∧ cc0_transform_6 (grid0.coords t) = ![63 - t.val, 0]
    ∧ cc0_transform_11 (grid0.coords t) = ![63 - t.val, 0] ∧ cc0_transform_12 (grid0.coords t) = ![63 - t.val, 0]
    ∧ cc0_transform_13 (grid0.coords t) = ![63 - t.val, 0] ∧ cc0_transform_14 (grid0.coords t) = ![63 - t.val, 0]
    ∧ cc0_transform_15 (grid0.coords t) = ![63 - t.val, 0] := by decide +kernel

theorem index_whole : ∀ t : Fin grid0.N,
    cc0_transform_1 (grid0.coords t) = ![0, 0] ∧ cc0_transform_2 (grid0.coords t) = ![0, 0]
    ∧ cc0_transform_4 (grid0.coords t) = ![0, 0] ∧ cc0_transform_7 (grid0.coords t) = ![0, 0]
    ∧ cc0_transform_8 (grid0.coords t) = ![0, 0, 0] ∧ cc0_transform_9 (grid0.coords t) = ![0, 0]
    ∧ cc0_transform_10 (grid0.coords t) = ![0, 0] ∧ cc0_transform_16 (grid0.coords t) = ![0, 0]
    ∧ cc0_transform_17 (grid0.coords t) = ![0, 0] ∧ cc0_transform_18 (grid0.coords t) = ![0, 0] := by decide +kernel

variable (t : Fin cfg0.N)

theorem index_0 : (cfg0.win 0).index t = ![63 - t.val, 0] := (index_rows t).1
theorem index_3 : (cfg0.win 3).index t = ![63 - t.val, 0] := (index_rows t).2.1
theorem index_5 : (cfg0.win 5).index t = ![63 - t.val, 0] := (index_rows t).2.2.1
theorem index_6 : (cfg0.win 6).index t = ![63 - t.val, 0] := (index_rows t).2.2.2.1
theorem index_11 : (cfg0.win 11).index t = ![63 - t.val, 0] := (index_rows t).2.2.2.2.1
theorem index_12 : (cfg0.win 12).index t = ![63 - t.val, 0] := (index_rows t).2.2.2.2.2.1
theorem index_13 : (cfg0.win 13).index t = ![63 - t.val, 0] := (index_rows t).2.2.2.2.2.2.1
theorem index_14 : (cfg0.win 14).index t = ![63 - t.val, 0] := (index_rows t).2.2.2.2.2.2.2.1
theorem index_15 : (cfg0.win 15).index t = ![63 - t.val, 0] := (index_rows t).2.2.2.2.2.2.2.2
theorem index_1 : (cfg0.win 1).index t = ![0, 0] := (index_whole t).1
theorem index_2 : (cfg0.win 2).index t = ![0, 0] := (index_whole t).2.1
theorem index_4 : (cfg0.win 4).index t = ![0, 0] := (index_whole t).2.2.1
theorem index_7 : (cfg0.win 7).index t = ![0, 0] := (index_whole t).2.2.2.1
theorem index_8 : (cfg0.win 8).index t = ![0, 0, 0] := (index_whole t).2.2.2.2.1
theorem index_9 : (cfg0.win 9).index t = ![0, 0] := (index_whole t).2.2.2.2.2.1
theorem index_10 : (cfg0.win 10).index t = ![0, 0] := (index_whole t).2.2.2.2.2.2.1
theorem index_16 : (cfg0.win 16).index t = ![0, 0] := (index_whole t).2.2.2.2.2.2.2.1
theorem index_17 : (cfg0.win 17).index t = ![0, 0] := (index_whole t).2.2.2.2.2.2.2.2.1
theorem index_18 : (cfg0.win 18).index t = ![0, 0] := (index_whole t).2.2.2.2.2.2.2.2.2

/-! An entry of a block in its array. -/

theorem emb_0 (r : Fin 256) (l : Fin 4224) : ((cfg0.win 0).blk t).view.emb (ix2 r l) = ix2 (row t.val r) l := by blk_ext [index_0 t, row]
theorem emb_1 (r : Fin 1024) (l : Fin 4096) : ((cfg0.win 1).blk t).view.emb (ix2 r l) = ix2 r l := by blk_ext [index_1 t]
theorem emb_2 (r : Fin 1024) (l : Fin 128) : ((cfg0.win 2).blk t).view.emb (ix2 r l) = ix2 r l := by blk_ext [index_2 t]
theorem emb_3 (r : Fin 256) (l : Fin 1024) : ((cfg0.win 3).blk t).view.emb (ix2 r l) = ix2 (row t.val r) l := by blk_ext [index_3 t, row]
theorem emb_4 (r : Fin 1) (l : Fin 1024) : ((cfg0.win 4).blk t).view.emb (ix2 r l) = ix2 r l := by blk_ext [index_4 t]
theorem emb_5 (r : Fin 256) (l : Fin 1024) : ((cfg0.win 5).blk t).view.emb (ix2 r l) = ix2 (row t.val r) l := by blk_ext [index_5 t, row]
theorem emb_6 (r : Fin 256) (l : Fin 1024) : ((cfg0.win 6).blk t).view.emb (ix2 r l) = ix2 (row t.val r) l := by blk_ext [index_6 t, row]
theorem emb_7 (r : Fin 1) (l : Fin 1024) : ((cfg0.win 7).blk t).view.emb (ix2 r l) = ix2 r l := by blk_ext [index_7 t]
theorem emb_8 (p : Fin 4) (j k : Fin 1024) : ((cfg0.win 8).blk t).view.emb (ix3 p j k) = ix3 p j k := by blk_ext [index_8 t]
theorem emb_9 (r : Fin 1024) (l : Fin 1024) : ((cfg0.win 9).blk t).view.emb (ix2 r l) = ix2 r l := by blk_ext [index_9 t]
theorem emb_10 (r : Fin 3) (l : Fin 1024) : ((cfg0.win 10).blk t).view.emb (ix2 r l) = ix2 r l := by blk_ext [index_10 t]
theorem emb_11 (r : Fin 256) (l : Fin 4096) : ((cfg0.win 11).blk t).view.emb (ix2 r l) = ix2 (row t.val r) l := by blk_ext [index_11 t, row]
theorem emb_12 (r : Fin 256) (l : Fin 1024) : ((cfg0.win 12).blk t).view.emb (ix2 r l) = ix2 (row t.val r) l := by blk_ext [index_12 t, row]
theorem emb_13 (r : Fin 256) (l : Fin 4096) : ((cfg0.win 13).blk t).view.emb (ix2 r l) = ix2 (row t.val r) l := by blk_ext [index_13 t, row]
theorem emb_14 (r : Fin 256) (l : Fin 1024) : ((cfg0.win 14).blk t).view.emb (ix2 r l) = ix2 (row t.val r) l := by blk_ext [index_14 t, row]
theorem emb_15 (r : Fin 256) (l : Fin 1024) : ((cfg0.win 15).blk t).view.emb (ix2 r l) = ix2 (row t.val r) l := by blk_ext [index_15 t, row]
theorem emb_16 (r : Fin 1) (l : Fin 1024) : ((cfg0.win 16).blk t).view.emb (ix2 r l) = ix2 r l := by blk_ext [index_16 t]
theorem emb_17 (r : Fin 3) (l : Fin 1024) : ((cfg0.win 17).blk t).view.emb (ix2 r l) = ix2 r l := by blk_ext [index_17 t]
theorem emb_18 (r : Fin 1) (l : Fin 1024) : ((cfg0.win 18).blk t).view.emb (ix2 r l) = ix2 r l := by blk_ext [index_18 t]

/-! ## The inputs of a point -/

section
variable (m : (ℓ : Loc nD τ sig) → Buf (Elt Ideal) ℓ) (c : Dev nD) {L : Layer}
  (R : Reads L (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)))
include R

theorem proj_at (s : Fin 16384) (l : Fin 4096) : (Gen.V m c main_v12 : FVec Ideal S16384x4096 .f32) (ix2 s l) = (L.proj s l : EReal) := by
  rw [V_proj]; exact projOf_at s R.x R.g1 R.win l

theorem yc_at (s : Fin 16384) (j : Fin 1024) : (Gen.V m c main_v37 : FVec Ideal S16384x1024 .f32) (ix2 s j) = (L.yc s j : EReal) := by
  rw [V_conv]; exact convOf_at s j (fun s l => projOf_at s R.x R.g1 R.win l) R.cw

theorem x1_at (s : Fin 16384) (j : Fin 1024) : (Gen.V m c main_v69 : FVec Ideal S16384x1024 .f32) (ix2 s j) = (L.x1 s j : EReal) := by
  have hp := fun s l => projOf_at (L := L) s R.x R.g1 R.win l
  have hy := fun s j => convOf_at (L := L) s j hp R.cw
  rw [V_out]
  refine outOf_at s j R.x (fun s j => ?_) (fun s j => ?_) R.wo
  · refine (congrArg₂ (· * ·) ((columns_at _ _ s j (⟨j.val, by omega⟩ : Fin 4096) (Nat.zero_add _).symm).trans (hp s _)) (hy s j)).trans ?_
    exact (EReal.coe_mul _ _).symm
  · exact (columns_at _ _ s j (⟨3072 + j.val, by omega⟩ : Fin 4096) rfl).trans (hp s _)

theorem dp_at (s : Fin 16384) (l : Fin 4224) : (Gen.V m c main_v76 : FVec Ideal S16384x4224 .bf16) (ix2 s l) =
    if h : l.val < 4112 then ((L.cp s ⟨l.val, h⟩ : ℝ) : EReal) else 0 := by
  rw [V_dp, paddedCot_at]
  simp only [argAt, R.cp]

theorem wa_at (j : Fin 1024) (l : Fin 4096) : (Gen.V m c main_v71 : FVec Ideal S1024x4096 .bf16) (ix2 j l) = ((L.wa j ⟨l.val, by omega⟩ : ℝ) : EReal) := by
  rw [V_wa]
  refine Eq.trans (columns_at (argAt m c main_arg6 : FVec Ideal S1024x4112 .f32) slices_S1024x4112_S1024x4096_0_0 j l (⟨l.val, by omega⟩ : Fin 4112) (Nat.zero_add _).symm) ?_
  exact R.wa _ _

theorem wf_at (j : Fin 1024) (l : Fin 128) : (Gen.V m c main_v74 : FVec Ideal S1024x128 .bf16) (ix2 j l) =
    if h : l.val < 16 then ((L.wa j ⟨4096 + l.val, by omega⟩ : ℝ) : EReal) else 0 := by
  rw [V_wf, paddedRest_at]
  by_cases h : l.val < 16
  · rw [dif_pos h, dif_pos h]
    refine Eq.trans (columns_at (argAt m c main_arg6 : FVec Ideal S1024x4112 .f32) slices_S1024x4112_S1024x16_0_4096 j (⟨l.val, h⟩ : Fin 16) (⟨4096 + l.val, by omega⟩ : Fin 4112) rfl) ?_
    exact R.wa _ _
  · rw [dif_neg h, dif_neg h]

theorem win_at (p : Fin 4) (j k : Fin 1024) : (Gen.V m c main_v79 : FVec Ideal S4x1024x1024 .bf16) (ix3 p j k) =
    ((L.win j ⟨p.val * 1024 + k.val, by omega⟩ : ℝ) : EReal) := by
  rw [V_win, partsOf_at]
  exact R.win _ _

theorem wout_at (j k : Fin 1024) : (Gen.V m c main_v80 : FVec Ideal S1024x1024 .bf16) (ix2 j k) = (L.wo j k : EReal) := by
  rw [V_wout]
  exact R.wo _ _

set_option maxHeartbeats 3000000 in
/-- The inputs of a point hold the layer's rows. -/
theorem block (t : Fin cfg0.N) : Block L t.val (insAt m c t) where
  dp r l := (congrArg (Gen.V m c main_v76) (emb_0 t r l)).trans (dp_at m c R _ l)
  wa j l := (congrArg (Gen.V m c main_v71) (emb_1 t j l)).trans (wa_at m c R j l)
  wf j l := (congrArg (Gen.V m c main_v74) (emb_2 t j l)).trans (wf_at m c R j l)
  x1 r j := (congrArg (Gen.V m c main_v69) (emb_3 t r j)).trans (x1_at m c R _ j)
  g2 j := (congrArg (Gen.V m c main_arg5) (emb_4 t 0 j)).trans ((congrFun (V_main_arg5 m c) _).trans (R.g2 j))
  dx2 r j := (congrArg (Gen.V m c main_arg8) (emb_5 t r j)).trans ((congrFun (V_main_arg8 m c) _).trans (R.cx _ j))
  x r j := (congrArg (Gen.V m c main_arg0) (emb_6 t r j)).trans ((congrFun (V_main_arg0 m c) _).trans (R.x _ j))
  g1 j := (congrArg (Gen.V m c main_arg1) (emb_7 t 0 j)).trans ((congrFun (V_main_arg1 m c) _).trans (R.g1 j))
  win p j k := (congrArg (Gen.V m c main_v79) (emb_8 t p j k)).trans (win_at m c R p j k)
  wout j k := (congrArg (Gen.V m c main_v80) (emb_9 t j k)).trans (wout_at m c R j k)
  cw i j := (congrArg (Gen.V m c main_arg3) (emb_10 t i j)).trans ((congrFun (V_main_arg3 m c) _).trans (R.cw i j))
  proj r l := (congrArg (Gen.V m c main_v12) (emb_11 t r l)).trans (proj_at m c R _ l)
  yc r j := (congrArg (Gen.V m c main_v37) (emb_12 t r j)).trans (yc_at m c R _ j)

end

end Cert.ConvBwd

end
-- ==== Proof.Reals.lean ====
/-
  Arrays of real entries.
-/
module

public import Idealize.ShloMosaic.Lib.Pipeline.ValueKit

@[expose] public section

noncomputable section

namespace Cert.Reals

open Idealize.ShloMosaic

/-- The array of real entries. -/
def ofReals {n k : ℕ} (f : Fin n → Fin k → ℝ) : (⟨2, ![n, k]⟩ : Shape).Idx → EReal := fun i => (f (i 0) (i 1) : EReal)

/-- An array with these entries. -/
theorem eq_ofReals {n k : ℕ} {v : (⟨2, ![n, k]⟩ : Shape).Idx → EReal} {f : Fin n → Fin k → ℝ} (h : ∀ a b, v (ix2 a b) = (f a b : EReal)) : v = ofReals f := by
  funext j
  rw [show j = ix2 (j 0) (j 1) from funext fun a => by fin_cases a <;> rfl]
  exact h _ _

end Cert.Reals

end
-- ==== Proof.ConvBwd.Arrays.lean ====
/-
  The six arrays that the kernel leaves, where the arguments are real numbers.
-/
module

public import proofs.«01_k».proof.Proof.ConvBwd.Blocks
public import proofs.«01_k».proof.Proof.Reals
public import Idealize.ShloMosaic.Lib.Pipeline.ValueKit

@[expose] public section

set_option maxRecDepth 16384

noncomputable section

namespace Cert.ConvBwd

open Idealize.ShloMosaic Idealize.ShloMosaic.TcCoe Idealize.SL.Sem
open Idealize.ShloMosaic.Pipeline (Dat)
open Cert.KernelIdeal Cert.KernelIdeal.Gen
open Cert.Reals (ofReals)

section
variable (m : (ℓ : Loc nD τ sig) → Buf (Elt Ideal) ℓ) (c : Dev nD) {L : Layer}
  (R : Reads L (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)))
include R

/-! ## What goes from point to point -/

theorem carried_before (n : ℕ) (hn : n ≤ 64) : Carried L n (carryBefore m c n) := by
  induction n with
  | zero => exact carried_zero L
  | succ n ih =>
    have h : n < cfg0.N := lt_of_lt_of_eq (by omega) N_0.symm
    have e := carryBefore_succ m c ⟨n, h⟩
    rw [e]
    refine carried_step (block m c R ⟨n, h⟩) (by show n < 64; omega) ?_
    unfold carryAt carryIn
    by_cases h0 : atStart (grid0.coords ⟨n, h⟩)
    · rw [if_pos h0]
      obtain rfl : n = 0 := (atStart_iff ⟨n, h⟩).mp h0
      exact carried_zero L
    · rw [if_neg h0]
      exact ih (by omega)

theorem carried_at (t : Fin cfg0.N) : Carried L t.val (carryAt m c t) := by
  have ht := lt_of_lt_of_eq t.isLt N_0
  unfold carryAt carryIn
  by_cases h0 : atStart (grid0.coords t)
  · rw [if_pos h0, (atStart_iff t).mp h0]; exact carried_zero L
  · rw [if_neg h0]; exact carried_before m c R _ (by omega)

/-! ## The arrays -/

theorem dproj_at (t : Fin cfg0.N) (r : Fin 256) (l : Fin 4096) :
    dproj (insAt m c t) (carryAt m c t).nd (ix2 r l) = (L.dproj (row t.val r) l : EReal) := by
  have H := block m c R t
  have N := (carried_at m c R t).nd (lt_of_lt_of_eq t.isLt N_0)
  have h4 := l.isLt
  by_cases h1 : l.val < 1024
  · obtain ⟨j, hj⟩ : ∃ j : Fin 1024, l = ⟨0 + j.val, by omega⟩ := ⟨⟨l.val, h1⟩, Fin.ext (Nat.zero_add _).symm⟩
    rw [hj]
    refine (dproj_B H N r j).trans (congrArg Real.toEReal ((L.dproj_B (row t.val r) j).symm.trans ?_))
    exact congrArg (L.dproj _) (Fin.ext (Nat.zero_add _).symm)
  by_cases h2 : l.val < 2048
  · obtain ⟨j, hj⟩ : ∃ j : Fin 1024, l = ⟨1024 + j.val, by omega⟩ := ⟨⟨l.val - 1024, by omega⟩, Fin.ext (by simp only; omega)⟩
    rw [hj]
    exact (dproj_C H N r j).trans (congrArg Real.toEReal (L.dproj_C (row t.val r) j).symm)
  by_cases h3 : l.val < 3072
  · obtain ⟨j, hj⟩ : ∃ j : Fin 1024, l = ⟨2048 + j.val, by omega⟩ := ⟨⟨l.val - 2048, by omega⟩, Fin.ext (by simp only; omega)⟩
    rw [hj]
    exact (dproj_X H N r j).trans (congrArg Real.toEReal (L.dproj_X (row t.val r) j).symm)
  · obtain ⟨j, hj⟩ : ∃ j : Fin 1024, l = ⟨3072 + j.val, by omega⟩ := ⟨⟨l.val - 3072, by omega⟩, Fin.ext (by simp only; omega)⟩
    rw [hj]
    exact (dproj_Z H N r j).trans (congrArg Real.toEReal (L.dproj_Z (row t.val r) j).symm)

theorem arr_dproj : (dats m 0 c).arrAt 13 cfg0.N = (ofReals L.dproj : FVec Ideal S16384x4096 .bf16) := by
  refine (dats m 0 c).arrAt_eq_of_covers 13 _ (by decide +kernel : (cfg0.win 13).Covers) fun t hf y => ?_
  blk_simp
  rw [after_13]
  idx_vars y
  refine Eq.trans ?_ (congrArg (ofReals _) (emb_13 t y0 y1)).symm
  exact dproj_at m c R t y0 y1

theorem arr_dx : (dats m 0 c).arrAt 14 cfg0.N = (ofReals L.dx : FVec Ideal S16384x1024 .f32) := by
  refine (dats m 0 c).arrAt_eq_of_covers 14 _ (by decide +kernel : (cfg0.win 14).Covers) fun t hf y => ?_
  blk_simp
  rw [after_14]
  idx_vars y
  refine Eq.trans ?_ (congrArg (ofReals _) (emb_14 t y0 y1)).symm
  exact dx_at (block m c R t) y0 y1 ((carried_at m c R t).nd (lt_of_lt_of_eq t.isLt N_0))

theorem arr_dx1 : (dats m 0 c).arrAt 15 cfg0.N = (ofReals L.dx1 : FVec Ideal S16384x1024 .bf16) := by
  refine (dats m 0 c).arrAt_eq_of_covers 15 _ (by decide +kernel : (cfg0.win 15).Covers) fun t hf y => ?_
  blk_simp
  rw [after_15]
  idx_vars y
  refine Eq.trans ?_ (congrArg (ofReals _) (emb_15 t y0 y1)).symm
  exact dx1b_at (block m c R t) y0 y1

/-- After the last point the sums are over all rows. -/
theorem carried_last (t : Fin cfg0.N) (h : t.val % 64 = 63) : Carried L 64 (carryBefore m c (t.val + 1)) := by
  have ht := lt_of_lt_of_eq t.isLt N_0
  rw [show t.val + 1 = 64 by omega]
  exact carried_before m c R 64 le_rfl

theorem arr_dg : (dats m 0 c).arrAt 16 cfg0.N = (ofReals (fun _ => L.dg) : FVec Ideal S1x1024 .f32) := by
  refine (dats m 0 c).arrAt_eq_of_covers 16 _ (by decide +kernel : (cfg0.win 16).Covers) fun t hf y => ?_
  blk_simp
  rw [after_16]
  idx_vars y
  refine Eq.trans ?_ (congrArg (ofReals _) (emb_16 t y0 y1)).symm
  obtain rfl : y0 = 0 := Subsingleton.elim _ _
  refine ((carried_last m c R t ((flush0_16 t).mp hf)).dg y1).trans (congrArg Real.toEReal ?_)
  rw [tail_all]
  exact Finset.sum_congr rfl fun s _ => mul_comm _ _

theorem arr_dcw : (dats m 0 c).arrAt 17 cfg0.N = (ofReals (fun i j => L.dcw j i) : FVec Ideal S3x1024 .f32) := by
  refine (dats m 0 c).arrAt_eq_of_covers 17 _ (by decide +kernel : (cfg0.win 17).Covers) fun t hf y => ?_
  blk_simp
  rw [after_17]
  idx_vars y
  refine Eq.trans ?_ (congrArg (ofReals _) (emb_17 t y0 y1)).symm
  refine ((carried_last m c R t ((flush0_17 t).mp hf)).dcw y0 y1).trans (congrArg Real.toEReal ?_)
  rw [tail_all]
  exact (L.dcw_ahead y1 y0).symm

theorem arr_dg2 : (dats m 0 c).arrAt 18 cfg0.N = (ofReals (fun _ => L.dg2) : FVec Ideal S1x1024 .f32) := by
  refine (dats m 0 c).arrAt_eq_of_covers 18 _ (by decide +kernel : (cfg0.win 18).Covers) fun t hf y => ?_
  blk_simp
  rw [after_18]
  idx_vars y
  refine Eq.trans ?_ (congrArg (ofReals _) (emb_18 t y0 y1)).symm
  obtain rfl : y0 = 0 := Subsingleton.elim _ _
  refine ((carried_last m c R t ((flush0_18 t).mp hf)).dg2 y1).trans (congrArg Real.toEReal ?_)
  rw [tail_all]
  exact Finset.sum_congr rfl fun s _ => mul_comm _ _

end

end Cert.ConvBwd

end
-- ==== Proof.ConvBwd.Ref.lean ====
/-
  What the reference's values hold where its arguments are real numbers: each of its named values at an index.
-/
module

public import proofs.«01_k».proof.Proof.Gen.ReferenceIdeal.Run
public import proofs.«01_k».proof.Proof.ConvBwd.Spec
public import Idealize.ShloMosaic.Lib.StableHlo.RunRead

@[expose] public section

set_option maxRecDepth 16384

noncomputable section

namespace Cert.ConvBwd.Ref

open Idealize.ShloMosaic Idealize.ShloMosaic.TcCoe Idealize.SL.Sem
open Cert.ReferenceIdeal Cert.ReferenceIdeal.Gen Cert.ReferenceIdeal.Value

variable {L : Layer} {V : Valuation τ sig (Elt Ideal)}
  (R : Reads L (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)))
  (s : Fin 16384) (j : Fin 1024)

/-- The entry of an array of rows. -/
abbrev at2 {n k : ℕ} (v : FVec Ideal ⟨2, ![n, k]⟩ .f32) (a : Fin n) (b : Fin k) : EReal := v (ix2 a b)

abbrev atX (v : FVec Ideal S16384x1024 .f32) (s : Fin 16384) (j : Fin 1024) : EReal := v (ix2 s j)

include R

theorem v8_at : at2 (n := 16384) (k := 1) (res_main_v8 V) s 0 = (meanSq (L.x s) : EReal) := by
  unfold at2
  pointwise [res_main_v8]
  simp only [R.x, ← EReal.coe_mul, ← coe_sum, div_width, word_eps, ← EReal.coe_add]
  rfl

theorem v9_at : at2 (n := 16384) (k := 1) (res_main_v9 V) s 0 = (invRms (L.x s) : EReal) := by
  have h := v8_at R s
  simp only [at2, atX] at h ⊢
  pointwise [res_main_v9]
  rw [h]
  exact rsqrt_meanSq _

theorem v14_at : atX (res_main_v14 V) s j = (L.xh s j : EReal) := by
  have h := v9_at R s
  simp only [at2, atX] at h ⊢
  pointwise [res_main_v14]
  rw [h, R.x, ← EReal.coe_mul]; rfl

theorem v18_at (l : Fin 4096) : at2 (n := 16384) (k := 4096) (res_main_v18 V) s l = (L.proj s l : EReal) := by
  have h := v14_at R s
  simp only [at2, atX] at h ⊢
  pointwise [res_main_v18]
  simp only [h, R.g1, R.win, ← EReal.coe_mul, ← coe_sum, ← EReal.coe_add]
  rfl

theorem v19_at : atX (res_main_v19 V) s j = (L.pB s j : EReal) := by
  have h := v18_at R s
  simp only [at2, atX] at h ⊢
  pointwise [res_main_v19]
  rw [h]; rfl

theorem v20_at : atX (res_main_v20 V) s j = (L.pC s j : EReal) := by
  have h := v18_at R s
  simp only [at2, atX] at h ⊢
  pointwise [res_main_v20]
  rw [h]; rfl

theorem v21_at : atX (res_main_v21 V) s j = (L.pX s j : EReal) := by
  have h := v18_at R s
  simp only [at2, atX] at h ⊢
  pointwise [res_main_v21]
  rw [h]; rfl

theorem v22_at : atX (res_main_v22 V) s j = (L.pZ s j : EReal) := by
  have h := v18_at R s
  simp only [at2, atX] at h ⊢
  pointwise [res_main_v22]
  rw [h]; rfl

theorem v25_at (a : Fin 16386) : at2 (n := 16386) (k := 1024) (res_main_v25 V) a j = ((if h : a.val < 2 then 0 else L.u ⟨a.val - 2, by omega⟩ j : ℝ) : EReal) := by
  have h1 := v20_at R
  have h2 := v21_at R
  simp only [at2, atX] at h1 h2 ⊢
  pointwise [res_main_v25]
  by_cases hl : a.val < 2
  · rw [dif_pos hl, dif_pos hl, EReal.coe_zero]
  · rw [dif_neg hl, dif_neg hl, h1, h2, ← EReal.coe_mul]; rfl

theorem v29_at : atX (res_main_v29 V) s j = (L.past s j 0 : EReal) := by
  have h := v25_at R j
  simp only [at2, atX] at h ⊢
  pointwise [res_main_v29]
  refine (h _).trans (congrArg Real.toEReal ?_)
  show _ = if h : 0 + s.val < 2 then 0 else L.u ⟨0 + s.val - 2, by omega⟩ j
  simp only [Nat.zero_add]

theorem v35_at : atX (res_main_v35 V) s j = (L.past s j 1 : EReal) := by
  have h := v25_at R j
  simp only [at2, atX] at h ⊢
  pointwise [res_main_v35]
  rw [h]; rfl

theorem v42_at : atX (res_main_v42 V) s j = (L.past s j 2 : EReal) := by
  have h := v25_at R j
  simp only [at2, atX] at h ⊢
  pointwise [res_main_v42]
  rw [h]; rfl

theorem v30_at : at2 (n := 1) (k := 1024) (res_main_v30 V) 0 j = (L.cw 0 j : EReal) := by
  unfold at2; pointwise [res_main_v30]; rw [← R.cw]

theorem v36_at : at2 (n := 1) (k := 1024) (res_main_v36 V) 0 j = (L.cw 1 j : EReal) := by
  unfold at2; pointwise [res_main_v36]; rw [← R.cw]

theorem v43_at : at2 (n := 1) (k := 1024) (res_main_v43 V) 0 j = (L.cw 2 j : EReal) := by
  unfold at2; pointwise [res_main_v43]; rw [← R.cw]

theorem v46_at : atX (res_main_v46 V) s j = (L.yc s j : EReal) := by
  have h := And.intro (v29_at R s j) (And.intro (v35_at R s j) (And.intro (v42_at R s j) (And.intro (v30_at R j) (And.intro (v36_at R j) (v43_at R j)))))
  simp only [at2, atX] at h ⊢
  pointwise [res_main_v46]
  simp only [h, ← EReal.coe_mul, ← EReal.coe_add]; rfl

theorem v47_at : atX (res_main_v47 V) s j = (L.pB s j * L.yc s j : ℝ) := by
  have h := And.intro (v19_at R s j) (v46_at R s j)
  simp only [at2, atX] at h ⊢
  pointwise [res_main_v47]
  rw [h.1, h.2, ← EReal.coe_mul]

theorem v48_2_at : atX (res_main_v48_2 V) s j = (L.sg s j : EReal) := by
  have h := v22_at R s j
  simp only [at2, atX] at h ⊢
  pointwise [res_main_v48_2]
  rw [h]
  exact sigmoid_quotient _

theorem v48_0_at : atX (res_main_v48_0 V) s j = (L.sz s j : EReal) := by
  have h := And.intro (v22_at R s j) (v48_2_at R s j)
  simp only [at2, atX] at h ⊢
  pointwise [res_main_v48_0]
  rw [h.1, h.2, ← EReal.coe_mul]; rfl

theorem v52_at : atX (res_main_v52 V) s j = (L.x1 s j : EReal) := by
  have h := And.intro (v47_at R s) (v48_0_at R s)
  simp only [at2, atX] at h ⊢
  pointwise [res_main_v52]
  simp only [h, R.x, R.wo, ← EReal.coe_mul, ← coe_sum, ← EReal.coe_add]; rfl

theorem v59_at : at2 (n := 16384) (k := 1) (res_main_v59 V) s 0 = (meanSq (L.x1 s) : EReal) := by
  have h := v52_at R s
  simp only [at2, atX] at h ⊢
  pointwise [res_main_v59]
  simp only [h, ← EReal.coe_mul, ← coe_sum, div_width, word_eps, ← EReal.coe_add]
  rfl

theorem v60_at : at2 (n := 16384) (k := 1) (res_main_v60 V) s 0 = (invRms (L.x1 s) : EReal) := by
  have h := v59_at R s
  simp only [at2, atX] at h ⊢
  pointwise [res_main_v60]
  rw [h]
  exact rsqrt_meanSq _

theorem v65_at : atX (res_main_v65 V) s j = (L.xh2 s j : EReal) := by
  have h := And.intro (v60_at R s) (v52_at R s j)
  simp only [at2, atX] at h ⊢
  pointwise [res_main_v65]
  rw [h.1, h.2, ← EReal.coe_mul]; rfl

theorem v69_at : atX (res_main_v69 V) s j = (L.dh2 s j : EReal) := by
  unfold atX
  pointwise [res_main_v69]
  simp only [R.cp, R.wa, ← EReal.coe_mul, ← coe_sum]; rfl

theorem v74_at : atX (res_main_v74 V) s j = (L.dh2 s j * L.g2 j : ℝ) := by
  have h := v69_at R s j
  simp only [at2, atX] at h ⊢
  pointwise [res_main_v74]
  rw [h, R.g2, ← EReal.coe_mul]

theorem v85_at : atX (res_main_v85 V) s j = (meanBack (L.x1 s) fun k => L.dh2 s k * L.g2 k : ℝ) := by
  have h := And.intro (v52_at R s) (And.intro (v74_at R s) (And.intro (v60_at R s) (v59_at R s)))
  simp only [at2, atX] at h ⊢
  pointwise [res_main_v85]
  simp only [Fin.sum_univ_one, h]
  exact meanBack_at _ _

theorem v89_at : atX (res_main_v89 V) s j = (L.dx1 s j : EReal) := by
  have h := And.intro (v52_at R s j) (And.intro (v74_at R s j) (And.intro (v60_at R s) (v85_at R s j)))
  simp only [at2, atX] at h ⊢
  pointwise [res_main_v89]
  simp only [h, R.cx, ← EReal.coe_mul, ← EReal.coe_add]
  exact congrArg Real.toEReal (normBack_chain (L.x1 s) (fun k => L.dh2 s k * L.g2 k) (L.cx s j) j)

theorem v90_at : atX (res_main_v90 V) s j = (L.dx1 s j : EReal) := by
  have h := v89_at R s j
  simp only [at2, atX] at h ⊢
  pointwise [res_main_v90]
  exact h

theorem v92_at : atX (res_main_v92 V) s j = (L.dy s j : EReal) := by
  have h := v90_at R s
  simp only [at2, atX] at h ⊢
  pointwise [res_main_v92]
  simp only [h, R.wo, ← EReal.coe_mul, ← coe_sum]; rfl

theorem v93_at : atX (res_main_v93 V) s j = (L.pB s j * L.yc s j * L.dy s j : ℝ) := by
  have h := And.intro (v47_at R s j) (v92_at R s j)
  simp only [at2, atX] at h ⊢
  pointwise [res_main_v93]
  rw [h.1, h.2, ← EReal.coe_mul]

theorem v94_at : atX (res_main_v94 V) s j = (L.dy s j * L.sz s j : ℝ) := by
  have h := And.intro (v48_0_at R s j) (v92_at R s j)
  simp only [at2, atX] at h ⊢
  pointwise [res_main_v94]
  rw [h.1, h.2, ← EReal.coe_mul]

theorem v96_at : atX (res_main_v96 V) s j = (L.d0 s j : EReal) := by
  have h := And.intro (v19_at R s j) (v94_at R s j)
  simp only [at2, atX] at h ⊢
  pointwise [res_main_v96]
  rw [h.1, h.2, ← EReal.coe_mul]; rfl

omit R in
theorem ahead_one (L : Layer) (j : Fin 1024) (f : Fin 16384 → EReal) {w : EReal} {c : ℝ} (hw : w = c) (hf : ∀ s, f s = (L.d0 s j : EReal)) (s : Fin 16384) :
    (if hs : 1 ≤ 2 + s.val ∧ 2 + s.val - 1 < 16384 then w * f ⟨2 + s.val - 1, hs.2⟩ else 0) = ((c * L.ahead s j 1 : ℝ) : EReal) := by
  by_cases hs : s.val + 1 < 16384
  · rw [dif_pos ⟨by omega, by omega⟩, hf, hw, ← EReal.coe_mul, Layer.ahead, dif_pos hs]
    exact congrArg (fun q => ((c * L.d0 q j : ℝ) : EReal)) (Fin.ext (by show 2 + s.val - 1 = s.val + 1; omega))
  · rw [dif_neg (by omega), Layer.ahead, dif_neg hs, mul_zero, EReal.coe_zero]

omit R in
theorem ahead_two (L : Layer) (j : Fin 1024) (f : Fin 16384 → EReal) {w : EReal} {c : ℝ} (hw : w = c) (hf : ∀ s, f s = (L.d0 s j : EReal)) (s : Fin 16384) :
    (if hs : 2 + s.val < 16384 then w * f ⟨2 + s.val, hs⟩ else 0) = ((c * L.ahead s j 2 : ℝ) : EReal) := by
  by_cases hs : s.val + 2 < 16384
  · rw [dif_pos (by omega), hf, hw, ← EReal.coe_mul, Layer.ahead, dif_pos hs]
    exact congrArg (fun q => ((c * L.d0 q j : ℝ) : EReal)) (Fin.ext (Nat.add_comm 2 s.val))
  · rw [dif_neg (by omega), Layer.ahead, dif_neg hs, mul_zero, EReal.coe_zero]

theorem v130_at : atX (res_main_v130 V) s j = (L.du s j : EReal) := by
  have h := And.intro (fun s => v96_at R s j) (And.intro (v30_at R j) (And.intro (v36_at R j) (v43_at R j)))
  simp only [at2, atX] at h ⊢
  pointwise [res_main_v130, res_main_v125]
  rw [h.1, h.2.2.2]
  refine (congrArg₂ _ (congrArg₂ _ rfl (ahead_one _ j (fun q => res_main_v96 V (ix2 q j)) h.2.2.1 h.1 s)) (ahead_two _ j (fun q => res_main_v96 V (ix2 q j)) h.2.1 h.1 s)).trans ?_
  simp only [← EReal.coe_mul, ← EReal.coe_add]
  rfl

theorem v133_at (l : Fin 4096) : at2 (n := 16384) (k := 4096) (res_main_v133 V) s l = (L.dproj s l : EReal) := by
  have h := And.intro (v94_at R s) (And.intro (v46_at R s) (And.intro (v130_at R s) (And.intro (v21_at R s) (And.intro (v20_at R s)
    (And.intro (v93_at R s) (And.intro (v48_2_at R s) (v22_at R s)))))))
  have h1 : (1 : EReal) = ((1 : ℝ) : EReal) := rfl
  simp only [at2, atX] at h ⊢
  pointwise [res_main_v133]
  simp only [h, h1, ← EReal.coe_mul, ← EReal.coe_sub, ← EReal.coe_add]
  unfold Layer.dproj
  split
  · rfl
  split
  · rfl
  split
  · rfl
  rw [EReal.coe_eq_coe_iff, Layer.gZ]
  ring

theorem v134_at : atX (res_main_v134 V) s j = (L.dh s j : EReal) := by
  have h := v133_at R s
  simp only [at2, atX] at h ⊢
  pointwise [res_main_v134]
  simp only [h, R.win, ← EReal.coe_mul, ← coe_sum, L.dh_dproj]

theorem v139_at : atX (res_main_v139 V) s j = (L.dh s j * L.g1 j : ℝ) := by
  have h := v134_at R s j
  simp only [at2, atX] at h ⊢
  pointwise [res_main_v139]
  rw [h, R.g1, ← EReal.coe_mul]

theorem v150_at : atX (res_main_v150 V) s j = (meanBack (L.x s) fun k => L.dh s k * L.g1 k : ℝ) := by
  have h := And.intro (v139_at R s) (And.intro (v9_at R s) (v8_at R s))
  simp only [at2, atX] at h ⊢
  pointwise [res_main_v150]
  simp only [Fin.sum_univ_one, h, R.x]
  exact meanBack_at _ _

/-! ## The results -/

/-- The gradient of the projection. -/
theorem dproj_at (l : Fin 4096) : (truncf .bf16 (res_main_v133 V) bitsLt_bf16_f32 : FVec Ideal S16384x4096 .bf16) (ix2 s l) = (L.dproj s l : EReal) :=
  v133_at R s l

theorem dx_at : atX (addf (addf (addf (res_main_v90 V) (mulf (res_main_v139 V) (broadcastInDim S16384x1024 ![0, 1] bcast_S16384x1_S16384x1024_0_1 (res_main_v9 V))))
    (mulf (V (Proc.devRef .tc main_arg0)) (res_main_v150 V))) (mulf (res_main_v150 V) (V (Proc.devRef .tc main_arg0)))) s j = (L.dx s j : EReal) := by
  have h := And.intro (v90_at R s j) (And.intro (v139_at R s j) (And.intro (v9_at R s) (v150_at R s j)))
  simp only [at2, atX] at h ⊢
  pointwise
  simp only [h, R.x, ← EReal.coe_mul, ← EReal.coe_add]
  exact congrArg Real.toEReal (normBack_chain (L.x s) (fun k => L.dh s k * L.g1 k) (L.dx1 s j) j)

theorem dx1_at : (truncf .bf16 (shapeCast S16384x1024 (res_main_v89 V : FVec Ideal S16384x1024 .f32) shapeCasts_S16384x1024_S16384x1024) bitsLt_bf16_f32
    : FVec Ideal S16384x1024 .bf16) (ix2 s j) = (L.dx1 s j : EReal) := v90_at R s j

theorem dg_at : (shapeCast S1x1024 (Host.reduceAdd (mulf (res_main_v14 V) (res_main_v134 V)) (constant S_ .f32 0x00000000#32) reducesTo_S16384x1024_S1024_d0 h_S_)
    shapeCasts_S1024_S1x1024 : FVec Ideal S1x1024 .f32) (ix2 (0 : Fin 1) j) = (L.dg j : EReal) := by
  have h := And.intro (fun s => v14_at R s j) (fun s => v134_at R s j)
  simp only [at2, atX] at h
  pointwise
  simp only [h, ← EReal.coe_mul, ← coe_sum]
  rfl

theorem dg2_at : (shapeCast S1x1024 (Host.reduceAdd (mulf (res_main_v65 V) (res_main_v69 V)) (constant S_ .f32 0x00000000#32) reducesTo_S16384x1024_S1024_d0 h_S_)
    shapeCasts_S1024_S1x1024 : FVec Ideal S1x1024 .f32) (ix2 (0 : Fin 1) j) = (L.dg2 j : EReal) := by
  have h := And.intro (fun s => v65_at R s j) (fun s => v69_at R s j)
  simp only [at2, atX] at h
  pointwise
  simp only [h, ← EReal.coe_mul, ← coe_sum]
  rfl

/-- A tap's gradient as the reference sums it. -/
def tapSum (w : FVec Ideal S16384x1024 .f32) (V : Valuation τ sig (Elt Ideal)) : FVec Ideal S1x1024 .f32 :=
  broadcastInDim S1x1024 ![1] bcast_S1024_S1x1024_1 (Host.reduceAdd (shapeCast S1x1024 (Host.reduceAdd (mulf (res_main_v96 V) w)
    (constant S_ .f32 0x00000000#32) reducesTo_S16384x1024_S1024_d0 h_S_) shapeCasts_S1024_S1x1024) (constant S_ .f32 0x00000000#32) reducesTo_S1x1024_S1024_d0 h_S_)

theorem tapSum_at {w : FVec Ideal S16384x1024 .f32} {i : Fin 3} (hw : ∀ s, w (ix2 s j) = (L.past s j i : EReal)) :
    tapSum w V (ix2 (0 : Fin 1) j) = (L.dcw j i : EReal) := by
  have h := fun s => v96_at R s j
  simp only [at2, atX] at h
  pointwise [tapSum]
  simp only [Fin.sum_univ_one, h, hw, ← EReal.coe_mul, ← coe_sum]
  rfl

omit R in
theorem taps_at (a b c : FVec Ideal S1x1024 .f32) (i : Fin 3) : (addf (addf (pad S3x1024 ![2, 0] ![0, 0] ![0, 0] a (constant S_ .f32 0x00000000#32) pads_S1x1024_S3x1024_200_000 h_S_)
    (pad S3x1024 ![1, 0] ![1, 0] ![0, 0] b (constant S_ .f32 0x00000000#32) pads_S1x1024_S3x1024_110_000 h_S_))
    (pad S3x1024 ![0, 0] ![2, 0] ![0, 0] c (constant S_ .f32 0x00000000#32) pads_S1x1024_S3x1024_020_000 h_S_) : FVec Ideal S3x1024 .f32) (ix2 i j) =
    if i = 2 then a (ix2 (0 : Fin 1) j) else if i = 1 then b (ix2 (0 : Fin 1) j) else c (ix2 (0 : Fin 1) j) := by
  pointwise
  fin_cases i <;> simp

theorem dcw_at (i : Fin 3) : (addf (addf (pad S3x1024 ![2, 0] ![0, 0] ![0, 0] (tapSum (res_main_v42 V) V) (constant S_ .f32 0x00000000#32) pads_S1x1024_S3x1024_200_000 h_S_)
    (pad S3x1024 ![1, 0] ![1, 0] ![0, 0] (tapSum (res_main_v35 V) V) (constant S_ .f32 0x00000000#32) pads_S1x1024_S3x1024_110_000 h_S_))
    (pad S3x1024 ![0, 0] ![2, 0] ![0, 0] (tapSum (res_main_v29 V) V) (constant S_ .f32 0x00000000#32) pads_S1x1024_S3x1024_020_000 h_S_) : FVec Ideal S3x1024 .f32) (ix2 i j) =
    (L.dcw j i : EReal) := by
  rw [taps_at, tapSum_at R j fun s => v42_at R s j, tapSum_at R j fun s => v35_at R s j, tapSum_at R j fun s => v29_at R s j]
  fin_cases i <;> rfl

end Cert.ConvBwd.Ref

end
-- ==== Proof.ConvBwd.Result.lean ====
/-
  The kernel's six results are the reference's where every argument is a real number.
-/
module

public import proofs.«01_k».proof.Defs
public import proofs.«01_k».proof.Proof.Gen.Pre_finite
public import proofs.«01_k».proof.Proof.Finite
public import proofs.«01_k».proof.Proof.ConvBwd.Arrays
public import proofs.«01_k».proof.Proof.ConvBwd.Ref
public import Idealize.ShloMosaic.Lib.ReduceAll

@[expose] public section

set_option maxRecDepth 16384

noncomputable section

namespace Cert.ConvBwd

open Idealize.ShloMosaic Idealize.ShloMosaic.TcCoe Idealize.SL.Sem
open Cert.KernelIdeal Cert.KernelIdeal.Gen
open Cert.Reals (ofReals eq_ofReals)

/-! ## What the precondition says -/

/-- The layer of the arguments' numbers. -/
def layerOf (x : FVec Ideal S16384x1024 .f32) (g1 : FVec Ideal S1x1024 .f32) (win : FVec Ideal S1024x4096 .f32) (cw : FVec Ideal S3x1024 .f32)
    (wo : FVec Ideal S1024x1024 .f32) (g2 : FVec Ideal S1x1024 .f32) (wa : FVec Ideal S1024x4112 .f32) (cp : FVec Ideal S16384x4112 .f32)
    (cx : FVec Ideal S16384x1024 .f32) : Layer where
  x s j := EReal.toReal (x (ix2 s j))
  g1 j := EReal.toReal (g1 (ix2 (0 : Fin 1) j))
  win k l := EReal.toReal (win (ix2 k l))
  cw i j := EReal.toReal (cw (ix2 i j))
  wo k j := EReal.toReal (wo (ix2 k j))
  g2 j := EReal.toReal (g2 (ix2 (0 : Fin 1) j))
  wa j l := EReal.toReal (wa (ix2 j l))
  cp s l := EReal.toReal (cp (ix2 s l))
  cx s j := EReal.toReal (cx (ix2 s j))

instance : Subsingleton (Cert.Pre_finite.S_.Idx) := ⟨fun a b => funext fun i => i.elim0⟩

theorem reads_of_pre (x : FVec Ideal S16384x1024 .f32) (g1 : FVec Ideal S1x1024 .f32) (win : FVec Ideal S1024x4096 .f32) (cw : FVec Ideal S3x1024 .f32)
    (wo : FVec Ideal S1024x1024 .f32) (g2 : FVec Ideal S1x1024 .f32) (wa : FVec Ideal S1024x4112 .f32) (cp : FVec Ideal S16384x4112 .f32)
    (cx : FVec Ideal S16384x1024 .f32) (h : Cert.Pre_finite.fn (F := Ideal) x g1 win cw wo g2 wa cp cx = fun _ => 1#1) :
    Reads (layerOf x g1 win cw wo g2 wa cp cx) x g1 win cw wo g2 wa cp cx := by
  have e := congrFun h (Shape.Idx.first (by decide))
  unfold Cert.Pre_finite.fn Cert.Pre_finite.fn_part1 Cert.Pre_finite.fn_part2 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact {
    x := fun s j => Finite.toReal_of_abs_lt _ (Host.reduce_andi_all _ _ _ _ _ h0 (ix2 s j))
    g1 := fun j => Finite.toReal_of_abs_lt _ (Host.reduce_andi_all _ _ _ _ _ h1 (ix2 (0 : Fin 1) j))
    win := fun k l => Finite.toReal_of_abs_lt _ (Host.reduce_andi_all _ _ _ _ _ h2 (ix2 k l))
    cw := fun i j => Finite.toReal_of_abs_lt _ (Host.reduce_andi_all _ _ _ _ _ h3 (ix2 i j))
    wo := fun k j => Finite.toReal_of_abs_lt _ (Host.reduce_andi_all _ _ _ _ _ h4 (ix2 k j))
    g2 := fun j => Finite.toReal_of_abs_lt _ (Host.reduce_andi_all _ _ _ _ _ h5 (ix2 (0 : Fin 1) j))
    wa := fun j l => Finite.toReal_of_abs_lt _ (Host.reduce_andi_all _ _ _ _ _ h6 (ix2 j l))
    cp := fun s l => Finite.toReal_of_abs_lt _ (Host.reduce_andi_all _ _ _ _ _ h7 (ix2 s l))
    cx := fun s j => Finite.toReal_of_abs_lt _ (Host.reduce_andi_all _ _ _ _ _ h8 (ix2 s j)) }

/-! ## The claim -/

/-- An array of one row. -/
theorem eq_ofRow {k : ℕ} {v : (⟨2, ![1, k]⟩ : Shape).Idx → EReal} {f : Fin k → ℝ} (h : ∀ b, v (ix2 (0 : Fin 1) b) = (f b : EReal)) : v = ofReals fun _ => f :=
  eq_ofReals fun a b => by rw [Subsingleton.elim a 0]; exact h b

/-- The layer of a device's arguments. -/
def layerAt (m : (ℓ : Loc nD τ sig) → Buf (Elt Ideal) ℓ) (c : Dev nD) : Layer :=
  layerOf (argAt m c main_arg0) (argAt m c main_arg1) (argAt m c main_arg2) (argAt m c main_arg3) (argAt m c main_arg4) (argAt m c main_arg5)
    (argAt m c main_arg6) (argAt m c main_arg7) (argAt m c main_arg8)

set_option maxHeartbeats 1000000 in
/-- The kernel's run leaves the layer's gradients in its six arrays. -/
theorem run_results (m : (ℓ : Loc nD τ sig) → Buf (Elt Ideal) ℓ) (ρ : Dev nD → PrngReg) {L : Dev nD → Layer}
    (R : ∀ c, Reads (L c) (argAt m c main_arg0) (argAt m c main_arg1) (argAt m c main_arg2) (argAt m c main_arg3) (argAt m c main_arg4)
      (argAt m c main_arg5) (argAt m c main_arg6) (argAt m c main_arg7) (argAt m c main_arg8)) :
    θ_run defs (onTc (τ := τ) (main (F := Ideal))) ⟨m, fun _ => 0, ρ⟩ (fun r => ∀ c : Dev nD,
      r.2.mem ((c.tc : Thread nD τ).loc main_v81_0) = ofReals (L c).dproj
      ∧ r.2.mem ((c.tc : Thread nD τ).loc main_v81_1) = ofReals (L c).dx
      ∧ r.2.mem ((c.tc : Thread nD τ).loc main_v81_2) = ofReals (L c).dx1
      ∧ r.2.mem ((c.tc : Thread nD τ).loc main_v81_3) = ofReals (fun _ => (L c).dg)
      ∧ r.2.mem ((c.tc : Thread nD τ).loc main_v81_4) = ofReals (fun i j => (L c).dcw j i)
      ∧ r.2.mem ((c.tc : Thread nD τ).loc main_v81_5) = ofReals (fun _ => (L c).dg2)) :=
  (θ_run defs _ _).mono (fun r h c => ⟨((h.1 c).1 13).trans (arr_dproj m c (R c)), ((h.1 c).1 14).trans (arr_dx m c (R c)),
    ((h.1 c).1 15).trans (arr_dx1 m c (R c)), ((h.1 c).1 16).trans (arr_dg m c (R c)), ((h.1 c).1 17).trans (arr_dcw m c (R c)),
    ((h.1 c).1 18).trans (arr_dg2 m c (R c))⟩) (run_main m ρ)

set_option maxHeartbeats 1000000 in
theorem algebraic : Cert.algebraic_KernelIdeal_ReferenceIdeal_pre_finite := by
  intro m g m' g' hpre hm
  have R (c : Dev nD) : Reads (layerAt m c) (argAt m c main_arg0) (argAt m c main_arg1) (argAt m c main_arg2) (argAt m c main_arg3) (argAt m c main_arg4)
      (argAt m c main_arg5) (argAt m c main_arg6) (argAt m c main_arg7) (argAt m c main_arg8) := reads_of_pre _ _ _ _ _ _ _ _ _ (hpre c)
  refine ⟨fun c => ofReals (layerAt m c).dproj, fun c => ofReals (layerAt m c).dx, fun c => ofReals (layerAt m c).dx1, fun c => ofReals fun _ => (layerAt m c).dg,
    fun c => ofReals fun i j => (layerAt m c).dcw j i, fun c => ofReals fun _ => (layerAt m c).dg2, ?_, ?_⟩
  · refine (θ_run defs _ _).mono (fun r h c => ?_) (θ_run_and (run_results m g R) (frame m g))
    obtain ⟨r0, r1, r2, r3, r4, r5⟩ := h.1 c
    exact ⟨r0, r1, r2, r3, r4, r5, h.2.1 c⟩
  · refine (θ_run Cert.ReferenceIdeal.defs _ _).mono (fun r h c => ?_) (Cert.ReferenceIdeal.Value.run m' g')
    obtain ⟨k0, k1, k2, k3, k4, k5, k6, k7, k8⟩ := hm c
    have Q : Reads (layerAt m c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) := by
      rw [k0, k1, k2, k3, k4, k5, k6, k7, k8]; exact R c
    obtain ⟨r0, r1, r2, r3, r4, r5, keep⟩ := h c
    exact ⟨r0.trans (eq_ofReals (Ref.dproj_at Q)), r1.trans (eq_ofReals (Ref.dx_at Q)), r2.trans (eq_ofReals (Ref.dx1_at Q)), r3.trans (eq_ofRow (Ref.dg_at Q)),
      r4.trans (eq_ofReals fun i j => Ref.dcw_at Q j i), r5.trans (eq_ofRow (Ref.dg2_at Q)), keep⟩

end Cert.ConvBwd

end
-- ==== Proof.ConvFwd.State.lean ====
/-
  What a step of the forward kernel leaves: its two halves of 256 rows, each over the rows before it.
-/
module

public import proofs.«01_k».proof.Proof.Gen.Kernel3Ideal.Frame
public import proofs.«01_k».proof.Proof.Windows
public import proofs.«01_k».proof.Proof.ConvBwd.Spec
public import Idealize.ShloMosaic.Lib.Pipeline.ValueKit

@[expose] public section

set_option maxRecDepth 16384

noncomputable section

namespace Cert.ConvFwd

open Idealize.ShloMosaic Idealize.ShloMosaic.TcCoe Idealize.SL.Sem
open Cert.Kernel3Ideal Cert.Kernel3Ideal.Gen
open Idealize.ShloMosaic.VecWindow (window put)
open Cert.Windows (put_whole window_whole read_put read_window)

variable {F : FTy → Type} [FloatOps F]

/-! ## A half of a block: 256 rows -/

/-- What a half finds: its rows, the rows of the convolution's argument before it, and the weights. -/
structure Half (F : FTy → Type) where
  x : Vec F S256x1024 .f32
  prev : Vec F S256x1024 .f32
  g : Vec F S1x1024 .f32
  wB : Vec F S1x1024x1024 .bf16
  wC : Vec F S1x1024x1024 .bf16
  wX : Vec F S1x1024x1024 .bf16
  wZ : Vec F S1x1024x1024 .bf16
  cw : Vec F S3x1024 .f32
  wo : Vec F S1024x1024 .bf16

namespace Half

variable (H : Half F)

/-- The normalised rows, the projection's four parts, the convolution's argument and its result, the gated result and the
    layer's output. -/
def h : Vec F S256x1024 .bf16 := k0_pay4 H.x H.g
def pB : Vec F S256x1024 .f32 := k0_pay5 H.x H.g H.wB
def pC : Vec F S256x1024 .f32 := k0_pay5 H.x H.g H.wC
def pX : Vec F S256x1024 .f32 := k0_pay5 H.x H.g H.wX
def pZ : Vec F S256x1024 .f32 := k0_pay5 H.x H.g H.wZ
def u : Vec F S256x1024 .f32 := k0_pay10 H.pC H.pX
def u1 : Vec F S256x1024 .f32 := k0_pay11 H.pC H.pX H.prev
def u2 : Vec F S256x1024 .f32 := k0_pay12 H.pC H.pX H.prev
def yc : Vec F S256x1024 .f32 := k0_pay15 H.u H.u1 H.u2 H.cw (k0_pay14 H.cw)
def y : Vec F S256x1024 .bf16 := k0_pay1 H.yc H.pZ H.pB
def x1 : Vec F S256x1024 .f32 := k0_pay2 H.x H.yc H.pZ H.pB H.wo

end Half

/-- A block's inputs. -/
structure Ins (F : FTy → Type) where
  x : Vec F S512x1024 .f32
  g : Vec F S1x1024 .f32
  win : Vec F S4x1024x1024 .bf16
  cw : Vec F S3x1024 .f32
  wo : Vec F S1024x1024 .bf16

/-- The two halves of a block. -/
def first (X : Ins F) (prev : Vec F S256x1024 .f32) : Half F where
  x := View.ld X.x (Rect.unit ![0, 0] ![256, 1024] inb_S512x1024_S256x1024_0_0)
  prev := prev
  g := X.g
  wB := View.ld X.win (Rect.unit ![0, 0, 0] ![1, 1024, 1024] inb_S4x1024x1024_S1x1024x1024_0_0_0)
  wC := View.ld X.win (Rect.unit ![1, 0, 0] ![1, 1024, 1024] inb_S4x1024x1024_S1x1024x1024_1_0_0)
  wX := View.ld X.win (Rect.unit ![2, 0, 0] ![1, 1024, 1024] inb_S4x1024x1024_S1x1024x1024_2_0_0)
  wZ := View.ld X.win (Rect.unit ![3, 0, 0] ![1, 1024, 1024] inb_S4x1024x1024_S1x1024x1024_3_0_0)
  cw := X.cw
  wo := X.wo

def second (X : Ins F) (prev : Vec F S256x1024 .f32) : Half F where
  x := View.ld X.x (Rect.unit ![256, 0] ![256, 1024] inb_S512x1024_S256x1024_256_0)
  prev := (first X prev).u
  g := X.g
  wB := View.ld X.win (Rect.unit ![0, 0, 0] ![1, 1024, 1024] inb_S4x1024x1024_S1x1024x1024_0_0_0)
  wC := View.ld X.win (Rect.unit ![1, 0, 0] ![1, 1024, 1024] inb_S4x1024x1024_S1x1024x1024_1_0_0)
  wX := View.ld X.win (Rect.unit ![2, 0, 0] ![1, 1024, 1024] inb_S4x1024x1024_S1x1024x1024_2_0_0)
  wZ := View.ld X.win (Rect.unit ![3, 0, 0] ![1, 1024, 1024] inb_S4x1024x1024_S1x1024x1024_3_0_0)
  cw := X.cw
  wo := X.wo

/-- Two halves one above the other. -/
def above {e : EltTy} (a b : Vec F S256x1024 e) : Vec F S512x1024 e :=
  View.canon [⟨Rect.unit ![256, 0] ![256, 1024] inb_S512x1024_S256x1024_256_0, b⟩, ⟨Rect.unit ![0, 0] ![256, 1024] inb_S512x1024_S256x1024_0_0, a⟩]

/-- The four parts of the first half's projection, stored one after the other, and those of the second half's. -/
abbrev firstParts (a b c d : Vec F S256x1024 .f32) (L : List (View.Piece (Elt F) S512x4096 .f32)) : List (View.Piece (Elt F) S512x4096 .f32) :=
  ⟨Rect.unit ![0, 3072] ![256, 1024] inb_S512x4096_S256x1024_0_3072, d⟩ ::
  ⟨Rect.unit ![0, 2048] ![256, 1024] inb_S512x4096_S256x1024_0_2048, c⟩ ::
  ⟨Rect.unit ![0, 1024] ![256, 1024] inb_S512x4096_S256x1024_0_1024, b⟩ ::
  ⟨Rect.unit ![0, 0] ![256, 1024] inb_S512x4096_S256x1024_0_0, a⟩ :: L
abbrev secondParts (a b c d : Vec F S256x1024 .f32) (L : List (View.Piece (Elt F) S512x4096 .f32)) : List (View.Piece (Elt F) S512x4096 .f32) :=
  ⟨Rect.unit ![256, 3072] ![256, 1024] inb_S512x4096_S256x1024_256_3072, d⟩ ::
  ⟨Rect.unit ![256, 2048] ![256, 1024] inb_S512x4096_S256x1024_256_2048, c⟩ ::
  ⟨Rect.unit ![256, 1024] ![256, 1024] inb_S512x4096_S256x1024_256_1024, b⟩ ::
  ⟨Rect.unit ![256, 0] ![256, 1024] inb_S512x4096_S256x1024_256_0, a⟩ :: L

/-- The projection of two halves. -/
def projs (A B : Half F) : Vec F S512x4096 .f32 :=
  View.canon (secondParts B.pB B.pC B.pX B.pZ (firstParts A.pB A.pC A.pX A.pZ []))

/-! ## Parts of the projection read back -/

/-- A part that was stored last. -/
theorem part_hit (v : View sig .tc .vmem S512x4096 .f32) {o p : ℕ} (inb inb') (w : Vec F S256x1024 .f32) (L : List (View.Piece (Elt F) S512x4096 .f32)) :
    v.readCov (⟨Rect.unit (s := S512x4096) ![o, p] ![256, 1024] inb, w⟩ :: L) (Rect.unit (s := S512x4096) ![o, p] ![256, 1024] inb').toLoadRect = w :=
  View.readCov_cons_toLoadRect (Val := Elt F) v (Rect.unit (s := S512x4096) ![o, p] ![256, 1024] inb) w L

/-- A store of another part is passed by. -/
theorem part_skip (v : View sig .tc .vmem S512x4096 .f32) {o p o' p' : ℕ} (inb inb') (w : Vec F S256x1024 .f32) (L : List (View.Piece (Elt F) S512x4096 .f32))
    (h : p + 1024 ≤ p' ∨ p' + 1024 ≤ p) :
    v.readCov (⟨Rect.unit (s := S512x4096) ![o, p] ![256, 1024] inb, w⟩ :: L) (Rect.unit (s := S512x4096) ![o', p'] ![256, 1024] inb').toLoadRect =
      v.readCov L (Rect.unit (s := S512x4096) ![o', p'] ![256, 1024] inb').toLoadRect :=
  View.readCov_cons_of_disjoint (Val := Elt F) v _ L _ (Rect.unit_disjoint (inb := inb) (inb' := inb') (1 : Fin 2) h)

/-- The four parts of the first half, read back. -/
theorem read_first (v : View sig .tc .vmem S512x4096 .f32) (a b c d : Vec F S256x1024 .f32) (L : List (View.Piece (Elt F) S512x4096 .f32)) :
    v.readCov (firstParts a b c d L) (Rect.unit (s := S512x4096) ![0, 0] ![256, 1024] inb_S512x4096_S256x1024_0_0).toLoadRect = a ∧
      v.readCov (firstParts a b c d L) (Rect.unit (s := S512x4096) ![0, 1024] ![256, 1024] inb_S512x4096_S256x1024_0_1024).toLoadRect = b ∧
      v.readCov (firstParts a b c d L) (Rect.unit (s := S512x4096) ![0, 2048] ![256, 1024] inb_S512x4096_S256x1024_0_2048).toLoadRect = c ∧
      v.readCov (firstParts a b c d L) (Rect.unit (s := S512x4096) ![0, 3072] ![256, 1024] inb_S512x4096_S256x1024_0_3072).toLoadRect = d := by
  refine ⟨?_, ?_, ?_, ?_⟩
  · rw [part_skip _ _ _ _ _ (by omega), part_skip _ _ _ _ _ (by omega), part_skip _ _ _ _ _ (by omega), part_hit]
  · rw [part_skip _ _ _ _ _ (by omega), part_skip _ _ _ _ _ (by omega), part_hit]
  · rw [part_skip _ _ _ _ _ (by omega), part_hit]
  · rw [part_hit]

/-- The four parts of the second half, read back. -/
theorem read_second (v : View sig .tc .vmem S512x4096 .f32) (a b c d : Vec F S256x1024 .f32) (L : List (View.Piece (Elt F) S512x4096 .f32)) :
    v.readCov (secondParts a b c d L) (Rect.unit (s := S512x4096) ![256, 0] ![256, 1024] inb_S512x4096_S256x1024_256_0).toLoadRect = a ∧
      v.readCov (secondParts a b c d L) (Rect.unit (s := S512x4096) ![256, 1024] ![256, 1024] inb_S512x4096_S256x1024_256_1024).toLoadRect = b ∧
      v.readCov (secondParts a b c d L) (Rect.unit (s := S512x4096) ![256, 2048] ![256, 1024] inb_S512x4096_S256x1024_256_2048).toLoadRect = c ∧
      v.readCov (secondParts a b c d L) (Rect.unit (s := S512x4096) ![256, 3072] ![256, 1024] inb_S512x4096_S256x1024_256_3072).toLoadRect = d := by
  refine ⟨?_, ?_, ?_, ?_⟩
  · rw [part_skip _ _ _ _ _ (by omega), part_skip _ _ _ _ _ (by omega), part_skip _ _ _ _ _ (by omega), part_hit]
  · rw [part_skip _ _ _ _ _ (by omega), part_skip _ _ _ _ _ (by omega), part_hit]
  · rw [part_skip _ _ _ _ _ (by omega), part_hit]
  · rw [part_hit]

/-! ## The outputs from the parts read back -/

section Out

variable (H : Half F) {b c x z p : Vec F S256x1024 .f32}

theorem above_of {e : EltTy} {a a' b b' : Vec F S256x1024 e} (hb : b = b') (ha : a = a') :
    View.canon [⟨Rect.unit (s := S512x1024) ![256, 0] ![256, 1024] inb_S512x1024_S256x1024_256_0, b⟩, ⟨Rect.unit (s := S512x1024) ![0, 0] ![256, 1024] inb_S512x1024_S256x1024_0_0, a⟩] = above a' b' := by
  rw [hb, ha]; rfl

theorem u_of (hc : c = H.pC) (hx : x = H.pX) : k0_pay13 c x = H.u := by
  rw [hc, hx]; exact shapeCast_self _ _

theorem yc_of (hc : c = H.pC) (hx : x = H.pX) (hp : p = H.prev) : k0_pay27 c x p H.cw = H.yc := by rw [hc, hx, hp]; rfl

theorem y_of (hc : c = H.pC) (hx : x = H.pX) (hp : p = H.prev) (hz : z = H.pZ) (hb : b = H.pB) : k0_pay1 (k0_pay27 c x p H.cw) z b = H.y := by
  rw [hc, hx, hp, hz, hb]; rfl

theorem x1_of (hc : c = H.pC) (hx : x = H.pX) (hp : p = H.prev) (hz : z = H.pZ) (hb : b = H.pB) :
    k0_pay2 H.x (k0_pay27 c x p H.cw) z b H.wo = H.x1 := by
  rw [hc, hx, hp, hz, hb]; rfl

/-- The first half's values, as its steps write them. -/
theorem yc_first (hc : c = H.pC) (hx : x = H.pX) (hp : p = H.prev) :
    k0_pay15 (k0_pay10 c x) (k0_pay11 c x p) (k0_pay12 c x p) H.cw (k0_pay14 H.cw) = H.yc := by
  rw [hc, hx, hp]; rfl

theorem y_first (hc : c = H.pC) (hx : x = H.pX) (hp : p = H.prev) (hz : z = H.pZ) (hb : b = H.pB) :
    k0_pay16 (k0_pay10 c x) (k0_pay11 c x p) (k0_pay12 c x p) H.cw (k0_pay14 H.cw) z b = H.y := by
  rw [hc, hx, hp, hz, hb]; rfl

theorem x1_first (hc : c = H.pC) (hx : x = H.pX) (hp : p = H.prev) (hz : z = H.pZ) (hb : b = H.pB) :
    k0_pay17 H.x (k0_pay10 c x) (k0_pay11 c x p) (k0_pay12 c x p) H.cw (k0_pay14 H.cw) z b H.wo = H.x1 := by
  rw [hc, hx, hp, hz, hb]; rfl

end Out

variable (m : (ℓ : Loc nD τ sig) → Buf (Elt F) ℓ) (c : Dev nD)

/-- The inputs of point `t`, and what it finds of the rows before: zero at the first point. -/
def insAt (t : Fin cfg0.N) : Ins F := ⟨iblk m c 0 t, iblk m c 1 t, iblk m c 2 t, iblk m c 3 t, iblk m c 4 t⟩

/-- What a point leaves, from its inputs and the rows before. -/
def leaves (X : Ins F) (prev : Vec F S256x1024 .f32) : Vec F S512x4096 .f32 × Vec F S512x1024 .bf16 × Vec F S512x1024 .f32 × Vec F S512x1024 .bf16 × Vec F S512x1024 .f32 × Vec F S256x1024 .f32 :=
  (projs (first X prev) (second X prev), above (first X prev).h (second X prev).h, above (first X prev).yc (second X prev).yc,
    above (first X prev).y (second X prev).y, above (first X prev).x1 (second X prev).x1, (second X prev).u)

set_option maxHeartbeats 1000000 in
theorem outs_step (t : Fin cfg0.N) (h0 : ¬ t.val % 32 = 0) : outsAt0 m c t.val t.isLt =
    leaves (insAt m c t) (outsAt0 m c (t.val - 1) (Nat.lt_of_le_of_lt (Nat.sub_le _ _) t.isLt)).2.2.2.2.2 := by
  rw [outsAt0_B m c t h0]
  generalize (outsAt0 m c (t.val - 1) (Nat.lt_of_le_of_lt (Nat.sub_le _ _) t.isLt)).2.2.2.2.2 = prev
  refine Prod.ext ?_ (Prod.ext ?_ (Prod.ext ?_ (Prod.ext ?_ (Prod.ext ?_ ?_)))) <;> dsimp only <;> frame_out
  · rfl
  · rfl
  · exact above_of (yc_of (second (insAt m c t) prev) (read_second _ _ _ _ _ _).2.1 (read_second _ _ _ _ _ _).2.2.1 (u_of (first (insAt m c t) prev) (read_first _ _ _ _ _ _).2.1 (read_first _ _ _ _ _ _).2.2.1)) (yc_first (first (insAt m c t) prev) (read_first _ _ _ _ _ _).2.1 (read_first _ _ _ _ _ _).2.2.1 (Memref.IsWhole.read_unread _ _))
  · exact above_of (y_of (second (insAt m c t) prev) (read_second _ _ _ _ _ _).2.1 (read_second _ _ _ _ _ _).2.2.1 (u_of (first (insAt m c t) prev) (read_first _ _ _ _ _ _).2.1 (read_first _ _ _ _ _ _).2.2.1) (read_second _ _ _ _ _ _).2.2.2 (read_second _ _ _ _ _ _).1) (y_first (first (insAt m c t) prev) (read_first _ _ _ _ _ _).2.1 (read_first _ _ _ _ _ _).2.2.1 (Memref.IsWhole.read_unread _ _) (read_first _ _ _ _ _ _).2.2.2 (read_first _ _ _ _ _ _).1)
  · exact above_of (x1_of (second (insAt m c t) prev) (read_second _ _ _ _ _ _).2.1 (read_second _ _ _ _ _ _).2.2.1 (u_of (first (insAt m c t) prev) (read_first _ _ _ _ _ _).2.1 (read_first _ _ _ _ _ _).2.2.1) (read_second _ _ _ _ _ _).2.2.2 (read_second _ _ _ _ _ _).1) (x1_first (first (insAt m c t) prev) (read_first _ _ _ _ _ _).2.1 (read_first _ _ _ _ _ _).2.2.1 (Memref.IsWhole.read_unread _ _) (read_first _ _ _ _ _ _).2.2.2 (read_first _ _ _ _ _ _).1)
  · exact u_of (second (insAt m c t) prev) (read_second _ _ _ _ _ _).2.1 (read_second _ _ _ _ _ _).2.2.1

set_option maxHeartbeats 1000000 in
theorem outs_start (t : Fin cfg0.N) (h0 : t.val % 32 = 0) : outsAt0 m c t.val t.isLt = leaves (insAt m c t) k0_pay3 := by
  rw [outsAt0_A m c t h0]
  refine Prod.ext ?_ (Prod.ext ?_ (Prod.ext ?_ (Prod.ext ?_ (Prod.ext ?_ ?_)))) <;> dsimp only <;> frame_out
  · rfl
  · rfl
  · exact above_of (yc_of (second (insAt m c t) k0_pay3) (read_second _ _ _ _ _ _).2.1 (read_second _ _ _ _ _ _).2.2.1 (u_of (first (insAt m c t) k0_pay3) (read_first _ _ _ _ _ _).2.1 (read_first _ _ _ _ _ _).2.2.1)) (yc_first (first (insAt m c t) k0_pay3) (read_first _ _ _ _ _ _).2.1 (read_first _ _ _ _ _ _).2.2.1 rfl)
  · exact above_of (y_of (second (insAt m c t) k0_pay3) (read_second _ _ _ _ _ _).2.1 (read_second _ _ _ _ _ _).2.2.1 (u_of (first (insAt m c t) k0_pay3) (read_first _ _ _ _ _ _).2.1 (read_first _ _ _ _ _ _).2.2.1) (read_second _ _ _ _ _ _).2.2.2 (read_second _ _ _ _ _ _).1) (y_first (first (insAt m c t) k0_pay3) (read_first _ _ _ _ _ _).2.1 (read_first _ _ _ _ _ _).2.2.1 rfl (read_first _ _ _ _ _ _).2.2.2 (read_first _ _ _ _ _ _).1)
  · exact above_of (x1_of (second (insAt m c t) k0_pay3) (read_second _ _ _ _ _ _).2.1 (read_second _ _ _ _ _ _).2.2.1 (u_of (first (insAt m c t) k0_pay3) (read_first _ _ _ _ _ _).2.1 (read_first _ _ _ _ _ _).2.2.1) (read_second _ _ _ _ _ _).2.2.2 (read_second _ _ _ _ _ _).1) (x1_first (first (insAt m c t) k0_pay3) (read_first _ _ _ _ _ _).2.1 (read_first _ _ _ _ _ _).2.2.1 rfl (read_first _ _ _ _ _ _).2.2.2 (read_first _ _ _ _ _ _).1)
  · exact u_of (second (insAt m c t) k0_pay3) (read_second _ _ _ _ _ _).2.1 (read_second _ _ _ _ _ _).2.2.1

end Cert.ConvFwd

end
-- ==== Proof.ConvFwd.Half.lean ====
/-
  The values of a step of the forward kernel, where its inputs hold real numbers.
-/
module

public import proofs.«01_k».proof.Proof.ConvFwd.State

@[expose] public section

set_option maxRecDepth 16384

noncomputable section

namespace Cert.ConvFwd

open Idealize.ShloMosaic
open Cert.Kernel3Ideal Cert.Kernel3Ideal.Gen
open Cert.ConvBwd (Layer coe_sum root_at invRms word_half sigmoid_tanh sigmoid)

/-! ## The kernel's operations at an index -/

section Ops

/-- The rotated rows: `n` rows back in the same half, or in the half before it. -/
theorem rotated {n : ℕ} (f g : Fin 256 → EReal) (r : Fin 256) {w : BitVec 1} (hn : n < 256) (hw : w = if r.val < n then 1#1 else 0#1) :
    Scalar.select w (f ⟨(r.val + 256 - n) % 256, Nat.mod_lt _ (by norm_num)⟩) (g ⟨(r.val + 256 - n) % 256, Nat.mod_lt _ (by norm_num)⟩) =
      if h : n ≤ r.val then g ⟨r.val - n, by omega⟩ else f ⟨r.val + 256 - n, by omega⟩ := by
  have hr := r.isLt
  by_cases h : n ≤ r.val
  · rw [hw, if_neg (by omega), dif_pos h]
    exact congrArg g (Fin.ext (by show (r.val + 256 - n) % 256 = r.val - n; omega))
  · rw [hw, if_pos (by omega), dif_neg h]
    exact congrArg f (Fin.ext (by show (r.val + 256 - n) % 256 = r.val + 256 - n; omega))

theorem first_row : ∀ r : Fin 256, IntOp.cmpi CmpIPredicate.slt (BitVec.ofNat 32 r.val) 1#32 = if r.val < 1 then 1#1 else 0#1 := by
  decide +kernel
theorem first_rows : ∀ r : Fin 256, IntOp.cmpi CmpIPredicate.slt (BitVec.ofNat 32 r.val) 2#32 = if r.val < 2 then 1#1 else 0#1 := by
  decide +kernel

variable (a b c : Vec Ideal S256x1024 .f32) (r : Fin 256) (j : Fin 1024)

theorem pay4_at (g : Vec Ideal S1x1024 .f32) : k0_pay4 a g (ix2 r j) = a (ix2 r j) *
    Ideal.rsqrt (Ideal.div (∑ k, a (ix2 r k) * a (ix2 r k)) (Ideal.ofBits FTy.f32 0x44800000#32) + Ideal.ofBits FTy.f32 0x358637BD#32) * g (ix2 (0 : Fin 1) j) := by
  pointwise [k0_pay4]

theorem pay5_at (g : Vec Ideal S1x1024 .f32) (w : Vec Ideal S1x1024x1024 .bf16) :
    k0_pay5 a g w (ix2 r j) = ∑ k, k0_pay4 a g (ix2 r k) * w (ix3 (0 : Fin 1) k j) := by
  pointwise [k0_pay5]

theorem pay10_at : k0_pay10 a b (ix2 r j) = a (ix2 r j) * b (ix2 r j) := by
  pointwise [k0_pay10]

theorem pay11_at : k0_pay11 a b c (ix2 r j) = if h : 1 ≤ r.val then k0_pay10 a b (ix2 (⟨r.val - 1, by omega⟩ : Fin 256) j) else
    c (ix2 (⟨r.val + 256 - 1, by omega⟩ : Fin 256) j) := by
  pointwise [k0_pay11]
  exact rotated (fun q => c (ix2 q j)) (fun q => k0_pay10 a b (ix2 q j)) r (by norm_num) (first_row r)

theorem pay12_at : k0_pay12 a b c (ix2 r j) = if h : 2 ≤ r.val then k0_pay10 a b (ix2 (⟨r.val - 2, by omega⟩ : Fin 256) j) else
    c (ix2 (⟨r.val + 256 - 2, by omega⟩ : Fin 256) j) := by
  pointwise [k0_pay12]
  exact rotated (fun q => c (ix2 q j)) (fun q => k0_pay10 a b (ix2 q j)) r (by norm_num) (first_rows r)

theorem pay15_at (w : Vec Ideal S3x1024 .f32) : k0_pay15 a b c w (k0_pay14 w) (ix2 r j) =
    w (ix2 (2 : Fin 3) j) * a (ix2 r j) + w (ix2 (1 : Fin 3) j) * b (ix2 r j) + w (ix2 (0 : Fin 3) j) * c (ix2 r j) := by
  pointwise [k0_pay15, k0_pay14]

theorem pay1_at : k0_pay1 (F := Ideal) a b c (ix2 r j) = c (ix2 r j) * a (ix2 r j) * (b (ix2 r j) *
    (Ideal.ofBits FTy.f32 0x3F000000#32 * Ideal.tanh (Ideal.ofBits FTy.f32 0x3F000000#32 * b (ix2 r j)) + Ideal.ofBits FTy.f32 0x3F000000#32)) := by
  pointwise [k0_pay1]

theorem pay2_at (x : Vec Ideal S256x1024 .f32) (w : Vec Ideal S1024x1024 .bf16) :
    k0_pay2 x a b c w (ix2 r j) = x (ix2 r j) + ∑ k, k0_pay1 (F := Ideal) a b c (ix2 r k) * w (ix2 k j) := by
  pointwise [k0_pay2]

end Ops

/-! ## A half's values -/

/-- Row `r` of half `n`. -/
def row (n : Fin 64) (r : Fin 256) : Fin 16384 := ⟨n.val * 256 + r.val, by omega⟩

/-- The convolution's argument in the half before half `n`: zero before the first. -/
def back (L : Layer) (n : ℕ) (r : Fin 256) (j : Fin 1024) : ℝ := if h : 1 ≤ n ∧ n ≤ 64 then L.u (row ⟨n - 1, by omega⟩ r) j else 0

/-- The rows `i` back, found in the half or in the one before. -/
theorem rows_back (L : Layer) (n : Fin 64) (r : Fin 256) (j : Fin 1024) (i : ℕ) (hi : i < 256) :
    (if h : i ≤ r.val then L.u (row n ⟨r.val - i, by omega⟩) j else back L n.val ⟨r.val + 256 - i, by omega⟩ j) =
      if h : i ≤ (row n r).val then L.u ⟨(row n r).val - i, by omega⟩ j else 0 := by
  have hn := n.isLt
  have hr := r.isLt
  by_cases h : i ≤ r.val
  · rw [dif_pos h, dif_pos (by show i ≤ n.val * 256 + r.val; omega)]
    exact congrArg (L.u · j) (Fin.ext (by show n.val * 256 + (r.val - i) = n.val * 256 + r.val - i; omega))
  · rw [dif_neg h, back]
    by_cases h0 : 1 ≤ n.val
    · rw [dif_pos ⟨h0, hn.le⟩, dif_pos (by show i ≤ n.val * 256 + r.val; omega)]
      exact congrArg (L.u · j) (Fin.ext (by show (n.val - 1) * 256 + (r.val + 256 - i) = n.val * 256 + r.val - i; omega))
    · rw [dif_neg (fun hh => h0 hh.1), dif_neg (by show ¬ i ≤ n.val * 256 + r.val; omega)]

/-- Half `n` holds the layer's rows. -/
structure HalfAt (L : Layer) (n : Fin 64) (H : Half Ideal) : Prop where
  x : ∀ r j, H.x (ix2 r j) = (L.x (row n r) j : EReal)
  prev : ∀ r j, H.prev (ix2 r j) = (back L n.val r j : EReal)
  g : ∀ j, H.g (ix2 (0 : Fin 1) j) = (L.g1 j : EReal)
  wB : ∀ k j, H.wB (ix3 (0 : Fin 1) k j) = ((L.win k ⟨j.val, by omega⟩ : ℝ) : EReal)
  wC : ∀ k j, H.wC (ix3 (0 : Fin 1) k j) = ((L.win k ⟨1024 + j.val, by omega⟩ : ℝ) : EReal)
  wX : ∀ k j, H.wX (ix3 (0 : Fin 1) k j) = ((L.win k ⟨2048 + j.val, by omega⟩ : ℝ) : EReal)
  wZ : ∀ k j, H.wZ (ix3 (0 : Fin 1) k j) = ((L.win k ⟨3072 + j.val, by omega⟩ : ℝ) : EReal)
  cw : ∀ i j, H.cw (ix2 i j) = (L.cw i j : EReal)
  wo : ∀ k j, H.wo (ix2 k j) = (L.wo k j : EReal)

section Values

variable {L : Layer} {n : Fin 64} {H : Half Ideal} (E : HalfAt L n H) (r : Fin 256) (j : Fin 1024)
include E

theorem h_at : H.h (ix2 r j) = ((L.xh (row n r) j * L.g1 j : ℝ) : EReal) := by
  rw [Half.h, pay4_at]
  simp only [E.x, E.g]
  rw [root_at, ← EReal.coe_mul, ← EReal.coe_mul]
  rfl

/-- One part of the projection, by its weights. -/
theorem part_at (w : Vec Ideal S1x1024x1024 .bf16) (l : Fin 4096) (hw : ∀ k, w (ix3 (0 : Fin 1) k j) = (L.win k l : EReal)) :
    k0_pay5 H.x H.g w (ix2 r j) = (L.proj (row n r) l : EReal) := by
  rw [pay5_at]
  have e := h_at E r
  simp only [Half.h] at e
  simp only [e, hw, ← EReal.coe_mul, ← coe_sum]
  rfl

theorem pB_at : H.pB (ix2 r j) = (L.pB (row n r) j : EReal) := part_at E r j H.wB _ fun k => E.wB k j
theorem pC_at : H.pC (ix2 r j) = (L.pC (row n r) j : EReal) := part_at E r j H.wC _ fun k => E.wC k j
theorem pX_at : H.pX (ix2 r j) = (L.pX (row n r) j : EReal) := part_at E r j H.wX _ fun k => E.wX k j
theorem pZ_at : H.pZ (ix2 r j) = (L.pZ (row n r) j : EReal) := part_at E r j H.wZ _ fun k => E.wZ k j

theorem u_at : H.u (ix2 r j) = (L.u (row n r) j : EReal) := by
  rw [Half.u, pay10_at, pC_at E, pX_at E, ← EReal.coe_mul]; rfl

theorem u1_at : H.u1 (ix2 r j) = (L.past (row n r) j 1 : EReal) := by
  rw [Half.u1, pay11_at, L.past_eq]
  refine Eq.trans ?_ (congrArg Real.toEReal (rows_back L n r j 1 (by norm_num)))
  by_cases h : 1 ≤ r.val
  · rw [dif_pos h, dif_pos h]; exact u_at E _ j
  · rw [dif_neg h, dif_neg h]; exact E.prev _ j

theorem u2_at : H.u2 (ix2 r j) = (L.past (row n r) j 0 : EReal) := by
  rw [Half.u2, pay12_at, L.past_eq]
  refine Eq.trans ?_ (congrArg Real.toEReal (rows_back L n r j 2 (by norm_num)))
  by_cases h : 2 ≤ r.val
  · rw [dif_pos h, dif_pos h]; exact u_at E _ j
  · rw [dif_neg h, dif_neg h]; exact E.prev _ j

theorem yc_at : H.yc (ix2 r j) = (L.yc (row n r) j : EReal) := by
  rw [Half.yc, pay15_at, u_at E, u1_at E, u2_at E, E.cw, E.cw, E.cw]
  have e : L.past (row n r) j 2 = L.u (row n r) j := by rw [L.past_eq]; exact dif_pos (Nat.zero_le _)
  simp only [← EReal.coe_mul, ← EReal.coe_add, EReal.coe_eq_coe_iff, Layer.yc, e]
  ring

theorem y_at : H.y (ix2 r j) = ((L.pB (row n r) j * L.yc (row n r) j * L.sz (row n r) j : ℝ) : EReal) := by
  rw [Half.y, pay1_at, pB_at E, yc_at E, pZ_at E, word_half, sigmoid_tanh]
  simp only [← EReal.coe_mul]
  rfl

theorem x1_at : H.x1 (ix2 r j) = (L.x1 (row n r) j : EReal) := by
  rw [Half.x1, pay2_at, E.x]
  have e := y_at E r
  simp only [Half.y] at e
  simp only [e, E.wo, ← EReal.coe_mul, ← coe_sum, ← EReal.coe_add]
  rfl

end Values

/-! ## A block's two halves -/

/-- The inputs of point `t` hold the layer's rows. -/
structure BlockAt (L : Layer) (t : Fin 32) (X : Ins Ideal) : Prop where
  x : ∀ (r : Fin 512) j, X.x (ix2 r j) = ((L.x ⟨t.val * 512 + r.val, by omega⟩ j : ℝ) : EReal)
  g : ∀ j, X.g (ix2 (0 : Fin 1) j) = (L.g1 j : EReal)
  win : ∀ (p : Fin 4) k j, X.win (ix3 p k j) = ((L.win k ⟨p.val * 1024 + j.val, by omega⟩ : ℝ) : EReal)
  cw : ∀ i j, X.cw (ix2 i j) = (L.cw i j : EReal)
  wo : ∀ k j, X.wo (ix2 k j) = (L.wo k j : EReal)

/-- The numbers of the two halves of point `t`. -/
def lower (t : Fin 32) : Fin 64 := ⟨2 * t.val, by omega⟩
def upper (t : Fin 32) : Fin 64 := ⟨2 * t.val + 1, by omega⟩

section Halves

variable {L : Layer} {t : Fin 32} {X : Ins Ideal} (B : BlockAt L t X)
include B

theorem win_read (p : Fin 4) (inb) (k j : Fin 1024) (l : Fin 4096) (hl : l.val = p.val * 1024 + j.val) :
    View.ld X.win (Rect.unit ![p.val, 0, 0] ![1, 1024, 1024] inb) (ix3 (0 : Fin 1) k j) = (L.win k l : EReal) := by
  refine (Cert.Windows.window_at (z := ix3 p k j) inb _ fun a => ?_).trans ((B.win p k j).trans (congrArg (fun l => ((L.win k l : ℝ) : EReal)) (Fin.ext hl.symm)))
  fin_cases a
  · rfl
  · exact (Nat.zero_add _).symm
  · exact (Nat.zero_add _).symm

theorem x_read {o : ℕ} (inb) (r : Fin 256) (j : Fin 1024) (s : Fin 16384) (ho : o + r.val < 512) (hs : s.val = t.val * 512 + (o + r.val)) :
    View.ld X.x (Rect.unit ![o, 0] ![256, 1024] inb) (ix2 r j) = (L.x s j : EReal) := by
  refine (Cert.Windows.window_at (z := ix2 (⟨o + r.val, ho⟩ : Fin 512) j) inb _ fun a => ?_).trans ((B.x _ j).trans (congrArg (fun s => ((L.x s j : ℝ) : EReal)) (Fin.ext hs.symm)))
  fin_cases a
  · rfl
  · exact (Nat.zero_add _).symm

variable {prev : Vec Ideal S256x1024 .f32} (P : ∀ r j, prev (ix2 r j) = (back L (2 * t.val) r j : EReal))
include P

theorem first_at : HalfAt L (lower t) (first X prev) where
  x r j := x_read B _ r j _ (by omega) (by simp only [row, lower]; omega)
  prev := P
  g := B.g
  wB k j := win_read B 0 _ k j _ (by simp)
  wC k j := win_read B 1 _ k j _ (by simp)
  wX k j := win_read B 2 _ k j _ (by simp)
  wZ k j := win_read B 3 _ k j _ (by simp)
  cw := B.cw
  wo := B.wo

theorem second_at : HalfAt L (upper t) (second X prev) where
  x r j := x_read B _ r j _ (by omega) (by simp only [row, upper]; omega)
  prev r j := (u_at (first_at B P) r j).trans (congrArg Real.toEReal (by
    rw [back, dif_pos (by simp only [upper]; omega)]; rfl))
  g := B.g
  wB k j := win_read B 0 _ k j _ (by simp)
  wC k j := win_read B 1 _ k j _ (by simp)
  wX k j := win_read B 2 _ k j _ (by simp)
  wZ k j := win_read B 3 _ k j _ (by simp)
  cw := B.cw
  wo := B.wo

/-- What the point leaves to the next one. -/
theorem left_at (r : Fin 256) (j : Fin 1024) : (second X prev).u (ix2 r j) = (back L (2 * (t.val + 1)) r j : EReal) :=
  (u_at (second_at B P) r j).trans (congrArg Real.toEReal (by
    rw [back, dif_pos (by omega)]
    exact congrArg (L.u · j) (Fin.ext (by show (2 * t.val + 1) * 256 + r.val = (2 * (t.val + 1) - 1) * 256 + r.val; omega))))

end Halves

/-! ## The two halves in one block -/

section Blocks

variable (t : Fin 32)

/-- An entry of a piece, by its place in the arrays: row `o` and column `q` of the block are the piece's first ones. -/
theorem piece_at {w : ℕ} {E : Type} (f : Fin 16384 → Fin w → E) {a : S256x1024.Idx → E} {n : Fin 64} {o q : ℕ} {r : Fin 512} {l : Fin w} {x : S256x1024.Idx}
    (g : Fin 1024 → Fin w) (hg : ∀ j, (g j).val = q + j.val) (ha : ∀ r j, a (ix2 r j) = f (row n r) (g j)) (hn : n.val * 256 = t.val * 512 + o)
    (h0 : r.val = o + (x 0).val) (h1 : l.val = q + (x 1).val) : a x = f ⟨t.val * 512 + r.val, by omega⟩ l := by
  have e : x = ix2 (x 0) (x 1) := funext fun a => by fin_cases a <;> rfl
  refine (congrArg a e).trans ((ha _ _).trans ?_)
  refine (congrArg₂ f (Fin.ext ?_) (Fin.ext ((hg _).trans h1.symm)))
  show n.val * 256 + (x 0).val = t.val * 512 + r.val
  omega

theorem lower_row : (lower t).val * 256 = t.val * 512 + 0 := by simp only [lower]; omega
theorem upper_row : (upper t).val * 256 = t.val * 512 + 256 := by simp only [upper]; omega

theorem above_at {e : EltTy} (f : Fin 16384 → Fin 1024 → Elt Ideal e) {a b : Vec Ideal S256x1024 e} (ha : ∀ r j, a (ix2 r j) = f (row (lower t) r) j)
    (hb : ∀ r j, b (ix2 r j) = f (row (upper t) r) j) (r : Fin 512) (j : Fin 1024) : above a b (ix2 r j) = f ⟨t.val * 512 + r.val, by omega⟩ j := by
  unfold above
  canon_tiles x h
  · exact piece_at t f id (fun _ => (Nat.zero_add _).symm) hb (upper_row t) h0 (h1.trans (Nat.zero_add _).symm)
  · exact piece_at t f id (fun _ => (Nat.zero_add _).symm) ha (lower_row t) (h0.trans (Nat.zero_add _).symm) (h1.trans (Nat.zero_add _).symm)

theorem projs_at {L : Layer} {A B : Half Ideal} (hA : HalfAt L (lower t) A) (hB : HalfAt L (upper t) B)
    (r : Fin 512) (l : Fin 4096) : projs A B (ix2 r l) = ((L.proj ⟨t.val * 512 + r.val, by omega⟩ l : ℝ) : EReal) := by
  unfold projs firstParts secondParts
  canon_tiles x h
  · exact piece_at t (fun s l => ((L.proj s l : ℝ) : EReal)) _ (fun _ => rfl) (pZ_at hB) (upper_row t) h0 h1
  · exact piece_at t (fun s l => ((L.proj s l : ℝ) : EReal)) _ (fun _ => rfl) (pX_at hB) (upper_row t) h0 h1
  · exact piece_at t (fun s l => ((L.proj s l : ℝ) : EReal)) _ (fun _ => rfl) (pC_at hB) (upper_row t) h0 h1
  · exact piece_at t (fun s l => ((L.proj s l : ℝ) : EReal)) _ (fun _ => (Nat.zero_add _).symm) (pB_at hB) (upper_row t) h0 (h1.trans (Nat.zero_add _).symm)
  · exact piece_at t (fun s l => ((L.proj s l : ℝ) : EReal)) _ (fun _ => rfl) (pZ_at hA) (lower_row t) (h0.trans (Nat.zero_add _).symm) h1
  · exact piece_at t (fun s l => ((L.proj s l : ℝ) : EReal)) _ (fun _ => rfl) (pX_at hA) (lower_row t) (h0.trans (Nat.zero_add _).symm) h1
  · exact piece_at t (fun s l => ((L.proj s l : ℝ) : EReal)) _ (fun _ => rfl) (pC_at hA) (lower_row t) (h0.trans (Nat.zero_add _).symm) h1
  · exact piece_at t (fun s l => ((L.proj s l : ℝ) : EReal)) _ (fun _ => (Nat.zero_add _).symm) (pB_at hA) (lower_row t) (h0.trans (Nat.zero_add _).symm) (h1.trans (Nat.zero_add _).symm)

end Blocks

end Cert.ConvFwd

end
-- ==== Proof.ConvFwd.Arrays.lean ====
/-
  The forward kernel's five arrays, where the arguments are real numbers.
-/
module

public import proofs.«01_k».proof.Proof.ConvFwd.Half
public import proofs.«01_k».proof.Proof.ConvBwd.Entry
public import proofs.«01_k».proof.Proof.Reals

@[expose] public section

set_option maxRecDepth 16384

noncomputable section

namespace Cert.ConvFwd

open Idealize.ShloMosaic Idealize.ShloMosaic.TcCoe Idealize.SL.Sem
open Idealize.ShloMosaic.Pipeline (Dat)
open Cert.Kernel3Ideal Cert.Kernel3Ideal.Gen
open Cert.ConvBwd (Layer partsOf partsOf_at)
open Cert.Reals (ofReals)

/-- The arguments hold the layer's numbers. -/
structure Reads (L : Layer) (x : FVec Ideal ⟨2, ![16384, 1024]⟩ .f32) (g1 : FVec Ideal ⟨2, ![1, 1024]⟩ .f32) (win : FVec Ideal ⟨2, ![1024, 4096]⟩ .f32)
    (cw : FVec Ideal ⟨2, ![3, 1024]⟩ .f32) (wo : FVec Ideal ⟨2, ![1024, 1024]⟩ .f32) : Prop where
  x : ∀ s j, x (ix2 s j) = (L.x s j : EReal)
  g1 : ∀ j, g1 (ix2 (0 : Fin 1) j) = (L.g1 j : EReal)
  win : ∀ k l, win (ix2 k l) = (L.win k l : EReal)
  cw : ∀ i j, cw (ix2 i j) = (L.cw i j : EReal)
  wo : ∀ k j, wo (ix2 k j) = (L.wo k j : EReal)

/-! ## Where the blocks lie -/

/-- A grid point's number. -/
def pt (t : Fin cfg0.N) : Fin 32 := ⟨t.val, lt_of_lt_of_eq t.isLt N_0⟩

theorem index_rows : ∀ t : Fin grid0.N,
    cc0_transform_0 (grid0.coords t) = ![t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] ∧ cc0_transform_9 (grid0.coords t) = ![t.val, 0] := by decide +kernel

theorem index_whole : ∀ t : Fin grid0.N,
    cc0_transform_1 (grid0.coords t) = ![0, 0] ∧ cc0_transform_2 (grid0.coords t) = ![0, 0, 0]
    ∧ cc0_transform_3 (grid0.coords t) = ![0, 0] ∧ cc0_transform_4 (grid0.coords t) = ![0, 0] := by decide +kernel

section Places

variable (t : Fin cfg0.N)

theorem index_0 : (cfg0.win 0).index t = ![t.val, 0] := (index_rows t).1
theorem index_5 : (cfg0.win 5).index t = ![t.val, 0] := (index_rows t).2.1
theorem index_6 : (cfg0.win 6).index t = ![t.val, 0] := (index_rows t).2.2.1
theorem index_7 : (cfg0.win 7).index t = ![t.val, 0] := (index_rows t).2.2.2.1
theorem index_8 : (cfg0.win 8).index t = ![t.val, 0] := (index_rows t).2.2.2.2.1
theorem index_9 : (cfg0.win 9).index t = ![t.val, 0] := (index_rows t).2.2.2.2.2
theorem index_1 : (cfg0.win 1).index t = ![0, 0] := (index_whole t).1
theorem index_2 : (cfg0.win 2).index t = ![0, 0, 0] := (index_whole t).2.1
theorem index_3 : (cfg0.win 3).index t = ![0, 0] := (index_whole t).2.2.1
theorem index_4 : (cfg0.win 4).index t = ![0, 0] := (index_whole t).2.2.2

/-- A row of point `t`'s block in the arrays. -/
def brow (r : Fin 512) : Fin 16384 := ⟨(pt t).val * 512 + r.val, by omega⟩

theorem emb_0 (r : Fin 512) (l : Fin 1024) : ((cfg0.win 0).blk t).view.emb (ix2 r l) = ix2 (brow t r) l := by blk_ext [index_0 t, brow, pt]
theorem emb_1 (r : Fin 1) (l : Fin 1024) : ((cfg0.win 1).blk t).view.emb (ix2 r l) = ix2 r l := by blk_ext [index_1 t]
theorem emb_2 (p : Fin 4) (k l : Fin 1024) : ((cfg0.win 2).blk t).view.emb (ix3 p k l) = ix3 p k l := by blk_ext [index_2 t]
theorem emb_3 (r : Fin 3) (l : Fin 1024) : ((cfg0.win 3).blk t).view.emb (ix2 r l) = ix2 r l := by blk_ext [index_3 t]
theorem emb_4 (r l : Fin 1024) : ((cfg0.win 4).blk t).view.emb (ix2 r l) = ix2 r l := by blk_ext [index_4 t]
theorem emb_5 (r : Fin 512) (l : Fin 4096) : ((cfg0.win 5).blk t).view.emb (ix2 r l) = ix2 (brow t r) l := by blk_ext [index_5 t, brow, pt]
theorem emb_6 (r : Fin 512) (l : Fin 1024) : ((cfg0.win 6).blk t).view.emb (ix2 r l) = ix2 (brow t r) l := by blk_ext [index_6 t, brow, pt]
theorem emb_7 (r : Fin 512) (l : Fin 1024) : ((cfg0.win 7).blk t).view.emb (ix2 r l) = ix2 (brow t r) l := by blk_ext [index_7 t, brow, pt]
theorem emb_8 (r : Fin 512) (l : Fin 1024) : ((cfg0.win 8).blk t).view.emb (ix2 r l) = ix2 (brow t r) l := by blk_ext [index_8 t, brow, pt]
theorem emb_9 (r : Fin 512) (l : Fin 1024) : ((cfg0.win 9).blk t).view.emb (ix2 r l) = ix2 (brow t r) l := by blk_ext [index_9 t, brow, pt]

end Places

section
variable (m : (ℓ : Loc nD τ sig) → Buf (Elt Ideal) ℓ) (c : Dev nD)

/-- An argument at the launch. -/
abbrev argAt (b : Ref sig .tc) : Buf (Elt Ideal) ((c : Thread nD τ).loc b) := m (c, Proc.devRef .tc b)

theorem V_win : Gen.V m c main_v2 = partsOf (F := Ideal) (argAt m c main_arg2) := by
  unfold Gen.V partsOf
  after_reads_simp
  rfl

theorem V_wo : Gen.V m c main_v3 = (truncf .bf16 (argAt m c main_arg4 : FVec Ideal S1024x1024 .f32) bitsLt_bf16_f32 : FVec Ideal S1024x1024 .bf16) := by
  unfold Gen.V
  after_reads_simp

variable {L : Layer} (R : Reads L (argAt m c main_arg0) (argAt m c main_arg1) (argAt m c main_arg2) (argAt m c main_arg3) (argAt m c main_arg4))
include R

/-- The inputs of a point hold the layer's rows. -/
theorem block (t : Fin cfg0.N) : BlockAt L (pt t) (insAt m c t) where
  x r j := (congrArg (Gen.V m c main_arg0) (emb_0 t r j)).trans ((congrFun (V_main_arg0 m c) _).trans (R.x _ j))
  g j := (congrArg (Gen.V m c main_arg1) (emb_1 t 0 j)).trans ((congrFun (V_main_arg1 m c) _).trans (R.g1 j))
  win p k j := (congrArg (Gen.V m c main_v2) (emb_2 t p k j)).trans ((congrFun (V_win m c) _).trans ((partsOf_at _ p k j).trans (R.win k _)))
  cw i j := (congrArg (Gen.V m c main_arg3) (emb_3 t i j)).trans ((congrFun (V_main_arg3 m c) _).trans (R.cw i j))
  wo k j := (congrArg (Gen.V m c main_v3) (emb_4 t k j)).trans ((congrFun (V_wo m c) _).trans (R.wo k j))

/-! ## What a point leaves -/

/-- What a point finds of the rows before it, and what it leaves. -/
theorem point_at (n : ℕ) (t : Fin cfg0.N) (ht : t.val = n) : ∃ prev : Vec Ideal S256x1024 .f32, (∀ r j, prev (ix2 r j) = (back L (2 * t.val) r j : EReal)) ∧
    outsAt0 m c t.val t.isLt = leaves (insAt m c t) prev := by
  induction n generalizing t with
  | zero =>
    have h0 : t.val % 32 = 0 := by omega
    have o := outs_start (F := Ideal) m c t h0
    refine ⟨k0_pay3 (F := Ideal), fun r j => ?_, o⟩
    have e : back L (2 * t.val) r j = 0 := dif_neg fun h => absurd h.1 (by omega)
    rw [e, EReal.coe_zero]
    pointwise [k0_pay3]
  | succ n ih =>
    have h32 : t.val < 32 := lt_of_lt_of_eq t.isLt N_0
    have hs : t.val - 1 < cfg0.N := Nat.lt_of_le_of_lt (Nat.sub_le _ _) t.isLt
    obtain ⟨p, hp, e⟩ := ih ⟨t.val - 1, hs⟩ (by show t.val - 1 = n; omega)
    have h0 : ¬ t.val % 32 = 0 := by omega
    have o := outs_step (F := Ideal) m c t h0
    rw [e] at o
    refine ⟨_, fun r j => ?_, o⟩
    refine (left_at (block m c R ⟨t.val - 1, hs⟩) hp r j).trans (congrArg (fun k => ((back L (2 * k) r j : ℝ) : EReal)) ?_)
    show t.val - 1 + 1 = t.val
    omega

/-- The two halves of a point. -/
theorem halves_at (t : Fin cfg0.N) : ∃ A B : Half Ideal, HalfAt L (lower (pt t)) A ∧ HalfAt L (upper (pt t)) B ∧
    ∃ u, outsAt0 m c t.val t.isLt = (projs A B, above A.h B.h, above A.yc B.yc, above A.y B.y, above A.x1 B.x1, u) := by
  obtain ⟨p, hp, e⟩ := point_at m c R t.val t rfl
  exact ⟨_, _, first_at (block m c R t) hp, second_at (block m c R t) hp, _, e⟩

/-! ## The arrays -/

theorem arr_proj : (dats m 0 c).arrAt 5 cfg0.N = (ofReals L.proj : FVec Ideal S16384x4096 .f32) := by
  refine (dats m 0 c).arrAt_eq_of_covers 5 _ (by decide +kernel : (cfg0.win 5).Covers) fun t hf y => ?_
  obtain ⟨A, B, hA, hB, u, e⟩ := halves_at m c R t
  blk_simp
  rw [after0_5, e]
  idx_vars y
  refine Eq.trans ?_ (congrArg (ofReals _) (emb_5 t y0 y1)).symm
  exact projs_at (pt t) hA hB y0 y1

theorem arr_h : (dats m 0 c).arrAt 6 cfg0.N = (ofReals (fun s j => L.xh s j * L.g1 j) : FVec Ideal S16384x1024 .bf16) := by
  refine (dats m 0 c).arrAt_eq_of_covers 6 _ (by decide +kernel : (cfg0.win 6).Covers) fun t hf y => ?_
  obtain ⟨A, B, hA, hB, u, e⟩ := halves_at m c R t
  blk_simp
  rw [after0_6, e]
  idx_vars y
  refine Eq.trans ?_ (congrArg (ofReals _) (emb_6 t y0 y1)).symm
  exact above_at (e := .bf16) (pt t) (fun s j => ((L.xh s j * L.g1 j : ℝ) : EReal)) (h_at hA) (h_at hB) y0 y1

theorem arr_yc : (dats m 0 c).arrAt 7 cfg0.N = (ofReals L.yc : FVec Ideal S16384x1024 .f32) := by
  refine (dats m 0 c).arrAt_eq_of_covers 7 _ (by decide +kernel : (cfg0.win 7).Covers) fun t hf y => ?_
  obtain ⟨A, B, hA, hB, u, e⟩ := halves_at m c R t
  blk_simp
  rw [after0_7, e]
  idx_vars y
  refine Eq.trans ?_ (congrArg (ofReals _) (emb_7 t y0 y1)).symm
  exact above_at (e := .f32) (pt t) (fun s j => ((L.yc s j : ℝ) : EReal)) (yc_at hA) (yc_at hB) y0 y1

theorem arr_y : (dats m 0 c).arrAt 8 cfg0.N = (ofReals (fun s j => L.pB s j * L.yc s j * L.sz s j) : FVec Ideal S16384x1024 .bf16) := by
  refine (dats m 0 c).arrAt_eq_of_covers 8 _ (by decide +kernel : (cfg0.win 8).Covers) fun t hf y => ?_
  obtain ⟨A, B, hA, hB, u, e⟩ := halves_at m c R t
  blk_simp
  rw [after0_8, e]
  idx_vars y
  refine Eq.trans ?_ (congrArg (ofReals _) (emb_8 t y0 y1)).symm
  exact above_at (e := .bf16) (pt t) (fun s j => ((L.pB s j * L.yc s j * L.sz s j : ℝ) : EReal)) (y_at hA) (y_at hB) y0 y1

theorem arr_x1 : (dats m 0 c).arrAt 9 cfg0.N = (ofReals L.x1 : FVec Ideal S16384x1024 .f32) := by
  refine (dats m 0 c).arrAt_eq_of_covers 9 _ (by decide +kernel : (cfg0.win 9).Covers) fun t hf y => ?_
  obtain ⟨A, B, hA, hB, u, e⟩ := halves_at m c R t
  blk_simp
  rw [after0_9, e]
  idx_vars y
  refine Eq.trans ?_ (congrArg (ofReals _) (emb_9 t y0 y1)).symm
  exact above_at (e := .f32) (pt t) (fun s j => ((L.x1 s j : ℝ) : EReal)) (x1_at hA) (x1_at hB) y0 y1

end

end Cert.ConvFwd

end
-- ==== Proof.ConvFwd.Ref.lean ====
/-
  The forward reference's five results at an index, where every argument is a real number.
-/
module

public import proofs.«01_k».proof.Proof.Gen.Reference3Ideal.Run
public import proofs.«01_k».proof.Proof.ConvFwd.Arrays

@[expose] public section

set_option maxRecDepth 16384

noncomputable section

namespace Cert.ConvFwd.Ref

open Idealize.ShloMosaic Idealize.ShloMosaic.TcCoe Idealize.SL.Sem
open Cert.Reference3Ideal Cert.Reference3Ideal.Gen
open Cert.ConvBwd (Layer projOf projOf_at convOf convOf_at outOf outOf_at columns_at root_at sigmoid_quotient)

/-- The normalised rows. -/
def normOf (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf
      (Host.divf (broadcastInDim S16384x1 ![0] bcast_S16384_S16384x1_0 (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 g)

/-- The gated convolution under the gate's own sigmoid. -/
def gatedOf (y z : FVec Ideal S16384x1024 .f32) : FVec Ideal S16384x1024 .f32 :=
  mulf y (mulf z (Host.divf (broadcastInDim S16384x1024 ![] bcast_S_S16384x1024 (constant S_ .f32 0x3F800000#32))
      (addf (broadcastInDim S16384x1024 ![] bcast_S_S16384x1024 (constant S_ .f32 0x3F800000#32)) (Host.exp (Host.negf z)))))

section

variable {L : Layer} (s : Fin 16384) (j : Fin 1024)

theorem normOf_at {x : FVec Ideal S16384x1024 .f32} {g : FVec Ideal S1x1024 .f32} (hx : ∀ s j, x (ix2 s j) = (L.x s j : EReal))
    (hg : ∀ j, g (ix2 (0 : Fin 1) j) = (L.g1 j : EReal)) : normOf x g (ix2 s j) = ((L.xh s j * L.g1 j : ℝ) : EReal) := by
  pointwise [normOf]
  simp only [hx, hg]
  rw [root_at, ← EReal.coe_mul, ← EReal.coe_mul]
  rfl

theorem gatedOf_at {y z : FVec Ideal S16384x1024 .f32} (hy : ∀ s j, y (ix2 s j) = ((L.pB s j * L.yc s j : ℝ) : EReal))
    (hz : ∀ s j, z (ix2 s j) = (L.pZ s j : EReal)) : gatedOf y z (ix2 s j) = ((L.pB s j * L.yc s j * L.sz s j : ℝ) : EReal) := by
  pointwise [gatedOf]
  simp only [hy, hz]
  have h := sigmoid_quotient (L.pZ s j)
  simp only [h, ← EReal.coe_mul]
  rfl

/-- The first and the last part of a projection. -/
def front (p : FVec Ideal S16384x4096 .f32) : FVec Ideal S16384x1024 .f32 := extractStridedSlice S16384x1024 ![0, 0] p slices_S16384x4096_S16384x1024_0_0
def gate (p : FVec Ideal S16384x4096 .f32) : FVec Ideal S16384x1024 .f32 := extractStridedSlice S16384x1024 ![0, 3072] p slices_S16384x4096_S16384x1024_0_3072

variable {p : FVec Ideal S16384x4096 .f32} {w : FVec Ideal S3x1024 .f32} (hp : ∀ s l, p (ix2 s l) = (L.proj s l : EReal)) (hw : ∀ i j, w (ix2 i j) = (L.cw i j : EReal))
include hp

theorem gate_at : gate p (ix2 s j) = (L.pZ s j : EReal) := (columns_at p _ s j (⟨3072 + j.val, by omega⟩ : Fin 4096) rfl).trans (hp _ _)

include hw

theorem front_at : (mulf (front p) (convOf p w) : FVec Ideal S16384x1024 .f32) (ix2 s j) = ((L.pB s j * L.yc s j : ℝ) : EReal) :=
  (congrArg₂ (· * ·) ((columns_at p _ s j (⟨j.val, by omega⟩ : Fin 4096) (Nat.zero_add _).symm).trans (hp _ _)) (convOf_at s j hp hw)).trans (EReal.coe_mul _ _).symm

end

section

variable (m : (ℓ : Loc nD τ sig) → Buf (Elt Ideal) ℓ) (c : Dev nD)

/-- An argument, and the projection of the arguments. -/
abbrev argOf (b : Ref sig .tc) : Buf (Elt Ideal) ((c.tc : Thread nD τ).loc b) := m ((c.tc : Thread nD τ).loc b)
abbrev projAt : FVec Ideal S16384x4096 .f32 := projOf (argOf m c main_arg0) (argOf m c main_arg1) (argOf m c main_arg2)
abbrev convAt : FVec Ideal S16384x1024 .f32 := convOf (projAt m c) (argOf m c main_arg3)

theorem yc_eq : Value.res_out2 m c = convAt m c := rfl
theorem y_eq : Value.res_out3 m c = truncf .bf16 (gatedOf (mulf (front (projAt m c)) (convAt m c)) (gate (projAt m c))) bitsLt_bf16_f32 := rfl
theorem x1_eq : Value.res_out4 m c = outOf (argOf m c main_arg0) (mulf (front (projAt m c)) (convAt m c)) (gate (projAt m c)) (argOf m c main_arg4) := rfl

variable {L : Layer} (R : Reads L (argOf m c main_arg0) (argOf m c main_arg1) (argOf m c main_arg2) (argOf m c main_arg3) (argOf m c main_arg4))
include R

theorem proj_at (s : Fin 16384) (l : Fin 4096) : projAt m c (ix2 s l) = (L.proj s l : EReal) := projOf_at s R.x R.g1 R.win l

theorem yc_at (s : Fin 16384) (j : Fin 1024) : convAt m c (ix2 s j) = (L.yc s j : EReal) := convOf_at s j (proj_at m c R) R.cw

theorem y_at (s : Fin 16384) (j : Fin 1024) : gatedOf (mulf (front (projAt m c)) (convAt m c)) (gate (projAt m c)) (ix2 s j) =
    ((L.pB s j * L.yc s j * L.sz s j : ℝ) : EReal) :=
  gatedOf_at s j (fun s j => front_at s j (proj_at m c R) R.cw) fun s j => gate_at s j (proj_at m c R)

theorem x1_at (s : Fin 16384) (j : Fin 1024) : outOf (argOf m c main_arg0) (mulf (front (projAt m c)) (convAt m c)) (gate (projAt m c)) (argOf m c main_arg4) (ix2 s j) =
    (L.x1 s j : EReal) :=
  outOf_at s j R.x (fun s j => front_at s j (proj_at m c R) R.cw) (fun s j => gate_at s j (proj_at m c R)) R.wo

end

end Cert.ConvFwd.Ref

end
-- ==== Proof.ConvFwd.Result.lean ====
/-
  The forward kernel's five results are the reference's where every argument is a real number.
-/
module

public import proofs.«01_k».proof.Defs
public import proofs.«01_k».proof.Proof.Gen.Pre_finite3
public import proofs.«01_k».proof.Proof.Finite
public import proofs.«01_k».proof.Proof.ConvFwd.Ref
public import Idealize.ShloMosaic.Lib.ReduceAll

@[expose] public section

set_option maxRecDepth 16384

noncomputable section

namespace Cert.ConvFwd

open Idealize.ShloMosaic Idealize.ShloMosaic.TcCoe Idealize.SL.Sem
open Cert.Kernel3Ideal Cert.Kernel3Ideal.Gen
open Cert.ConvBwd (Layer)
open Cert.Reals (ofReals eq_ofReals)

/-! ## What the precondition says -/

/-- The layer of the arguments' numbers; what the forward call does not read is zero. -/
def layerOf (x : FVec Ideal S16384x1024 .f32) (g1 : FVec Ideal S1x1024 .f32) (win : FVec Ideal S1024x4096 .f32) (cw : FVec Ideal S3x1024 .f32)
    (wo : FVec Ideal S1024x1024 .f32) : Layer where
  x s j := EReal.toReal (x (ix2 s j))
  g1 j := EReal.toReal (g1 (ix2 (0 : Fin 1) j))
  win k l := EReal.toReal (win (ix2 k l))
  cw i j := EReal.toReal (cw (ix2 i j))
  wo k j := EReal.toReal (wo (ix2 k j))
  g2 _ := 0
  wa _ _ := 0
  cp _ _ := 0
  cx _ _ := 0

instance : Subsingleton (Cert.Pre_finite3.S_.Idx) := ⟨fun a b => funext fun i => i.elim0⟩

theorem reads_of_pre (x : FVec Ideal S16384x1024 .f32) (g1 : FVec Ideal S1x1024 .f32) (win : FVec Ideal S1024x4096 .f32) (cw : FVec Ideal S3x1024 .f32)
    (wo : FVec Ideal S1024x1024 .f32) (h : Cert.Pre_finite3.fn (F := Ideal) x g1 win cw wo = fun _ => 1#1) : Reads (layerOf x g1 win cw wo) x g1 win cw wo := by
  have e := congrFun h (Shape.Idx.first (by decide))
  unfold Cert.Pre_finite3.fn Cert.Pre_finite3.fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact {
    x := fun s j => Finite.toReal_of_abs_lt _ (Host.reduce_andi_all _ _ _ _ _ h0 (ix2 s j))
    g1 := fun j => Finite.toReal_of_abs_lt _ (Host.reduce_andi_all _ _ _ _ _ h1 (ix2 (0 : Fin 1) j))
    win := fun k l => Finite.toReal_of_abs_lt _ (Host.reduce_andi_all _ _ _ _ _ h2 (ix2 k l))
    cw := fun i j => Finite.toReal_of_abs_lt _ (Host.reduce_andi_all _ _ _ _ _ h3 (ix2 i j))
    wo := fun k j => Finite.toReal_of_abs_lt _ (Host.reduce_andi_all _ _ _ _ _ h4 (ix2 k j)) }

/-! ## The claim -/

/-- The layer of a device's arguments. -/
def layerAt (m : (ℓ : Loc nD τ sig) → Buf (Elt Ideal) ℓ) (c : Dev nD) : Layer :=
  layerOf (argAt m c main_arg0) (argAt m c main_arg1) (argAt m c main_arg2) (argAt m c main_arg3) (argAt m c main_arg4)

set_option maxHeartbeats 1000000 in
/-- The kernel's run leaves the layer's values in its five arrays. -/
theorem run_results (m : (ℓ : Loc nD τ sig) → Buf (Elt Ideal) ℓ) (ρ : Dev nD → PrngReg) {L : Dev nD → Layer}
    (R : ∀ c, Reads (L c) (argAt m c main_arg0) (argAt m c main_arg1) (argAt m c main_arg2) (argAt m c main_arg3) (argAt m c main_arg4)) :
    θ_run defs (onTc (τ := τ) (main (F := Ideal))) ⟨m, fun _ => 0, ρ⟩ (fun r => ∀ c : Dev nD,
      r.2.mem ((c.tc : Thread nD τ).loc main_v4_0) = ofReals (L c).proj
      ∧ r.2.mem ((c.tc : Thread nD τ).loc main_v4_1) = ofReals (fun s j => (L c).xh s j * (L c).g1 j)
      ∧ r.2.mem ((c.tc : Thread nD τ).loc main_v4_2) = ofReals (L c).yc
      ∧ r.2.mem ((c.tc : Thread nD τ).loc main_v4_3) = ofReals (fun s j => (L c).pB s j * (L c).yc s j * (L c).sz s j)
      ∧ r.2.mem ((c.tc : Thread nD τ).loc main_v4_4) = ofReals (L c).x1) :=
  (θ_run defs _ _).mono (fun r h c => ⟨((h c).1 5).trans (arr_proj m c (R c)), ((h c).1 6).trans (arr_h m c (R c)),
    ((h c).1 7).trans (arr_yc m c (R c)), ((h c).1 8).trans (arr_y m c (R c)), ((h c).1 9).trans (arr_x1 m c (R c))⟩) (run_main m ρ)

set_option maxHeartbeats 1000000 in
theorem algebraic : Cert.algebraic_Kernel3Ideal_Reference3Ideal_pre_finite3 := by
  intro m g m' g' hpre hm
  have R (c : Dev nD) : Reads (layerAt m c) (argAt m c main_arg0) (argAt m c main_arg1) (argAt m c main_arg2) (argAt m c main_arg3) (argAt m c main_arg4) :=
    reads_of_pre _ _ _ _ _ (hpre c)
  refine ⟨fun c => ofReals (layerAt m c).proj, fun c => ofReals fun s j => (layerAt m c).xh s j * (layerAt m c).g1 j, fun c => ofReals (layerAt m c).yc,
    fun c => ofReals fun s j => (layerAt m c).pB s j * (layerAt m c).yc s j * (layerAt m c).sz s j, fun c => ofReals (layerAt m c).x1, ?_, ?_⟩
  · refine (θ_run defs _ _).mono (fun r h c => ?_) (θ_run_and (run_results m g R) (frame m g))
    obtain ⟨r0, r1, r2, r3, r4⟩ := h.1 c
    exact ⟨r0, r1, r2, r3, r4, h.2.1 c⟩
  · refine (θ_run Cert.Reference3Ideal.defs _ _).mono (fun r h c => ?_) (Cert.Reference3Ideal.Value.run m' g')
    obtain ⟨k0, k1, k2, k3, k4⟩ := hm c
    have Q : Reads (layerAt m c) (Ref.argOf m' c Cert.Reference3Ideal.main_arg0) (Ref.argOf m' c Cert.Reference3Ideal.main_arg1)
        (Ref.argOf m' c Cert.Reference3Ideal.main_arg2) (Ref.argOf m' c Cert.Reference3Ideal.main_arg3) (Ref.argOf m' c Cert.Reference3Ideal.main_arg4) := by
      simp only [Ref.argOf]
      rw [k0, k1, k2, k3, k4]; exact R c
    obtain ⟨r0, r1, r2, r3, r4, keep⟩ := h c
    exact ⟨r0.trans (eq_ofReals (Ref.proj_at m' c Q)), r1.trans (eq_ofReals fun s j => Ref.normOf_at s j Q.x Q.g1),
      (r2.trans (Ref.yc_eq m' c)).trans (eq_ofReals (Ref.yc_at m' c Q)), (r3.trans (Ref.y_eq m' c)).trans (eq_ofReals (Ref.y_at m' c Q)),
      (r4.trans (Ref.x1_eq m' c)).trans (eq_ofReals (Ref.x1_at m' c Q)), keep⟩

end Cert.ConvFwd

end
-- ==== Proof.lean ====
/-
  The proof of `Cert.Claim`: the frames, the rewritten constant and the values of the backward passes of the gated
  convolution and of the forgetting attention, and of the convolution's forward pass.
-/
module

public import proofs.«01_k».proof.Defs
public import proofs.«01_k».proof.Proof.Gen.Kernel
public import proofs.«01_k».proof.Proof.Gen.Kernel2
public import proofs.«01_k».proof.Proof.AttnBwd.Result
public import proofs.«01_k».proof.Proof.ConvBwd.Result
public import proofs.«01_k».proof.Proof.Gen.Kernel3
public import proofs.«01_k».proof.Proof.ConvFwd.Result

@[expose] public section

noncomputable section

namespace Cert.Proof

open Idealize.ShloMosaic Idealize.ShloMosaic.TcCoe Idealize.SL.Sem

/-- On words a named constant is the word that the kernel writes. -/
local instance wordOf : Named Bits where
  named _ _ {φ} b := FloatOps.ofBits φ b

/-- The two texts of the convolution's kernel are the same: one run serves both. -/
theorem frame_kernel : Cert.quiescent_Kernel :=
  cast (by sl_kernel_rfl) (fun m ρ (_ : True) => Cert.ConvBwd.frame (F := Bits) m ρ)

theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩) (Cert.ReferenceIdeal.Value.run m ρ)

/-- The kernel's two texts differ in the constant of the mask alone, and on words not even there: one run serves both. -/
theorem frame_kernel2 : Cert.quiescent_Kernel2 :=
  cast (by sl_kernel_rfl) (fun m ρ (_ : True) => Cert.AttnBwd.frame (F := Bits) m ρ)

theorem frame_reference2 : Cert.quiescent_Reference2Ideal := fun m ρ _ =>
  (θ_run Cert.Reference2Ideal.defs _ _).mono (fun r h => ⟨fun c => ⟨h.1 c _ (by decide), h.1 c _ (by decide), h.1 c _ (by decide), h.1 c _ (by decide), h.1 c _ (by decide)⟩, h.2⟩)
    (Cert.AttnBwd.frame_ref m ρ)

/-- The two texts of the forward kernel are the same: one run serves both. -/
theorem frame_kernel3 : Cert.quiescent_Kernel3 :=
  cast (by sl_kernel_rfl) (fun m ρ (_ : True) => Cert.Kernel3Ideal.Gen.frame (F := Bits) m ρ)

theorem frame_reference3 : Cert.quiescent_Reference3Ideal := fun m ρ _ =>
  (θ_run Cert.Reference3Ideal.defs _ _).mono
    (fun r h => ⟨fun c => (h c).2.2.2.2.2, sem_eq_zero_of_no_sems (by decide) r.2⟩) (Cert.Reference3Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, Cert.Pre_finite2.Gen.facts, Cert.Pre_finite3.Gen.facts,
    frame_kernel, fun m ρ _ => Cert.ConvBwd.frame m ρ, fun m ρ _ => Cert.ConvBwd.frame m ρ, frame_reference,
    fun m ρ _ => frame_reference m ρ trivial,
    frame_kernel2, fun m ρ _ => Cert.AttnBwd.frame m ρ, fun m ρ _ => Cert.AttnBwd.frame m ρ, frame_reference2,
    fun m ρ _ => frame_reference2 m ρ trivial,
    frame_kernel3, fun m ρ _ => Cert.Kernel3Ideal.Gen.frame m ρ, fun m ρ _ => Cert.Kernel3Ideal.Gen.frame m ρ, frame_reference3,
    fun m ρ _ => frame_reference3 m ρ trivial,
    trivial, Cert.ConvBwd.algebraic,
    IdealRules.named_const.statement Cert.Kernel2Ideal.κ "mask" .f32 0xF149F2CA#32 ⊥ rfl, Cert.AttnBwd.algebraic,
    trivial, Cert.ConvFwd.algebraic⟩

end Cert.Proof

end
